-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)) (v1 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_v2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)) (v1 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_v2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)) (v1 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_v3) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)) (v1 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_v3) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v3) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)) (v1 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_v2) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v3) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v13)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v13) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v29)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v29) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v15)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v15) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v13)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v13) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v28)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v28) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v12)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v12) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v9) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_v16) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v36) = v0 c
          ∧ r.2.mem ((c.tc : Thread Cert.Reference26Ideal.nD Cert.Reference26Ideal.τ).loc Cert.Reference26Ideal.main_v38) = v1 c
          ∧ r.2.mem ((c.tc : Thread Cert.Reference26Ideal.nD Cert.Reference26Ideal.τ).loc Cert.Reference26Ideal.main_v41) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v20) = v0 c
          ∧ r.2.mem ((c.tc : Thread Cert.Reference27Ideal.nD Cert.Reference27Ideal.τ).loc Cert.Reference27Ideal.main_v19) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v59) = v0 c
          ∧ r.2.mem ((c.tc : Thread Cert.Reference28Ideal.nD Cert.Reference28Ideal.τ).loc Cert.Reference28Ideal.main_v33) = v1 c
          ∧ r.2.mem ((c.tc : Thread Cert.Reference28Ideal.nD Cert.Reference28Ideal.τ).loc Cert.Reference28Ideal.main_v30) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v99) = v0 c
          ∧ r.2.mem ((c.tc : Thread Cert.Reference29Ideal.nD Cert.Reference29Ideal.τ).loc Cert.Reference29Ideal.main_v98) = v1 c
          ∧ r.2.mem ((c.tc : Thread Cert.Reference29Ideal.nD Cert.Reference29Ideal.τ).loc Cert.Reference29Ideal.main_v57) = v2 c
          ∧ r.2.mem ((c.tc : Thread Cert.Reference29Ideal.nD Cert.Reference29Ideal.τ).loc Cert.Reference29Ideal.main_v54) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v38) = v0 c
          ∧ r.2.mem ((c.tc : Thread Cert.Reference30Ideal.nD Cert.Reference30Ideal.τ).loc Cert.Reference30Ideal.main_v21) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v38) = v0 c
          ∧ r.2.mem ((c.tc : Thread Cert.Reference31Ideal.nD Cert.Reference31Ideal.τ).loc Cert.Reference31Ideal.main_v19) = v1 c
          ∧ r.2.mem ((c.tc : Thread Cert.Reference31Ideal.nD Cert.Reference31Ideal.τ).loc Cert.Reference31Ideal.main_v37) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v34) = v0 c
          ∧ r.2.mem ((c.tc : Thread Cert.Reference32Ideal.nD Cert.Reference32Ideal.τ).loc Cert.Reference32Ideal.main_v17) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite19 : Cert.Pre_finite19.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S16384x1024 .bf16) (main_v14 : IVec S_ 1) (main_v15 : FVec F S2816x1024 .f32) (main_v16 : FVec F S2816x1024 .f32) : IVec S_ 1 :=
  let main_v17 : IVec S2816x1024 1 := cmpf .olt main_v15 main_v16
  let main_c_5 : IVec S_ 1 := constantI S_ 1 1#1
  let main_v18 : IVec S_ 1 := (fun x v => Host.reduce IntOp.andi x v reducesTo_S2816x1024_S_d0_1 h_S_) main_v17 main_c_5
  let main_v19 : IVec S_ 1 := andi main_v14 main_v18
  let main_v20 : FVec F S16384x1024 .f32 := (extf .f32 · bitsLt_bf16_f32) main_arg4
  let main_v21 : FVec F S16384x1024 .f32 := Host.absf main_v20
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  let main_c_7 : IVec S_ 1 := constantI S_ 1 1#1
  let main_v24 : IVec S_ 1 := (fun x v => Host.reduce IntOp.andi x v reducesTo_S16384x1024_S_d0_1 h_S_) main_v23 main_c_7
  let main_v25 : IVec S_ 1 := andi main_v19 main_v24
  main_v25

def fn {F : FTy → Type} [FloatOps F] (main_arg0 : FVec F S16384x1024 .bf16) (main_arg1 : FVec F S1024x2816 .f32) (main_arg2 : FVec F S1024x2816 .f32) (main_arg3 : FVec F S2816x1024 .f32) (main_arg4 : FVec F S16384x1024 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x2816 .f32 := Host.absf main_arg1
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_c_1 : IVec S_ 1 := constantI S_ 1 1#1
  let main_v8 : IVec S_ 1 := (fun x v => Host.reduce IntOp.andi x v reducesTo_S1024x2816_S_d0_1 h_S_) main_v7 main_c_1
  let main_v9 : IVec S_ 1 := andi main_v4 main_v8
  let main_v10 : FVec F S1024x2816 .f32 := Host.absf main_arg2
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_c_3 : IVec S_ 1 := constantI S_ 1 1#1
  let main_v13 : IVec S_ 1 := (fun x v => Host.reduce IntOp.andi x v reducesTo_S1024x2816_S_d0_1 h_S_) main_v12 main_c_3
  let main_v14 : IVec S_ 1 := andi main_v9 main_v13
  let main_v15 : FVec F S2816x1024 .f32 := Host.absf main_arg3
  let main_cst_4 : FVec F S_ .f32 := constant S_ .f32 0x7F800000#32
  let main_v16 : FVec F S2816x1024 .f32 := broadcastInDim S2816x1024 ![] bcast_S_S2816x1024 main_cst_4
  fn_part1 (F := F) main_arg4 main_v14 main_v15 main_v16
-- ==== Pre_finite19.lean ====
abbrev S16384x4096 : Shape := ⟨2, ![16384, 4096]⟩
abbrev S64x16x64 : Shape := ⟨3, ![64, 16, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x16x64 : S_.BroadcastsInDim S64x16x64 (![] : Fin 0 → Fin S64x16x64.rank)
  reducesTo_S64x16x64_S_d0_1_2 : S64x16x64.ReducesTo [0, 1, 2] S_

variable [Facts]

def fn {F : FTy → Type} [FloatOps F] (main_arg0 : FVec F S16384x4096 .f32) (main_arg1 : FVec F S16384x4096 .f32) (main_arg2 : FVec F S64x16x64 .f32) (main_arg3 : FVec F S64x16x64 .f32) : IVec S_ 1 :=
  let main_v0 : FVec F S16384x4096 .f32 := Host.absf main_arg1
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x16x64 .f32 := Host.absf main_arg3
  let main_cst_0 : FVec F S_ .f32 := constant S_ .f32 0x7F800000#32
  let main_v5 : FVec F S64x16x64 .f32 := broadcastInDim S64x16x64 ![] bcast_S_S64x16x64 main_cst_0
  let main_v6 : IVec S64x16x64 1 := cmpf .olt main_v4 main_v5
  let main_c_1 : IVec S_ 1 := constantI S_ 1 1#1
  let main_v7 : IVec S_ 1 := (fun x v => Host.reduce IntOp.andi x v reducesTo_S64x16x64_S_d0_1_2 h_S_) main_v6 main_c_1
  let main_v8 : IVec S_ 1 := andi main_v3 main_v7
  main_v8
-- ==== Kernel.lean ====
abbrev S16384x2048 : Shape := ⟨2, ![16384, 2048]⟩
abbrev S8x128x128 : Shape := ⟨3, ![8, 128, 128]⟩
abbrev S8x128 : Shape := ⟨2, ![8, 128]⟩
abbrev S8x128x1 : Shape := ⟨3, ![8, 128, 1]⟩
abbrev S128x2048 : Shape := ⟨2, ![128, 2048]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .bf16⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S16384x2048, .f32⟩
  | .hbm, ⟨7, _⟩ => ⟨S16384x2048, .f32⟩
  | .hbm, ⟨8, _⟩ => ⟨S8x128x128, .f32⟩
  | .hbm, ⟨9, _⟩ => ⟨S8x128x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .bf16⟩
  | .local _ .vmem, ⟨5, _⟩ => ⟨S128x2048, .bf16⟩
  | .local _ .vmem, ⟨6, _⟩ => ⟨S8x128x128, .f32⟩
  | .local _ .vmem, ⟨7, _⟩ => ⟨S8x128x1, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S8x128x128, .f32⟩
  | .local _ .vmem, ⟨13, _⟩ => ⟨S8x128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x2048 : Shape := ⟨2, ![16384, 2048]⟩
abbrev S8x128x128 : Shape := ⟨3, ![8, 128, 128]⟩
abbrev S8x128 : Shape := ⟨2, ![8, 128]⟩
abbrev S128x128x8x256 : Shape := ⟨4, ![128, 128, 8, 256]⟩
abbrev S_ : Shape := ⟨0, ![]⟩
abbrev S128x128 : Shape := ⟨2, ![128, 128]⟩
abbrev S1x128x128 : Shape := ⟨3, ![1, 128, 128]⟩
abbrev S8x128x256x128 : Shape := ⟨4, ![8, 128, 256, 128]⟩
abbrev S128x8 : Shape := ⟨2, ![128, 8]⟩
abbrev S1x128x8x1 : Shape := ⟨4, ![1, 128, 8, 1]⟩
abbrev S8x128x1 : Shape := ⟨3, ![8, 128, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .bf16⟩
  | .hbm, ⟨3, _⟩ => ⟨S8x128x128, .f32⟩
  | .hbm, ⟨4, _⟩ => ⟨S8x128, .f32⟩
  | .hbm, ⟨5, _⟩ => ⟨S16384x2048, .f32⟩
  | .hbm, ⟨6, _⟩ => ⟨S128x128x8x256, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S8x128x128, .f32⟩
  | .hbm, ⟨20, _⟩ => ⟨S8x128x128, .f32⟩
  | .hbm, ⟨21, _⟩ => ⟨S8x128x256x128, .f32⟩
  | .hbm, ⟨22, _⟩ => ⟨S128x128x8x256, .f32⟩
  | .hbm, ⟨23, _⟩ => ⟨S128x8, .f32⟩
  | .hbm, ⟨24, _⟩ => ⟨S1x128x8x1, .f32⟩
  | .hbm, ⟨25, _⟩ => ⟨S128x128x8x256, .f32⟩
  | .hbm, ⟨26, _⟩ => ⟨S128x128x8x256, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S128x128x8x256, .f32⟩
  | .hbm, ⟨32, _⟩ => ⟨S_, .f32⟩
  | .hbm, ⟨33, _⟩ => ⟨S128x8, .f32⟩
  | .hbm, ⟨34, _⟩ => ⟨S1x128x8x1, .f32⟩
  | .hbm, ⟨35, _⟩ => ⟨S_, .f32⟩
  | .hbm, ⟨36, _⟩ => ⟨S128x8, .f32⟩
  | .hbm, ⟨37, _⟩ => ⟨S8x128, .f32⟩
  | .hbm, ⟨38, _⟩ => ⟨S8x128x256x128, .f32⟩
  | .hbm, ⟨39, _⟩ => ⟨S8x128x128, .f32⟩
  | .hbm, ⟨40, _⟩ => ⟨S8x128x256x128, .f32⟩
  | .hbm, ⟨41, _⟩ => ⟨S128x128x8x256, .f32⟩
  | .hbm, ⟨42, _⟩ => ⟨S8x128x128, .f32⟩
  | .hbm, ⟨43, _⟩ => ⟨S8x128x128, .f32⟩
  | .hbm, ⟨44, _⟩ => ⟨S16384x2048, .f32⟩
  | .hbm, ⟨45, _⟩ => ⟨S8x128x1, .f32⟩
  | .hbm, ⟨46, _⟩ => ⟨S8x128x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩
abbrev S512x2816 : Shape := ⟨2, ![512, 2816]⟩

abbrev nBuf : Space → Nat
  | .hbm => 17
  | .vmem => 37
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .bf16⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .hbm, ⟨13, _⟩ => ⟨S16384x1024, .f32⟩
  | .hbm, ⟨14, _⟩ => ⟨S16384x2816, .bf16⟩
  | .hbm, ⟨15, _⟩ => ⟨S16384x2816, .bf16⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x2816, .bf16⟩
  | .local _ .vmem, ⟨13, _⟩ => ⟨S512x2816, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1408x1024, .bf16⟩
  | .local _ .vmem, ⟨20, _⟩ => ⟨S1408x1024, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x2816, .bf16⟩
  | .local _ .vmem, ⟨30, _⟩ => ⟨S512x2816, .bf16⟩
  | .local _ .vmem, ⟨31, _⟩ => ⟨S512x2816, .bf16⟩
  | .local _ .vmem, ⟨32, _⟩ => ⟨S512x2816, .bf16⟩
  | .local _ .vmem, ⟨33, _⟩ => ⟨S2816x1024, .bf16⟩
  | .local _ .vmem, ⟨34, _⟩ => ⟨S2816x1024, .bf16⟩
  | .local _ .vmem, ⟨35, _⟩ => ⟨S512x1024, .f32⟩
  | .local _ .vmem, ⟨36, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem4_1 : DmaSem sig := 36

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![1, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![2, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![1, 32, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S512x2816 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S2816x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false, true]

abbrev stage3_3 : Fin 1 → Memref sig .tc .vmem S2816x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .bf16⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x1024, .f32⟩
  | .hbm, ⟨33, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x2816 : Shape := ⟨2, ![16384, 2816]⟩
abbrev S16384x1024 : Shape := ⟨2, ![16384, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference7Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩
abbrev S512x1024 : Shape := ⟨2, ![512, 1024]⟩
abbrev S1024x1024 : Shape := ⟨2, ![1024, 1024]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S16384x2048, .bf16⟩
  | .hbm, ⟨3, _⟩ => ⟨S2048x1024, .f32⟩
  | .hbm, ⟨4, _⟩ => ⟨S2048x1024, .bf16⟩
  | .hbm, ⟨5, _⟩ => ⟨S16384x2048, .f32⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference9Ideal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S16384x2048, .bf16⟩
  | .hbm, ⟨3, _⟩ => ⟨S16384x1024, .f32⟩
  | .hbm, ⟨4, _⟩ => ⟨S16384x2048, .f32⟩
  | .hbm, ⟨5, _⟩ => ⟨S16384x2048, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x2048 : Shape := ⟨2, ![16384, 2048]⟩
abbrev S16384x1024 : Shape := ⟨2, ![16384, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S1024x2048, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S16384x1024 : Shape := ⟨2, ![16384, 1024]⟩
abbrev S1024x4096 : Shape := ⟨2, ![1024, 4096]⟩
abbrev S16384x4096 : Shape := ⟨2, ![16384, 4096]⟩
abbrev S4096x1024 : Shape := ⟨2, ![4096, 1024]⟩
abbrev S512x1024 : Shape := ⟨2, ![512, 1024]⟩
abbrev S1024x1024 : Shape := ⟨2, ![1024, 1024]⟩
abbrev S512x4096 : Shape := ⟨2, ![512, 4096]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .f32⟩
  | .hbm, ⟨2, _⟩ => ⟨S16384x4096, .bf16⟩
  | .hbm, ⟨3, _⟩ => ⟨S4096x1024, .f32⟩
  | .hbm, ⟨4, _⟩ => ⟨S4096x1024, .bf16⟩
  | .hbm, ⟨5, _⟩ => ⟨S16384x4096, .f32⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | .local _ .vmem, ⟨7, _⟩ => ⟨S512x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference11Ideal.lean ====
abbrev S16384x1024 : Shape := ⟨2, ![16384, 1024]⟩
abbrev S1024x4096 : Shape := ⟨2, ![1024, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .f32⟩
  | .hbm, ⟨2, _⟩ => ⟨S16384x4096, .bf16⟩
  | .hbm, ⟨3, _⟩ => ⟨S16384x1024, .f32⟩
  | .hbm, ⟨4, _⟩ => ⟨S16384x4096, .f32⟩
  | .hbm, ⟨5, _⟩ => ⟨S16384x4096, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16384x4096 : Shape := ⟨2, ![16384, 4096]⟩
abbrev S16384x1024 : Shape := ⟨2, ![16384, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x4096 : Shape := ⟨2, ![16384, 4096]⟩
abbrev S16384x1024 : Shape := ⟨2, ![16384, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S16384x2048 : Shape := ⟨2, ![16384, 2048]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .bf16⟩
  | .hbm, ⟨3, _⟩ => ⟨S2048x1024, .bf16⟩
  | .hbm, ⟨4, _⟩ => ⟨S16384x1024, .f32⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference13Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .bf16⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S16384x1024 : Shape := ⟨2, ![16384, 1024]⟩
abbrev S1024x9216 : Shape := ⟨2, ![1024, 9216]⟩
abbrev S9216x1024 : Shape := ⟨2, ![9216, 1024]⟩
abbrev S16384x9216 : Shape := ⟨2, ![16384, 9216]⟩
abbrev S512x1024 : Shape := ⟨2, ![512, 1024]⟩
abbrev S1152x1024 : Shape := ⟨2, ![1152, 1024]⟩
abbrev S512x1152 : Shape := ⟨2, ![512, 1152]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x9216, .f32⟩
  | .hbm, ⟨2, _⟩ => ⟨S9216x1024, .f32⟩
  | .hbm, ⟨3, _⟩ => ⟨S9216x1024, .bf16⟩
  | .hbm, ⟨4, _⟩ => ⟨S16384x9216, .bf16⟩
  | .local _ .vmem, ⟨0, _⟩ => ⟨S512x1024, .bf16⟩
  | .local _ .vmem, ⟨1, _⟩ => ⟨S512x1024, .bf16⟩
  | .local _ .vmem, ⟨2, _⟩ => ⟨S1152x1024, .bf16⟩
  | .local _ .vmem, ⟨3, _⟩ => ⟨S1152x1024, .bf16⟩
  | .local _ .vmem, ⟨4, _⟩ => ⟨S512x1152, .bf16⟩
  | .local _ .vmem, ⟨5, _⟩ => ⟨S512x1152, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x1024 : Shape := ⟨2, ![16384, 1024]⟩
abbrev S1024x9216 : Shape := ⟨2, ![1024, 9216]⟩
abbrev S16384x9216 : Shape := ⟨2, ![16384, 9216]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x9216, .f32⟩
  | .hbm, ⟨2, _⟩ => ⟨S16384x1024, .f32⟩
  | .hbm, ⟨3, _⟩ => ⟨S16384x9216, .f32⟩
  | .hbm, ⟨4, _⟩ => ⟨S16384x9216, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S16384x3072 : Shape := ⟨2, ![16384, 3072]⟩
abbrev S1024x9216 : Shape := ⟨2, ![1024, 9216]⟩
abbrev S9216x1024 : Shape := ⟨2, ![9216, 1024]⟩
abbrev S3072x1024 : Shape := ⟨2, ![3072, 1024]⟩
abbrev S16384x1024 : Shape := ⟨2, ![16384, 1024]⟩
abbrev S512x1536 : Shape := ⟨2, ![512, 1536]⟩
abbrev S1536x1024 : Shape := ⟨2, ![1536, 1024]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .bf16⟩
  | .hbm, ⟨2, _⟩ => ⟨S16384x3072, .bf16⟩
  | .hbm, ⟨3, _⟩ => ⟨S1024x9216, .f32⟩
  | .hbm, ⟨4, _⟩ => ⟨S9216x1024, .f32⟩
  | .hbm, ⟨5, _⟩ => ⟨S9216x1024, .bf16⟩
  | .hbm, ⟨6, _⟩ => ⟨S3072x1024, .bf16⟩
  | .hbm, ⟨7, _⟩ => ⟨S3072x1024, .bf16⟩
  | .hbm, ⟨8, _⟩ => ⟨S3072x1024, .bf16⟩
  | .hbm, ⟨9, _⟩ => ⟨S16384x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S512x1536, .bf16⟩
  | .local _ .vmem, ⟨6, _⟩ => ⟨S1536x1024, .bf16⟩
  | .local _ .vmem, ⟨7, _⟩ => ⟨S1536x1024, .bf16⟩
  | .local _ .vmem, ⟨8, _⟩ => ⟨S1536x1024, .bf16⟩
  | .local _ .vmem, ⟨9, _⟩ => ⟨S1536x1024, .bf16⟩
  | .local _ .vmem, ⟨10, _⟩ => ⟨S1536x1024, .bf16⟩
  | .local _ .vmem, ⟨11, _⟩ => ⟨S1536x1024, .bf16⟩
  | .local _ .vmem, ⟨12, _⟩ => ⟨S512x1024, .f32⟩
  | .local _ .vmem, ⟨13, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 32, 2], ![false, false, false]⟩

def k0_cond1 (i : grid0.Coords) : BitVec 1 :=
  let arg2 : BitVec 32 := BitVec.ofNat 32 (i 2).val
  let c0_i32 : BitVec 32 := 0#32
  let v14 : BitVec 1 := Scalar.cmpi .eq arg2 c0_i32
  let v15 : BitVec 32 := Scalar.extui v14
  let c0_i32_13 : BitVec 32 := 0#32
  let v16 : BitVec 1 := Scalar.cmpi .ne v15 c0_i32_13
  v16

def k0_cond2 (i : grid0.Coords) : BitVec 1 :=
  let arg2 : BitVec 32 := BitVec.ofNat 32 (i 2).val
  let c0_i32_14 : BitVec 32 := 0#32
  let v17 : BitVec 1 := Scalar.cmpi .sgt arg2 c0_i32_14
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1536x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference16Ideal.lean ====
abbrev S16384x3072 : Shape := ⟨2, ![16384, 3072]⟩
abbrev S1024x9216 : Shape := ⟨2, ![1024, 9216]⟩
abbrev S_ : Shape := ⟨0, ![]⟩
abbrev S16384x1024 : Shape := ⟨2, ![16384, 1024]⟩
abbrev S16384x9216 : Shape := ⟨2, ![16384, 9216]⟩

abbrev nBuf : Space → Nat
  | .hbm => 10
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .bf16⟩
  | .hbm, ⟨2, _⟩ => ⟨S16384x3072, .bf16⟩
  | .hbm, ⟨3, _⟩ => ⟨S1024x9216, .f32⟩
  | .hbm, ⟨4, _⟩ => ⟨S_, .f32⟩
  | .hbm, ⟨5, _⟩ => ⟨S16384x1024, .f32⟩
  | .hbm, ⟨6, _⟩ => ⟨S16384x9216, .bf16⟩
  | .hbm, ⟨7, _⟩ => ⟨S16384x9216, .f32⟩
  | .hbm, ⟨8, _⟩ => ⟨S16384x9216, .f32⟩
  | .hbm, ⟨9, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel17.lean ====
abbrev S16384x3072 : Shape := ⟨2, ![16384, 3072]⟩
abbrev S16384x1024 : Shape := ⟨2, ![16384, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x3072 : Shape := ⟨2, ![16384, 3072]⟩
abbrev S16384x1024 : Shape := ⟨2, ![16384, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S16384x1024 : Shape := ⟨2, ![16384, 1024]⟩
abbrev S64x16x64 : Shape := ⟨3, ![64, 16, 64]⟩
abbrev S8x8x16x64 : Shape := ⟨4, ![8, 8, 16, 64]⟩
abbrev S8x8 : Shape := ⟨2, ![8, 8]⟩
abbrev S_ : Shape := ⟨0, ![]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S16384x4096 : Shape := ⟨2, ![16384, 4096]⟩
abbrev S256x1024 : Shape := ⟨2, ![256, 1024]⟩
abbrev S256x4096 : Shape := ⟨2, ![256, 4096]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩

abbrev nBuf : Space → Nat
  | .hbm => 17
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S64x16x64, .f32⟩
  | .hbm, ⟨2, _⟩ => ⟨S8x8x16x64, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x8x16x1x64, .f32⟩
  | .hbm, ⟨11, _⟩ => ⟨S1x8x1x8x1, .f32⟩
  | .hbm, ⟨12, _⟩ => ⟨S8x8x16x8x64, .f32⟩
  | .hbm, ⟨13, _⟩ => ⟨S8x8x16x8x64, .f32⟩
  | .hbm, ⟨14, _⟩ => ⟨S8x8x16x8x64, .f32⟩
  | .hbm, ⟨15, _⟩ => ⟨S8x128x512, .f32⟩
  | .hbm, ⟨16, _⟩ => ⟨S16384x4096, .f32⟩
  | .local _ .vmem, ⟨0, _⟩ => ⟨S256x1024, .f32⟩
  | .local _ .vmem, ⟨1, _⟩ => ⟨S256x1024, .f32⟩
  | .local _ .vmem, ⟨2, _⟩ => ⟨S8x128x512, .f32⟩
  | .local _ .vmem, ⟨3, _⟩ => ⟨S256x4096, .f32⟩
  | .local _ .vmem, ⟨4, _⟩ => ⟨S256x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S16384x1024 : Shape := ⟨2, ![16384, 1024]⟩
abbrev S64x16x64 : Shape := ⟨3, ![64, 16, 64]⟩
abbrev S16384x64x16 : Shape := ⟨3, ![16384, 64, 16]⟩
abbrev S64x64x16 : Shape := ⟨3, ![64, 64, 16]⟩
abbrev S64x64x16384 : Shape := ⟨3, ![64, 64, 16384]⟩
abbrev S16384x64x64 : Shape := ⟨3, ![16384, 64, 64]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S64x16x64, .f32⟩
  | .hbm, ⟨2, _⟩ => ⟨S16384x64x16, .f32⟩
  | .hbm, ⟨3, _⟩ => ⟨S64x64x16, .f32⟩
  | .hbm, ⟨4, _⟩ => ⟨S64x64x16384, .f32⟩
  | .hbm, ⟨5, _⟩ => ⟨S16384x64x64, .f32⟩
  | .hbm, ⟨6, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S16384x4096 : Shape := ⟨2, ![16384, 4096]⟩
abbrev S64x16x64 : Shape := ⟨3, ![64, 16, 64]⟩
abbrev S8x8x16x64 : Shape := ⟨4, ![8, 8, 16, 64]⟩
abbrev S8x8 : Shape := ⟨2, ![8, 8]⟩
abbrev S_ : Shape := ⟨0, ![]⟩
abbrev S8x8x64x16 : Shape := ⟨4, ![8, 8, 64, 16]⟩
abbrev S8x8x64x1x16 : Shape := ⟨5, ![8, 8, 64, 1, 16]⟩
abbrev S1x8x1x8x1 : Shape := ⟨5, ![1, 8, 1, 8, 1]⟩
abbrev S8x8x64x8x16 : Shape := ⟨5, ![8, 8, 64, 8, 16]⟩
abbrev S8x512x128 : Shape := ⟨3, ![8, 512, 128]⟩
abbrev S16384x1024 : Shape := ⟨2, ![16384, 1024]⟩
abbrev S256x4096 : Shape := ⟨2, ![256, 4096]⟩
abbrev S256x1024 : Shape := ⟨2, ![256, 1024]⟩
abbrev S256x512 : Shape := ⟨2, ![256, 512]⟩
abbrev S1x512x128 : Shape := ⟨3, ![1, 512, 128]⟩
abbrev S512x128 : Shape := ⟨2, ![512, 128]⟩
abbrev S256x128 : Shape := ⟨2, ![256, 128]⟩

abbrev nBuf : Space → Nat
  | .hbm => 36
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S64x16x64, .f32⟩
  | .hbm, ⟨3, _⟩ => ⟨S64x16x64, .f32⟩
  | .hbm, ⟨4, _⟩ => ⟨S8x8x16x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S8x8x64x16, .f32⟩
  | .hbm, ⟨13, _⟩ => ⟨S8x8x64x1x16, .f32⟩
  | .hbm, ⟨14, _⟩ => ⟨S1x8x1x8x1, .f32⟩
  | .hbm, ⟨15, _⟩ => ⟨S8x8x64x8x16, .f32⟩
  | .hbm, ⟨16, _⟩ => ⟨S8x8x64x8x16, .f32⟩
  | .hbm, ⟨17, _⟩ => ⟨S8x8x64x8x16, .f32⟩
  | .hbm, ⟨18, _⟩ => ⟨S8x512x128, .f32⟩
  | .hbm, ⟨19, _⟩ => ⟨S64x16x64, .f32⟩
  | .hbm, ⟨20, _⟩ => ⟨S8x8x16x64, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x8x64x16, .f32⟩
  | .hbm, ⟨29, _⟩ => ⟨S8x8x64x1x16, .f32⟩
  | .hbm, ⟨30, _⟩ => ⟨S1x8x1x8x1, .f32⟩
  | .hbm, ⟨31, _⟩ => ⟨S8x8x64x8x16, .f32⟩
  | .hbm, ⟨32, _⟩ => ⟨S8x8x64x8x16, .f32⟩
  | .hbm, ⟨33, _⟩ => ⟨S8x8x64x8x16, .f32⟩
  | .hbm, ⟨34, _⟩ => ⟨S8x512x128, .f32⟩
  | .hbm, ⟨35, _⟩ => ⟨S16384x1024, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x512x128, .f32⟩
  | .local _ .vmem, ⟨5, _⟩ => ⟨S8x512x128, .f32⟩
  | .local _ .vmem, ⟨6, _⟩ => ⟨S256x1024, .f32⟩
  | .local _ .vmem, ⟨7, _⟩ => ⟨S256x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S16384x4096 : Shape := ⟨2, ![16384, 4096]⟩
abbrev S64x16x64 : Shape := ⟨3, ![64, 16, 64]⟩
abbrev S16384x64x64 : Shape := ⟨3, ![16384, 64, 64]⟩
abbrev S64x16x16384 : Shape := ⟨3, ![64, 16, 16384]⟩
abbrev S16384x64x16 : Shape := ⟨3, ![16384, 64, 16]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S64x16x64, .f32⟩
  | .hbm, ⟨3, _⟩ => ⟨S64x16x64, .f32⟩
  | .hbm, ⟨4, _⟩ => ⟨S16384x64x64, .f32⟩
  | .hbm, ⟨5, _⟩ => ⟨S64x16x16384, .f32⟩
  | .hbm, ⟨6, _⟩ => ⟨S16384x64x16, .f32⟩
  | .hbm, ⟨7, _⟩ => ⟨S16384x1024, .f32⟩
  | .hbm, ⟨8, _⟩ => ⟨S16384x64x64, .f32⟩
  | .hbm, ⟨9, _⟩ => ⟨S64x16x16384, .f32⟩
  | .hbm, ⟨10, _⟩ => ⟨S16384x64x16, .f32⟩
  | .hbm, ⟨11, _⟩ => ⟨S16384x1024, .f32⟩
  | .hbm, ⟨12, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel20.lean ====
abbrev S16384x1024 : Shape := ⟨2, ![16384, 1024]⟩
abbrev S64x16x64 : Shape := ⟨3, ![64, 16, 64]⟩
abbrev S8x8x16x64 : Shape := ⟨4, ![8, 8, 16, 64]⟩
abbrev S8x8 : Shape := ⟨2, ![8, 8]⟩
abbrev S_ : Shape := ⟨0, ![]⟩
abbrev S8x8x64x16 : Shape := ⟨4, ![8, 8, 64, 16]⟩
abbrev S8x8x64x1x16 : Shape := ⟨5, ![8, 8, 64, 1, 16]⟩
abbrev S1x8x1x8x1 : Shape := ⟨5, ![1, 8, 1, 8, 1]⟩
abbrev S8x8x64x8x16 : Shape := ⟨5, ![8, 8, 64, 8, 16]⟩
abbrev S8x512x128 : Shape := ⟨3, ![8, 512, 128]⟩
abbrev S8x128x512 : Shape := ⟨3, ![8, 128, 512]⟩
abbrev S16384x4096 : Shape := ⟨2, ![16384, 4096]⟩
abbrev S256x1024 : Shape := ⟨2, ![256, 1024]⟩
abbrev S256x4096 : Shape := ⟨2, ![256, 4096]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩

abbrev nBuf : Space → Nat
  | .hbm => 19
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S64x16x64, .f32⟩
  | .hbm, ⟨2, _⟩ => ⟨S8x8x16x64, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x8x64x16, .f32⟩
  | .hbm, ⟨11, _⟩ => ⟨S8x8x64x1x16, .f32⟩
  | .hbm, ⟨12, _⟩ => ⟨S1x8x1x8x1, .f32⟩
  | .hbm, ⟨13, _⟩ => ⟨S8x8x64x8x16, .f32⟩
  | .hbm, ⟨14, _⟩ => ⟨S8x8x64x8x16, .f32⟩
  | .hbm, ⟨15, _⟩ => ⟨S8x8x64x8x16, .f32⟩
  | .hbm, ⟨16, _⟩ => ⟨S8x512x128, .f32⟩
  | .hbm, ⟨17, _⟩ => ⟨S8x128x512, .f32⟩
  | .hbm, ⟨18, _⟩ => ⟨S16384x4096, .f32⟩
  | .local _ .vmem, ⟨0, _⟩ => ⟨S256x1024, .f32⟩
  | .local _ .vmem, ⟨1, _⟩ => ⟨S256x1024, .f32⟩
  | .local _ .vmem, ⟨2, _⟩ => ⟨S8x128x512, .f32⟩
  | .local _ .vmem, ⟨3, _⟩ => ⟨S256x4096, .f32⟩
  | .local _ .vmem, ⟨4, _⟩ => ⟨S256x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S16384x1024 : Shape := ⟨2, ![16384, 1024]⟩
abbrev S64x16x64 : Shape := ⟨3, ![64, 16, 64]⟩
abbrev S_ : Shape := ⟨0, ![]⟩
abbrev S16384x4096 : Shape := ⟨2, ![16384, 4096]⟩
abbrev S16384x64x64 : Shape := ⟨3, ![16384, 64, 64]⟩
abbrev S64x16x16384 : Shape := ⟨3, ![64, 16, 16384]⟩
abbrev S16384x64x16 : Shape := ⟨3, ![16384, 64, 16]⟩
abbrev S64x16384x64 : Shape := ⟨3, ![64, 16384, 64]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S64x16x64, .f32⟩
  | .hbm, ⟨2, _⟩ => ⟨S_, .f32⟩
  | .hbm, ⟨3, _⟩ => ⟨S16384x4096, .f32⟩
  | .hbm, ⟨4, _⟩ => ⟨S16384x64x64, .f32⟩
  | .hbm, ⟨5, _⟩ => ⟨S64x16x16384, .f32⟩
  | .hbm, ⟨6, _⟩ => ⟨S16384x64x16, .f32⟩
  | .hbm, ⟨7, _⟩ => ⟨S16384x1024, .f32⟩
  | .hbm, ⟨8, _⟩ => ⟨S16384x64x16, .f32⟩
  | .hbm, ⟨9, _⟩ => ⟨S64x16x16384, .f32⟩
  | .hbm, ⟨10, _⟩ => ⟨S64x16384x64, .f32⟩
  | .hbm, ⟨11, _⟩ => ⟨S16384x64x64, .f32⟩
  | .hbm, ⟨12, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel21.lean ====
abbrev S16384x4096 : Shape := ⟨2, ![16384, 4096]⟩
abbrev S16384x1024 : Shape := ⟨2, ![16384, 1024]⟩
abbrev S8x512x128 : Shape := ⟨3, ![8, 512, 128]⟩
abbrev S512x4096 : Shape := ⟨2, ![512, 4096]⟩
abbrev S512x1024 : Shape := ⟨2, ![512, 1024]⟩
abbrev S512x512 : Shape := ⟨2, ![512, 512]⟩
abbrev S512x128 : Shape := ⟨2, ![512, 128]⟩
abbrev S1x512x128 : Shape := ⟨3, ![1, 512, 128]⟩
abbrev S8x8 : Shape := ⟨2, ![8, 8]⟩
abbrev S_ : Shape := ⟨0, ![]⟩
abbrev S8x8x64x8x16 : Shape := ⟨5, ![8, 8, 64, 8, 16]⟩
abbrev S1x8x1x8x1 : Shape := ⟨5, ![1, 8, 1, 8, 1]⟩
abbrev S8x8x64x16 : Shape := ⟨4, ![8, 8, 64, 16]⟩
abbrev S8x8x16x64 : Shape := ⟨4, ![8, 8, 16, 64]⟩
abbrev S64x16x64 : Shape := ⟨3, ![64, 16, 64]⟩

abbrev nBuf : Space → Nat
  | .hbm => 18
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S8x512x128, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x8x64x8x16, .f32⟩
  | .hbm, ⟨11, _⟩ => ⟨S1x8x1x8x1, .f32⟩
  | .hbm, ⟨12, _⟩ => ⟨S8x8x64x8x16, .f32⟩
  | .hbm, ⟨13, _⟩ => ⟨S8x8x64x8x16, .f32⟩
  | .hbm, ⟨14, _⟩ => ⟨S_, .f32⟩
  | .hbm, ⟨15, _⟩ => ⟨S8x8x64x16, .f32⟩
  | .hbm, ⟨16, _⟩ => ⟨S8x8x16x64, .f32⟩
  | .hbm, ⟨17, _⟩ => ⟨S64x16x64, .f32⟩
  | .local _ .vmem, ⟨0, _⟩ => ⟨S512x4096, .f32⟩
  | .local _ .vmem, ⟨1, _⟩ => ⟨S512x4096, .f32⟩
  | .local _ .vmem, ⟨2, _⟩ => ⟨S512x1024, .f32⟩
  | .local _ .vmem, ⟨3, _⟩ => ⟨S512x1024, .f32⟩
  | .local _ .vmem, ⟨4, _⟩ => ⟨S8x512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v6 : BitVec 32 := Scalar.extui v0
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_8 : BitVec 32 := 0#32
  let v17 : BitVec 1 := Scalar.cmpi .ne v16 c0_i32_8
  v17

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_9 : BitVec 1 := 1#1
  let v18 : BitVec 1 := Scalar.xori v0 true_9
  let v19 : BitVec 32 := Scalar.extui v18
  let c0_i32_10 : BitVec 32 := 0#32
  let v20 : BitVec 1 := Scalar.cmpi .ne v19 c0_i32_10
  v20

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v26 : BitVec 32 := Scalar.extui v0
  let c0_i32_14 : BitVec 32 := 0#32
  let v27 : BitVec 1 := Scalar.cmpi .ne v26 c0_i32_14
  v27

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_15 : BitVec 1 := 1#1
  let v28 : BitVec 1 := Scalar.xori v0 true_15
  let v29 : BitVec 32 := Scalar.extui v28
  let c0_i32_16 : BitVec 32 := 0#32
  let v30 : BitVec 1 := Scalar.cmpi .ne v29 c0_i32_16
  v30

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_20 : BitVec 32 := 0#32
  let v37 : BitVec 1 := Scalar.cmpi .ne v36 c0_i32_20
  v37

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v38 : BitVec 1 := Scalar.xori v0 true_21
  let v39 : BitVec 32 := Scalar.extui v38
  let c0_i32_22 : BitVec 32 := 0#32
  let v40 : BitVec 1 := Scalar.cmpi .ne v39 c0_i32_22
  v40

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_27 : BitVec 32 := 0#32
  let v47 : BitVec 1 := Scalar.cmpi .ne v46 c0_i32_27
  v47

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v48 : BitVec 1 := Scalar.xori v0 true_28
  let v49 : BitVec 32 := Scalar.extui v48
  let c0_i32_29 : BitVec 32 := 0#32
  let v50 : BitVec 1 := Scalar.cmpi .ne v49 c0_i32_29
  v50

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v56 : BitVec 32 := Scalar.extui v0
  let c0_i32_33 : BitVec 32 := 0#32
  let v57 : BitVec 1 := Scalar.cmpi .ne v56 c0_i32_33
  v57

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_34 : BitVec 1 := 1#1
  let v58 : BitVec 1 := Scalar.xori v0 true_34
  let v59 : BitVec 32 := Scalar.extui v58
  let c0_i32_35 : BitVec 32 := 0#32
  let v60 : BitVec 1 := Scalar.cmpi .ne v59 c0_i32_35
  v60

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v66 : BitVec 32 := Scalar.extui v0
  let c0_i32_39 : BitVec 32 := 0#32
  let v67 : BitVec 1 := Scalar.cmpi .ne v66 c0_i32_39
  v67

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_40 : BitVec 1 := 1#1
  let v68 : BitVec 1 := Scalar.xori v0 true_40
  let v69 : BitVec 32 := Scalar.extui v68
  let c0_i32_41 : BitVec 32 := 0#32
  let v70 : BitVec 1 := Scalar.cmpi .ne v69 c0_i32_41
  v70

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v76 : BitVec 32 := Scalar.extui v0
  let c0_i32_45 : BitVec 32 := 0#32
  let v77 : BitVec 1 := Scalar.cmpi .ne v76 c0_i32_45
  v77

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_46 : BitVec 1 := 1#1
  let v78 : BitVec 1 := Scalar.xori v0 true_46
  let v79 : BitVec 32 := Scalar.extui v78
  let c0_i32_47 : BitVec 32 := 0#32
  let v80 : BitVec 1 := Scalar.cmpi .ne v79 c0_i32_47
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference21Ideal.lean ====
abbrev S16384x4096 : Shape := ⟨2, ![16384, 4096]⟩
abbrev S16384x1024 : Shape := ⟨2, ![16384, 1024]⟩
abbrev S_ : Shape := ⟨0, ![]⟩
abbrev S64x16x64 : Shape := ⟨3, ![64, 16, 64]⟩
abbrev S16384x64x64 : Shape := ⟨3, ![16384, 64, 64]⟩
abbrev S64x16x16384 : Shape := ⟨3, ![64, 16, 16384]⟩
abbrev S16384x64x16 : Shape := ⟨3, ![16384, 64, 16]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S64x16x64, .f32⟩
  | .hbm, ⟨4, _⟩ => ⟨S16384x64x64, .f32⟩
  | .hbm, ⟨5, _⟩ => ⟨S64x16x16384, .f32⟩
  | .hbm, ⟨6, _⟩ => ⟨S16384x64x16, .f32⟩
  | .hbm, ⟨7, _⟩ => ⟨S16384x1024, .f32⟩
  | .hbm, ⟨8, _⟩ => ⟨S16384x64x16, .f32⟩
  | .hbm, ⟨9, _⟩ => ⟨S64x16x16384, .f32⟩
  | .hbm, ⟨10, _⟩ => ⟨S64x16x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S16384x4096 : Shape := ⟨2, ![16384, 4096]⟩
abbrev S64x16x64 : Shape := ⟨3, ![64, 16, 64]⟩
abbrev S16384x1024 : Shape := ⟨2, ![16384, 1024]⟩
abbrev S8x8x16x64 : Shape := ⟨4, ![8, 8, 16, 64]⟩
abbrev S8x8 : Shape := ⟨2, ![8, 8]⟩
abbrev S_ : Shape := ⟨0, ![]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x512x128 : Shape := ⟨3, ![8, 512, 128]⟩
abbrev S256x4096 : Shape := ⟨2, ![256, 4096]⟩
abbrev S256x1024 : Shape := ⟨2, ![256, 1024]⟩
abbrev S256x512 : Shape := ⟨2, ![256, 512]⟩
abbrev S1x512x128 : Shape := ⟨3, ![1, 512, 128]⟩
abbrev S512x128 : Shape := ⟨2, ![512, 128]⟩
abbrev S256x128 : Shape := ⟨2, ![256, 128]⟩

abbrev nBuf : Space → Nat
  | .hbm => 36
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S64x16x64, .f32⟩
  | .hbm, ⟨3, _⟩ => ⟨S64x16x64, .f32⟩
  | .hbm, ⟨4, _⟩ => ⟨S16384x1024, .f32⟩
  | .hbm, ⟨5, _⟩ => ⟨S8x8x16x64, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S8x8x16x1x64, .f32⟩
  | .hbm, ⟨14, _⟩ => ⟨S1x8x1x8x1, .f32⟩
  | .hbm, ⟨15, _⟩ => ⟨S8x8x16x8x64, .f32⟩
  | .hbm, ⟨16, _⟩ => ⟨S8x8x16x8x64, .f32⟩
  | .hbm, ⟨17, _⟩ => ⟨S8x8x16x8x64, .f32⟩
  | .hbm, ⟨18, _⟩ => ⟨S8x128x512, .f32⟩
  | .hbm, ⟨19, _⟩ => ⟨S8x512x128, .f32⟩
  | .hbm, ⟨20, _⟩ => ⟨S8x8x16x64, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x8x16x1x64, .f32⟩
  | .hbm, ⟨29, _⟩ => ⟨S1x8x1x8x1, .f32⟩
  | .hbm, ⟨30, _⟩ => ⟨S8x8x16x8x64, .f32⟩
  | .hbm, ⟨31, _⟩ => ⟨S8x8x16x8x64, .f32⟩
  | .hbm, ⟨32, _⟩ => ⟨S8x8x16x8x64, .f32⟩
  | .hbm, ⟨33, _⟩ => ⟨S8x128x512, .f32⟩
  | .hbm, ⟨34, _⟩ => ⟨S8x512x128, .f32⟩
  | .hbm, ⟨35, _⟩ => ⟨S16384x1024, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x512x128, .f32⟩
  | .local _ .vmem, ⟨5, _⟩ => ⟨S8x512x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S16384x4096 : Shape := ⟨2, ![16384, 4096]⟩
abbrev S64x16x64 : Shape := ⟨3, ![64, 16, 64]⟩
abbrev S16384x1024 : Shape := ⟨2, ![16384, 1024]⟩
abbrev S_ : Shape := ⟨0, ![]⟩
abbrev S16384x64x16 : Shape := ⟨3, ![16384, 64, 16]⟩
abbrev S64x64x16 : Shape := ⟨3, ![64, 64, 16]⟩
abbrev S64x64x16384 : Shape := ⟨3, ![64, 64, 16384]⟩
abbrev S16384x64x64 : Shape := ⟨3, ![16384, 64, 64]⟩
abbrev S64x16384x16 : Shape := ⟨3, ![64, 16384, 16]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S64x16x64, .f32⟩
  | .hbm, ⟨3, _⟩ => ⟨S64x16x64, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x64x16, .f32⟩
  | .hbm, ⟨8, _⟩ => ⟨S64x64x16, .f32⟩
  | .hbm, ⟨9, _⟩ => ⟨S64x64x16384, .f32⟩
  | .hbm, ⟨10, _⟩ => ⟨S16384x64x64, .f32⟩
  | .hbm, ⟨11, _⟩ => ⟨S16384x4096, .f32⟩
  | .hbm, ⟨12, _⟩ => ⟨S16384x64x16, .f32⟩
  | .hbm, ⟨13, _⟩ => ⟨S64x64x16, .f32⟩
  | .hbm, ⟨14, _⟩ => ⟨S64x64x16384, .f32⟩
  | .hbm, ⟨15, _⟩ => ⟨S16384x64x64, .f32⟩
  | .hbm, ⟨16, _⟩ => ⟨S16384x4096, .f32⟩
  | .hbm, ⟨17, _⟩ => ⟨S16384x64x64, .f32⟩
  | .hbm, ⟨18, _⟩ => ⟨S64x64x16384, .f32⟩
  | .hbm, ⟨19, _⟩ => ⟨S64x16384x16, .f32⟩
  | .hbm, ⟨20, _⟩ => ⟨S16384x64x16, .f32⟩
  | .hbm, ⟨21, _⟩ => ⟨S16384x1024, .f32⟩
  | .hbm, ⟨22, _⟩ => ⟨S16384x1024, .f32⟩
  | .hbm, ⟨23, _⟩ => ⟨S16384x64x64, .f32⟩
  | .hbm, ⟨24, _⟩ => ⟨S64x64x16384, .f32⟩
  | .hbm, ⟨25, _⟩ => ⟨S64x16384x16, .f32⟩
  | .hbm, ⟨26, _⟩ => ⟨S16384x64x16, .f32⟩
  | .hbm, ⟨27, _⟩ => ⟨S16384x1024, .f32⟩
  | .hbm, ⟨28, _⟩ => ⟨S16384x1024, .f32⟩
  | .hbm, ⟨29, _⟩ => ⟨S16384x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel23.lean ====
abbrev S16384x1024 : Shape := ⟨2, ![16384, 1024]⟩
abbrev S16384x4096 : Shape := ⟨2, ![16384, 4096]⟩
abbrev S8x128x512 : Shape := ⟨3, ![8, 128, 512]⟩
abbrev S512x1024 : Shape := ⟨2, ![512, 1024]⟩
abbrev S512x4096 : Shape := ⟨2, ![512, 4096]⟩
abbrev S512x128 : Shape := ⟨2, ![512, 128]⟩
abbrev S512x512 : Shape := ⟨2, ![512, 512]⟩
abbrev S128x512 : Shape := ⟨2, ![128, 512]⟩
abbrev S1x128x512 : Shape := ⟨3, ![1, 128, 512]⟩
abbrev S8x8 : Shape := ⟨2, ![8, 8]⟩
abbrev S_ : Shape := ⟨0, ![]⟩
abbrev S8x8x16x8x64 : Shape := ⟨5, ![8, 8, 16, 8, 64]⟩
abbrev S1x8x1x8x1 : Shape := ⟨5, ![1, 8, 1, 8, 1]⟩
abbrev S8x8x16x64 : Shape := ⟨4, ![8, 8, 16, 64]⟩
abbrev S64x16x64 : Shape := ⟨3, ![64, 16, 64]⟩

abbrev nBuf : Space → Nat
  | .hbm => 17
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S8x128x512, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x8x16x8x64, .f32⟩
  | .hbm, ⟨11, _⟩ => ⟨S1x8x1x8x1, .f32⟩
  | .hbm, ⟨12, _⟩ => ⟨S8x8x16x8x64, .f32⟩
  | .hbm, ⟨13, _⟩ => ⟨S8x8x16x8x64, .f32⟩
  | .hbm, ⟨14, _⟩ => ⟨S_, .f32⟩
  | .hbm, ⟨15, _⟩ => ⟨S8x8x16x64, .f32⟩
  | .hbm, ⟨16, _⟩ => ⟨S64x16x64, .f32⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S8x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v6 : BitVec 32 := Scalar.extui v0
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_8 : BitVec 32 := 0#32
  let v17 : BitVec 1 := Scalar.cmpi .ne v16 c0_i32_8
  v17

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_9 : BitVec 1 := 1#1
  let v18 : BitVec 1 := Scalar.xori v0 true_9
  let v19 : BitVec 32 := Scalar.extui v18
  let c0_i32_10 : BitVec 32 := 0#32
  let v20 : BitVec 1 := Scalar.cmpi .ne v19 c0_i32_10
  v20

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v26 : BitVec 32 := Scalar.extui v0
  let c0_i32_14 : BitVec 32 := 0#32
  let v27 : BitVec 1 := Scalar.cmpi .ne v26 c0_i32_14
  v27

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_15 : BitVec 1 := 1#1
  let v28 : BitVec 1 := Scalar.xori v0 true_15
  let v29 : BitVec 32 := Scalar.extui v28
  let c0_i32_16 : BitVec 32 := 0#32
  let v30 : BitVec 1 := Scalar.cmpi .ne v29 c0_i32_16
  v30

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_20 : BitVec 32 := 0#32
  let v37 : BitVec 1 := Scalar.cmpi .ne v36 c0_i32_20
  v37

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v38 : BitVec 1 := Scalar.xori v0 true_21
  let v39 : BitVec 32 := Scalar.extui v38
  let c0_i32_22 : BitVec 32 := 0#32
  let v40 : BitVec 1 := Scalar.cmpi .ne v39 c0_i32_22
  v40

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_27 : BitVec 32 := 0#32
  let v47 : BitVec 1 := Scalar.cmpi .ne v46 c0_i32_27
  v47

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v48 : BitVec 1 := Scalar.xori v0 true_28
  let v49 : BitVec 32 := Scalar.extui v48
  let c0_i32_29 : BitVec 32 := 0#32
  let v50 : BitVec 1 := Scalar.cmpi .ne v49 c0_i32_29
  v50

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v56 : BitVec 32 := Scalar.extui v0
  let c0_i32_33 : BitVec 32 := 0#32
  let v57 : BitVec 1 := Scalar.cmpi .ne v56 c0_i32_33
  v57

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_34 : BitVec 1 := 1#1
  let v58 : BitVec 1 := Scalar.xori v0 true_34
  let v59 : BitVec 32 := Scalar.extui v58
  let c0_i32_35 : BitVec 32 := 0#32
  let v60 : BitVec 1 := Scalar.cmpi .ne v59 c0_i32_35
  v60

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v66 : BitVec 32 := Scalar.extui v0
  let c0_i32_39 : BitVec 32 := 0#32
  let v67 : BitVec 1 := Scalar.cmpi .ne v66 c0_i32_39
  v67

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_40 : BitVec 1 := 1#1
  let v68 : BitVec 1 := Scalar.xori v0 true_40
  let v69 : BitVec 32 := Scalar.extui v68
  let c0_i32_41 : BitVec 32 := 0#32
  let v70 : BitVec 1 := Scalar.cmpi .ne v69 c0_i32_41
  v70

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v76 : BitVec 32 := Scalar.extui v0
  let c0_i32_45 : BitVec 32 := 0#32
  let v77 : BitVec 1 := Scalar.cmpi .ne v76 c0_i32_45
  v77

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_46 : BitVec 1 := 1#1
  let v78 : BitVec 1 := Scalar.xori v0 true_46
  let v79 : BitVec 32 := Scalar.extui v78
  let c0_i32_47 : BitVec 32 := 0#32
  let v80 : BitVec 1 := Scalar.cmpi .ne v79 c0_i32_47
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference23Ideal.lean ====
abbrev S16384x1024 : Shape := ⟨2, ![16384, 1024]⟩
abbrev S16384x4096 : Shape := ⟨2, ![16384, 4096]⟩
abbrev S_ : Shape := ⟨0, ![]⟩
abbrev S64x16x64 : Shape := ⟨3, ![64, 16, 64]⟩
abbrev S16384x64x16 : Shape := ⟨3, ![16384, 64, 16]⟩
abbrev S64x64x16 : Shape := ⟨3, ![64, 64, 16]⟩
abbrev S64x64x16384 : Shape := ⟨3, ![64, 64, 16384]⟩
abbrev S16384x64x64 : Shape := ⟨3, ![16384, 64, 64]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S64x16x64, .f32⟩
  | .hbm, ⟨4, _⟩ => ⟨S16384x64x16, .f32⟩
  | .hbm, ⟨5, _⟩ => ⟨S64x64x16, .f32⟩
  | .hbm, ⟨6, _⟩ => ⟨S64x64x16384, .f32⟩
  | .hbm, ⟨7, _⟩ => ⟨S16384x64x64, .f32⟩
  | .hbm, ⟨8, _⟩ => ⟨S16384x4096, .f32⟩
  | .hbm, ⟨9, _⟩ => ⟨S16384x64x64, .f32⟩
  | .hbm, ⟨10, _⟩ => ⟨S64x64x16384, .f32⟩
  | .hbm, ⟨11, _⟩ => ⟨S64x64x16, .f32⟩
  | .hbm, ⟨12, _⟩ => ⟨S64x16x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel24.lean ====
abbrev S16384x2048 : Shape := ⟨2, ![16384, 2048]⟩
abbrev S8x128x128 : Shape := ⟨3, ![8, 128, 128]⟩
abbrev S8x128 : Shape := ⟨2, ![8, 128]⟩
abbrev S8x128x1 : Shape := ⟨3, ![8, 128, 1]⟩
abbrev S128x2048 : Shape := ⟨2, ![128, 2048]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S8x128x128, .f32⟩
  | .hbm, ⟨3, _⟩ => ⟨S8x128, .f32⟩
  | .hbm, ⟨4, _⟩ => ⟨S8x128x1, .f32⟩
  | .hbm, ⟨5, _⟩ => ⟨S16384x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S8x128x128, .f32⟩
  | .local _ .vmem, ⟨5, _⟩ => ⟨S8x128x1, .f32⟩
  | .local _ .vmem, ⟨6, _⟩ => ⟨S128x2048, .bf16⟩
  | .local _ .vmem, ⟨7, _⟩ => ⟨S128x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S16384x2048 : Shape := ⟨2, ![16384, 2048]⟩
abbrev S8x128x128 : Shape := ⟨3, ![8, 128, 128]⟩
abbrev S8x128 : Shape := ⟨2, ![8, 128]⟩
abbrev S128x128x8x256 : Shape := ⟨4, ![128, 128, 8, 256]⟩
abbrev S_ : Shape := ⟨0, ![]⟩
abbrev S128x128 : Shape := ⟨2, ![128, 128]⟩
abbrev S1x128x128 : Shape := ⟨3, ![1, 128, 128]⟩
abbrev S8x128x256x128 : Shape := ⟨4, ![8, 128, 256, 128]⟩
abbrev S128x8 : Shape := ⟨2, ![128, 8]⟩
abbrev S1x128x8x1 : Shape := ⟨4, ![1, 128, 8, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S8x128x128, .f32⟩
  | .hbm, ⟨3, _⟩ => ⟨S8x128, .f32⟩
  | .hbm, ⟨4, _⟩ => ⟨S16384x2048, .f32⟩
  | .hbm, ⟨5, _⟩ => ⟨S128x128x8x256, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S8x128x128, .f32⟩
  | .hbm, ⟨19, _⟩ => ⟨S8x128x128, .f32⟩
  | .hbm, ⟨20, _⟩ => ⟨S8x128x256x128, .f32⟩
  | .hbm, ⟨21, _⟩ => ⟨S128x128x8x256, .f32⟩
  | .hbm, ⟨22, _⟩ => ⟨S128x8, .f32⟩
  | .hbm, ⟨23, _⟩ => ⟨S1x128x8x1, .f32⟩
  | .hbm, ⟨24, _⟩ => ⟨S128x128x8x256, .f32⟩
  | .hbm, ⟨25, _⟩ => ⟨S128x128x8x256, .f32⟩
  | .hbm, ⟨26, _⟩ => ⟨S16384x2048, .f32⟩
  | .hbm, ⟨27, _⟩ => ⟨S16384x2048, .f32⟩
  | .hbm, ⟨28, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Kernel25.lean ====
abbrev S16384x1024 : Shape := ⟨2, ![16384, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_12 : BitVec 32 := 0#32
  let v20 : BitVec 1 := Scalar.cmpi .ne v19 c0_i32_12
  v20

def k0_cond2 (i : grid0.Coords) : BitVec 1 :=
  let arg0 : BitVec 32 := BitVec.ofNat 32 (i 0).val
  let c0_i32 : BitVec 32 := 0#32
  let v18 : BitVec 1 := Scalar.cmpi .eq arg0 c0_i32
  let v_true : BitVec 1 := 1#1
  let v21 : BitVec 1 := Scalar.xori v18 v_true
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S16384x1024 : Shape := ⟨2, ![16384, 1024]⟩
abbrev S1x1024 : Shape := ⟨2, ![1, 1024]⟩
abbrev S_ : Shape := ⟨0, ![]⟩
abbrev S1024 : Shape := ⟨1, ![1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel26.lean ====
abbrev S16384x1024 : Shape := ⟨2, ![16384, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_23 : BitVec 32 := 0#32
  let v50 : BitVec 1 := Scalar.cmpi .ne v49 c0_i32_23
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference26Ideal.lean ====
abbrev S16384x1024 : Shape := ⟨2, ![16384, 1024]⟩
abbrev S1x1024 : Shape := ⟨2, ![1, 1024]⟩
abbrev S_ : Shape := ⟨0, ![]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel27.lean ====
abbrev S16384x2048 : Shape := ⟨2, ![16384, 2048]⟩
abbrev S1x2048 : Shape := ⟨2, ![1, 2048]⟩
abbrev S16384x1024 : Shape := ⟨2, ![16384, 1024]⟩
abbrev S256x2048 : Shape := ⟨2, ![256, 2048]⟩
abbrev S256x1024 : Shape := ⟨2, ![256, 1024]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x1024, .f32⟩
  | .hbm, ⟨3, _⟩ => ⟨S16384x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .f32⟩
  | .local _ .vmem, ⟨4, _⟩ => ⟨S256x1024, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_10 : BitVec 32 := 0#32
  let v25 : BitVec 1 := Scalar.cmpi .ne v24 c0_i32_10
  v25

def k0_cond2 (i : grid0.Coords) : BitVec 1 :=
  let arg0 : BitVec 32 := BitVec.ofNat 32 (i 0).val
  let c0_i32 : BitVec 32 := 0#32
  let v23 : BitVec 1 := Scalar.cmpi .eq arg0 c0_i32
  let v_true : BitVec 1 := 1#1
  let v26 : BitVec 1 := Scalar.xori v23 v_true
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference27Ideal.lean ====
abbrev S16384x2048 : Shape := ⟨2, ![16384, 2048]⟩
abbrev S1x2048 : Shape := ⟨2, ![1, 2048]⟩
abbrev S16384x1024 : Shape := ⟨2, ![16384, 1024]⟩
abbrev S_ : Shape := ⟨0, ![]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x1024, .f32⟩
  | .hbm, ⟨3, _⟩ => ⟨S16384x2048, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel28.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v76 : BitVec 32 := Scalar.extui v75
  let c0_i32_27 : BitVec 32 := 0#32
  let v77 : BitVec 1 := Scalar.cmpi .ne v76 c0_i32_27
  v77

def k0_cond2 (i : grid0.Coords) : BitVec 1 :=
  let arg0 : BitVec 32 := BitVec.ofNat 32 (i 0).val
  let c0_i32 : BitVec 32 := 0#32
  let v75 : BitVec 1 := Scalar.cmpi .eq arg0 c0_i32
  let v_true : BitVec 1 := 1#1
  let v78 : BitVec 1 := Scalar.xori v75 v_true
  let v79 : BitVec 32 := Scalar.extui v78
  let c0_i32_28 : BitVec 32 := 0#32
  let v80 : BitVec 1 := Scalar.cmpi .ne v79 c0_i32_28
  v80

def k0_cond3 (i : grid0.Coords) : BitVec 1 :=
  let arg0 : BitVec 32 := BitVec.ofNat 32 (i 0).val
  let c0_i32 : BitVec 32 := 0#32
  let v75 : BitVec 1 := Scalar.cmpi .eq arg0 c0_i32
  let v81 : BitVec 32 := Scalar.extui v75
  let c0_i32_29 : BitVec 32 := 0#32
  let v82 : BitVec 1 := Scalar.cmpi .ne v81 c0_i32_29
  v82

def k0_cond4 (i : grid0.Coords) : BitVec 1 :=
  let arg0 : BitVec 32 := BitVec.ofNat 32 (i 0).val
  let c0_i32 : BitVec 32 := 0#32
  let v75 : BitVec 1 := Scalar.cmpi .eq arg0 c0_i32
  let true_30 : BitVec 1 := 1#1
  let v83 : BitVec 1 := Scalar.xori v75 true_30
  let v84 : BitVec 32 := Scalar.extui v83
  let c0_i32_31 : BitVec 32 := 0#32
  let v85 : BitVec 1 := Scalar.cmpi .ne v84 c0_i32_31
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x1024, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384, .f32⟩
  | .hbm, ⟨93, _⟩ => ⟨S16384x1024, .f32⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel29.lean ====
abbrev S16384x4096 : Shape := ⟨2, ![16384, 4096]⟩
abbrev S1x4096 : Shape := ⟨2, ![1, 4096]⟩
abbrev S1x2048 : Shape := ⟨2, ![1, 2048]⟩
abbrev S16384x2048 : Shape := ⟨2, ![16384, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S4096 : Shape := ⟨1, ![4096]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x2048, .f32⟩
  | .hbm, ⟨3, _⟩ => ⟨S1x2048, .f32⟩
  | .hbm, ⟨4, _⟩ => ⟨S16384x2048, .f32⟩
  | .hbm, ⟨5, _⟩ => ⟨S16384x2048, .f32⟩
  | .hbm, ⟨6, _⟩ => ⟨S16384x4096, .bf16⟩
  | .hbm, ⟨7, _⟩ => ⟨S1x4096, .f32⟩
  | .hbm, ⟨8, _⟩ => ⟨S1x2048, .f32⟩
  | .hbm, ⟨9, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | .local _ .vmem, ⟨12, _⟩ => ⟨S1x2048, .f32⟩
  | .local _ .vmem, ⟨13, _⟩ => ⟨S1x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v109 : BitVec 1 := Scalar.cmpi .eq arg0 c0_i32
  let v110 : BitVec 32 := Scalar.extui v109
  let c0_i32_41 : BitVec 32 := 0#32
  let v111 : BitVec 1 := Scalar.cmpi .ne v110 c0_i32_41
  v111

def k0_cond2 (i : grid0.Coords) : BitVec 1 :=
  let arg0 : BitVec 32 := BitVec.ofNat 32 (i 0).val
  let c0_i32 : BitVec 32 := 0#32
  let v109 : BitVec 1 := Scalar.cmpi .eq arg0 c0_i32
  let v_true : BitVec 1 := 1#1
  let v112 : BitVec 1 := Scalar.xori v109 v_true
  let v113 : BitVec 32 := Scalar.extui v112
  let c0_i32_42 : BitVec 32 := 0#32
  let v114 : BitVec 1 := Scalar.cmpi .ne v113 c0_i32_42
  v114

def k0_cond3 (i : grid0.Coords) : BitVec 1 :=
  let arg0 : BitVec 32 := BitVec.ofNat 32 (i 0).val
  let c0_i32 : BitVec 32 := 0#32
  let v109 : BitVec 1 := Scalar.cmpi .eq arg0 c0_i32
  let v115 : BitVec 32 := Scalar.extui v109
  let c0_i32_43 : BitVec 32 := 0#32
  let v116 : BitVec 1 := Scalar.cmpi .ne v115 c0_i32_43
  v116

def k0_cond4 (i : grid0.Coords) : BitVec 1 :=
  let arg0 : BitVec 32 := BitVec.ofNat 32 (i 0).val
  let c0_i32 : BitVec 32 := 0#32
  let v109 : BitVec 1 := Scalar.cmpi .eq arg0 c0_i32
  let true_44 : BitVec 1 := 1#1
  let v117 : BitVec 1 := Scalar.xori v109 true_44
  let v118 : BitVec 32 := Scalar.extui v117
  let c0_i32_45 : BitVec 32 := 0#32
  let v119 : BitVec 1 := Scalar.cmpi .ne v118 c0_i32_45
  v119

def k0_cond5 (i : grid0.Coords) : BitVec 1 :=
  let arg0 : BitVec 32 := BitVec.ofNat 32 (i 0).val
  let c0_i32 : BitVec 32 := 0#32
  let v109 : BitVec 1 := Scalar.cmpi .eq arg0 c0_i32
  let v120 : BitVec 32 := Scalar.extui v109
  let c0_i32_46 : BitVec 32 := 0#32
  let v121 : BitVec 1 := Scalar.cmpi .ne v120 c0_i32_46
  v121

def k0_cond6 (i : grid0.Coords) : BitVec 1 :=
  let arg0 : BitVec 32 := BitVec.ofNat 32 (i 0).val
  let c0_i32 : BitVec 32 := 0#32
  let v109 : BitVec 1 := Scalar.cmpi .eq arg0 c0_i32
  let true_47 : BitVec 1 := 1#1
  let v122 : BitVec 1 := Scalar.xori v109 true_47
  let v123 : BitVec 32 := Scalar.extui v122
  let c0_i32_48 : BitVec 32 := 0#32
  let v124 : BitVec 1 := Scalar.cmpi .ne v123 c0_i32_48
  v124

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference29Ideal.lean ====
abbrev S16384x4096 : Shape := ⟨2, ![16384, 4096]⟩
abbrev S1x4096 : Shape := ⟨2, ![1, 4096]⟩
abbrev S1x2048 : Shape := ⟨2, ![1, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S4096 : Shape := ⟨1, ![4096]⟩

abbrev nBuf : Space → Nat
  | .hbm => 133
  | .vmem => 0
  | .smem => 0
  | _ => 0

abbrev hbmTy0_0 (i : Nat) : BufTy := match i % 128 with
  | 0 => ⟨S16384x4096, .f32⟩
  | 1 => ⟨S1x4096, .f32⟩
  | 2 => ⟨S1x2048, .f32⟩
  | 3 => ⟨S1x2048, .f32⟩
  | 4 => ⟨S16384x2048, .f32⟩
  | 5 => ⟨S16384x2048, .f32⟩
  | 6 => ⟨S16384x4096, .f32⟩
  | 7 => ⟨S16384x4096, .f32⟩
  | 8 => ⟨S16384x4096, .f32⟩
  | 9 => ⟨S16384x4096, .f32⟩
  | 10 => ⟨S16384x4096, .f32⟩
  | 11 => ⟨S_, .f32⟩
  | 12 => ⟨S16384x4096, .f32⟩
  | 13 => ⟨S16384x4096, .f32⟩
  | 14 => ⟨S_, .f32⟩
  | 15 => ⟨S16384x4096, .f32⟩
  | 16 => ⟨S16384x4096, .f32⟩
  | 17 => ⟨S16384x4096, .f32⟩
  | 18 => ⟨S_, .f32⟩
  | 19 => ⟨S16384x4096, .f32⟩
  | 20 => ⟨S16384x4096, .f32⟩
  | 21 => ⟨S16384x4096, .f32⟩
  | 22 => ⟨S_, .f32⟩
  | 23 => ⟨S16384x4096, .f32⟩
  | 24 => ⟨S16384x4096, .f32⟩
  | 25 => ⟨S_, .f32⟩
  | 26 => ⟨S16384x4096, .f32⟩
  | 27 => ⟨S16384x4096, .f32⟩
  | 28 => ⟨S16384x4096, .f32⟩
  | 29 => ⟨S_, .f32⟩
  | 30 => ⟨S16384x4096, .f32⟩
  | 31 => ⟨S16384x4096, .f32⟩
  | 32 => ⟨S_, .f32⟩
  | 33 => ⟨S16384x4096, .f32⟩
  | 34 => ⟨S16384x4096, .f32⟩
  | 35 => ⟨S16384x4096, .f32⟩
  | 36 => ⟨S16384x2048, .f32⟩
  | 37 => ⟨S16384x2048, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S16384x2048, .f32⟩
  | 45 => ⟨S16384x2048, .f32⟩
  | 46 => ⟨S16384x2048, .f32⟩
  | 47 => ⟨S_, .f32⟩
  | 48 => ⟨S16384x2048, .f32⟩
  | 49 => ⟨S16384x2048, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S16384x2048, .f32⟩
  | 57 => ⟨S16384x2048, .f32⟩
  | 58 => ⟨S_, .f32⟩
  | 59 => ⟨S16384x1, .f32⟩
  | 60 => ⟨S16384x1, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x2048, .f32⟩
  | 67 => ⟨S16384x2048, .f32⟩
  | 68 => ⟨S16384x2048, .f32⟩
  | 69 => ⟨S16384x2048, .f32⟩
  | 70 => ⟨S16384x2048, .f32⟩
  | 71 => ⟨S16384x2048, .f32⟩
  | 72 => ⟨S16384x2048, .f32⟩
  | 73 => ⟨S_, .f32⟩
  | 74 => ⟨S2048, .f32⟩
  | 75 => ⟨S1x2048, .f32⟩
  | 76 => ⟨S16384x2048, .f32⟩
  | 77 => ⟨S_, .f32⟩
  | 78 => ⟨S2048, .f32⟩
  | 79 => ⟨S1x2048, .f32⟩
  | 80 => ⟨S16384x2048, .f32⟩
  | 81 => ⟨S16384x2048, .f32⟩
  | 82 => ⟨S16384x2048, .f32⟩
  | 83 => ⟨S_, .f32⟩
  | 84 => ⟨S16384, .f32⟩
  | 85 => ⟨S16384x1, .f32⟩
  | 86 => ⟨S16384x2048, .f32⟩
  | 87 => ⟨S16384x2048, .f32⟩
  | 88 => ⟨S16384x1, .f32⟩
  | 89 => ⟨S16384x2048, .f32⟩
  | 90 => ⟨S_, .f32⟩
  | 91 => ⟨S16384, .f32⟩
  | 92 => ⟨S16384x1, .f32⟩
  | 93 => ⟨S_, .f32⟩
  | 94 => ⟨S16384x1, .f32⟩
  | 95 => ⟨S16384x1, .f32⟩
  | 96 => ⟨S_, .f32⟩
  | 97 => ⟨S16384, .f32⟩
  | 98 => ⟨S16384x2048, .f32⟩
  | 99 => ⟨S16384x2048, .f32⟩
  | 100 => ⟨S16384x2048, .f32⟩
  | 101 => ⟨S_, .f32⟩
  | 102 => ⟨S16384, .f32⟩
  | 103 => ⟨S16384x1, .f32⟩
  | 104 => ⟨S16384x2048, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384, .f32⟩
  | 111 => ⟨S16384x2048, .f32⟩
  | 112 => ⟨S16384x2048, .f32⟩
  | 113 => ⟨S16384x4096, .f32⟩
  | 114 => ⟨S16384x4096, .f32⟩
  | 115 => ⟨S16384x4096, .f32⟩
  | 116 => ⟨S_, .f32⟩
  | 117 => ⟨S16384x4096, .f32⟩
  | 118 => ⟨S16384x4096, .f32⟩
  | 119 => ⟨S16384x4096, .f32⟩
  | 120 => ⟨S_, .f32⟩
  | 121 => ⟨S16384x4096, .f32⟩
  | 122 => ⟨S16384x4096, .f32⟩
  | 123 => ⟨S16384x4096, .f32⟩
  | 124 => ⟨S_, .f32⟩
  | 125 => ⟨S16384x4096, .f32⟩
  | 126 => ⟨S16384x4096, .f32⟩
  | 127 => ⟨S16384x4096, .f32⟩
  | _ => ⟨S16384x4096, .f32⟩

abbrev hbmTy0_1 (i : Nat) : BufTy := match i % 128 with
  | 0 => ⟨S16384x4096, .f32⟩
  | 1 => ⟨S_, .f32⟩
  | 2 => ⟨S4096, .f32⟩
  | 3 => ⟨S1x4096, .f32⟩
  | 4 => ⟨S16384x4096, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_cst_18 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_20 : Ref sig .tc := ⟨.hbm, 106, rfl⟩
abbrev main_v79 : Ref sig .tc := ⟨.hbm, 107, rfl⟩
abbrev main_v80 : Ref sig .tc := ⟨.hbm, 108, rfl⟩
abbrev main_cst_21 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_22 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_23 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_24 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_25 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== Kernel30.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .bf16⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_15 : BitVec 32 := 0#32
  let v42 : BitVec 1 := Scalar.cmpi .ne v41 c0_i32_15
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_16 : BitVec 32 := 0#32
  let v45 : BitVec 1 := Scalar.cmpi .ne v44 c0_i32_16
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference30Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel31.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S16384x1024, .bf16⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_18 : BitVec 32 := 0#32
  let v47 : BitVec 1 := Scalar.cmpi .ne v46 c0_i32_18
  v47

def k0_cond2 (i : grid0.Coords) : BitVec 1 :=
  let arg0 : BitVec 32 := BitVec.ofNat 32 (i 0).val
  let c0_i32 : BitVec 32 := 0#32
  let v45 : BitVec 1 := Scalar.cmpi .eq arg0 c0_i32
  let v_true : BitVec 1 := 1#1
  let v48 : BitVec 1 := Scalar.xori v45 v_true
  let v49 : BitVec 32 := Scalar.extui v48
  let c0_i32_19 : BitVec 32 := 0#32
  let v50 : BitVec 1 := Scalar.cmpi .ne v49 c0_i32_19
  v50

def k0_cond3 (i : grid0.Coords) : BitVec 1 :=
  let arg0 : BitVec 32 := BitVec.ofNat 32 (i 0).val
  let c0_i32 : BitVec 32 := 0#32
  let v45 : BitVec 1 := Scalar.cmpi .eq arg0 c0_i32
  let v51 : BitVec 32 := Scalar.extui v45
  let c0_i32_20 : BitVec 32 := 0#32
  let v52 : BitVec 1 := Scalar.cmpi .ne v51 c0_i32_20
  v52

def k0_cond4 (i : grid0.Coords) : BitVec 1 :=
  let arg0 : BitVec 32 := BitVec.ofNat 32 (i 0).val
  let c0_i32 : BitVec 32 := 0#32
  let v45 : BitVec 1 := Scalar.cmpi .eq arg0 c0_i32
  let true_21 : BitVec 1 := 1#1
  let v53 : BitVec 1 := Scalar.xori v45 true_21
  let v54 : BitVec 32 := Scalar.extui v53
  let c0_i32_22 : BitVec 32 := 0#32
  let v55 : BitVec 1 := Scalar.cmpi .ne v54 c0_i32_22
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference31Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel32.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference32Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.GmBlock.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- `a` where column `k` of the lower triangle is not past row `r`, and zero elsewhere. -/
abbrev tri (r k : ℕ) (a : EReal) : EReal :=
  Scalar.select (IntOp.cmpi CmpIPredicate.sge (BitVec.ofNat 32 r) (BitVec.ofNat 32 k)) a (0 : EReal)

/-- The head a column of the block belongs to: eight heads of 256 columns. -/
abbrev headOf (y : S128x2048.Idx) : Fin 8 := ⟨(y 1 : ℕ) / 256, by have := (y 1).isLt; simp at this; omega⟩

/-- Column `e` of head `h`. -/
abbrev colOf (h : Fin 8) (e : Fin 256) : Fin 2048 := ⟨h * 256 + e, by omega⟩

/-- One block of the gradient of `u`: the incoming gradient times the gate, which is the masked weights of the column's
head over the block's rows of `v`, and the bias. -/
def duB (x0 : Vec Ideal S128x2048 .f32) (x2 : Vec Ideal S128x2048 .bf16) (x3 : Vec Ideal S8x128x128 .f32)
    (x4 : Vec Ideal S8x128x1 .f32) : Vec Ideal S128x2048 .f32 := fun y =>
  x0 y * ((∑ k : Fin 128, tri (y 0) k (x3 (ix3 (headOf y) (y 0) k) * x2 (ix2 k (y 1)))) + x4 (ix3 (headOf y) (y 0) 0))

/-- One block of the gradient of `v`: the masked weights transposed, over the rows of the incoming gradient times `u`. -/
def dvB (x0 x1 : Vec Ideal S128x2048 .f32) (x3 : Vec Ideal S8x128x128 .f32) : Vec Ideal S128x2048 .f32 := fun y =>
  ∑ k : Fin 128, tri k (y 0) (x3 (ix3 (headOf y) k (y 0)) * (x0 (ix2 k (y 1)) * x1 (ix2 k (y 1))))

/-- What one block adds to the gradient of the weights. -/
def dwB (x0 x1 : Vec Ideal S128x2048 .f32) (x2 : Vec Ideal S128x2048 .bf16) : Vec Ideal S8x128x128 .f32 := fun j =>
  tri (j 1) (j 2) (∑ e : Fin 256, x0 (ix2 (j 1) (colOf (j 0) e)) * x1 (ix2 (j 1) (colOf (j 0) e)) * x2 (ix2 (j 2) (colOf (j 0) e)))

/-- What one block adds to the gradient of the bias. -/
def dbB (x0 x1 : Vec Ideal S128x2048 .f32) : Vec Ideal S8x128x128 .f32 := fun j =>
  ∑ e : Fin 256, x0 (ix2 (j 1) (colOf (j 0) e)) * x1 (ix2 (j 1) (colOf (j 0) e))

/-- Stores that hold the index decide what a buffer holds there, whatever was stored before them. -/
theorem canon_of_cover {S : Shape} {φ : EltTy} (L' : List (View.Piece (Elt Ideal) S φ)) : ∀ (L : List (View.Piece (Elt Ideal) S φ)) (y : S.Idx),
    (∃ p ∈ L, y ∈ p.1.set) → View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      show View.canon (p :: (L ++ L')) (p.1.emb x) = View.canon (p :: L) (p.1.emb x)
      rw [View.canon_cons_emb, View.canon_cons_emb]
    · rw [List.cons_append, View.canon_cons_of_not_mem _ _ hm, View.canon_cons_of_not_mem _ _ hm]
      refine canon_of_cover L' L y ?_
      obtain ⟨q, hq, hy⟩ := h
      rcases List.mem_cons.mp hq with rfl | hq
      · exact absurd hy hm
      · exact ⟨q, hq, hy⟩

set_option maxHeartbeats 1600000 in
/-- Output 1's block after the first point. -/
theorem du_A (c : Dev nD) (t : Fin cfg0.N) (hc) (x0 x1 x2 x3 x4) (y) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4) y = duB x0 x2 x3 x4 y := by
  frame_out
  canon_tiles x h
  all_goals (open_payloads; pointwise [duB]; simp only [tri, h0]; blk_point [])

set_option maxHeartbeats 1600000 in
/-- Output 1's block after a later point. -/
theorem du_B (c : Dev nD) (t : Fin cfg0.N) (hc) (x0 x1 x2 x3 x4 xo7 xo8) (y) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4 xo7 xo8) y = duB x0 x2 x3 x4 y := by
  frame_out
  canon_tiles x h
  all_goals (open_payloads; pointwise [duB]; simp only [tri, h0]; blk_point [])

set_option maxHeartbeats 1600000 in
/-- Output 2's block after the first point. -/
theorem dv_A (c : Dev nD) (t : Fin cfg0.N) (hc) (x0 x1 x2 x3 x4) (y) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4) y = dvB x0 x1 x3 y := by
  frame_out
  canon_tiles x h
  all_goals (open_payloads; pointwise [dvB]; simp only [tri, h0]; blk_point [])

set_option maxHeartbeats 1600000 in
/-- Output 2's block after a later point. -/
theorem dv_B (c : Dev nD) (t : Fin cfg0.N) (hc) (x0 x1 x2 x3 x4 xo7 xo8) (y) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4 xo7 xo8) y = dvB x0 x1 x3 y := by
  frame_out
  canon_tiles x h
  all_goals (open_payloads; pointwise [dvB]; simp only [tri, h0]; blk_point [])

set_option maxHeartbeats 1600000 in
/-- Output 3's block after the first point. -/
theorem dw_A (c : Dev nD) (t : Fin cfg0.N) (hc) (x0 x1 x2 x3 x4) (y) :
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4) y = dwB x0 x1 x2 y := by
  frame_open
  simp (disch := decide) only [↓ View.readCov_skip, ↓ View.readCov_cons_toLoadRect, ↓ View.readCov_fill]
  frame_out
  refine (canon_of_cover [_] [_, _, _, _, _, _, _, _] y ?_).trans ?_
  · exact View.cover_of_tiledL _ ![1, 128, 128] (by sl_kernel_rfl) y
  canon_tiles x h
  all_goals (open_payloads; pointwise [dwB]; simp only [tri, h1, h2]; blk_point [])

set_option maxHeartbeats 1600000 in
/-- Output 3's block after a later point. -/
theorem dw_B (c : Dev nD) (t : Fin cfg0.N) (hc) (x0 x1 x2 x3 x4 xo7 xo8) (y) :
    (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4 xo7 xo8) y = xo7 y + dwB x0 x1 x2 y := by
  frame_out
  canon_tiles x h
  all_goals (open_payloads; pointwise [dwB]; simp only [tri, h1, h2]; blk_point [])

set_option maxHeartbeats 1600000 in
/-- Output 4's block after the first point. -/
theorem db_A (c : Dev nD) (t : Fin cfg0.N) (hc) (x0 x1 x2 x3 x4) (y) :
    (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4) y = dbB x0 x1 y := by
  frame_open
  simp (disch := decide) only [↓ View.readCov_skip, ↓ View.readCov_cons_toLoadRect, ↓ View.readCov_fill]
  frame_out
  refine (canon_of_cover [_] [_, _, _, _, _, _, _, _] y ?_).trans ?_
  · exact View.cover_of_tiledL _ ![1, 128, 128] (by sl_kernel_rfl) y
  canon_tiles x h
  all_goals (open_payloads; pointwise [dbB]; blk_point [])

set_option maxHeartbeats 1600000 in
/-- Output 4's block after a later point. -/
theorem db_B (c : Dev nD) (t : Fin cfg0.N) (hc) (x0 x1 x2 x3 x4 xo7 xo8) (y) :
    (out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      hc x0 x1 x2 x3 x4 xo7 xo8) y = xo8 y + dbB x0 x1 y := by
  frame_out
  canon_tiles x h
  all_goals (open_payloads; pointwise [dbB]; blk_point [])

end Cert.KernelIdeal.Value
-- ==== Proof.GmRef.lean ====
module

public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The reference's gradient of `u`, as an array of its arguments. -/
def duR (a0 : FVec Ideal S16384x2048 .f32) (a2 : FVec Ideal S16384x2048 .bf16) (a3 : FVec Ideal S8x128x128 .f32) (a4 : FVec Ideal S8x128 .f32) : FVec Ideal S16384x2048 .f32 :=
  mulf a0 (shapeCast _ (addf (transpose S128x128x8x256 [1, 3, 0, 2] (Host.dotGeneral dot_S128x128x8x256_S8x128x128_S8x128x256x128_1_2_03_1_2_0 none (shapeCast _ (extf .f32 a2 bitsLt_bf16_f32) shapeCasts_S16384x2048_S128x128x8x256) (mulf a3 (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x128x256x128_S128x128x8x256_1_3_0_2) (broadcastInDim S128x128x8x256 ![0, 1, 2, 3] bcast_S1x128x8x1_S128x128x8x256_0_1_2_3 (broadcastInDim S1x128x8x1 ![1, 2] bcast_S128x8_S1x128x8x1_1_2 (transpose S128x8 [1, 0] a4 transposes_S8x128_S128x8_1_0)))) shapeCasts_S128x128x8x256_S16384x2048)

/-- The reference's gradient of `v`, as an array of its arguments. -/
def dvR (a0 : FVec Ideal S16384x2048 .f32) (a1 : FVec Ideal S16384x2048 .f32) (a3 : FVec Ideal S8x128x128 .f32) : FVec Ideal S16384x2048 .f32 :=
  shapeCast _ (transpose S128x128x8x256 [1, 3, 0, 2] (Host.dotGeneral dot_S8x128x256x128_S8x128x128_S8x128x256x128_3_1_12_2_0_0 none (transpose S8x128x256x128 [2, 0, 3, 1] (shapeCast _ (mulf a1 a0) shapeCasts_S16384x2048_S128x128x8x256) transposes_S128x128x8x256_S8x128x256x128_2_0_3_1) (mulf a3 (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x128x256x128_S128x128x8x256_1_3_0_2) shapeCasts_S128x128x8x256_S16384x2048

/-- The reference's gradient of the weights, as an array of its arguments. -/
def dwR (a0 : FVec Ideal S16384x2048 .f32) (a1 : FVec Ideal S16384x2048 .f32) (a2 : FVec Ideal S16384x2048 .bf16) : FVec Ideal S8x128x128 .f32 :=
  mulf (Host.dotGeneral dot_S8x128x256x128_S128x128x8x256_S8x128x128_12_03_3_1_0_2 none (transpose S8x128x256x128 [2, 0, 3, 1] (shapeCast _ (mulf a1 a0) shapeCasts_S16384x2048_S128x128x8x256) transposes_S128x128x8x256_S8x128x256x128_2_0_3_1) (shapeCast _ (extf .f32 a2 bitsLt_bf16_f32) shapeCasts_S16384x2048_S128x128x8x256)) (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The reference's gradient of the bias, laid along 128 lanes, as an array of its arguments. -/
def dbR (a0 : FVec Ideal S16384x2048 .f32) (a1 : FVec Ideal S16384x2048 .f32) : FVec Ideal S8x128x128 .f32 :=
  broadcastInDim S8x128x128 ![0, 1, 2] bcast_S8x128x1_S8x128x128_0_1_2 (broadcastInDim S8x128x1 ![0, 1] bcast_S8x128_S8x128x1_0_1 (transpose S8x128 [1, 0] (Host.reduceAdd (shapeCast _ (Host.reduceAdd (shapeCast _ (mulf a1 a0) shapeCasts_S16384x2048_S128x128x8x256) (constant S_ .f32 0x00000000#32) reducesTo_S128x128x8x256_S128x8_d0_3 h_S_) shapeCasts_S128x8_S1x128x8x1) (constant S_ .f32 0x00000000#32) reducesTo_S1x128x8x1_S128x8_d0_3 h_S_) transposes_S128x8_S8x128_1_0))

/-- `a` where column `k` is not past row `r`, and zero elsewhere. -/
abbrev tri (r k : ℕ) (a : EReal) : EReal :=
  Scalar.select (IntOp.cmpi CmpIPredicate.sge (BitVec.ofNat 32 r) (BitVec.ofNat 32 k)) a (0 : EReal)

theorem addi_zero (x : BitVec 32) : IntOp.addi x 0#32 = x := BitVec.add_zero x

/-- Row `t` of chunk `n`. -/
abbrev rowOf (n t : Fin 128) : Fin 16384 := ⟨n * 128 + t, by omega⟩

/-- Column `e` of head `h`. -/
abbrev colOf (h : Fin 8) (e : Fin 256) : Fin 2048 := ⟨h * 256 + e, by omega⟩

section Fiber
variable {n0 n1 n2 n3 : Nat} {t : Shape}

/-- A sum over the first and the last of four axes, at an index of the two kept ones. -/
theorem reduceAdd_first_last (h : (⟨4, ![n0, n1, n2, n3]⟩ : Shape).ReducesTo [0, 3] (⟨2, ![n1, n2]⟩ : Shape))
    (v : (⟨4, ![n0, n1, n2, n3]⟩ : Shape).Idx → EReal) (init : EReal) (j : (⟨2, ![n1, n2]⟩ : Shape).Idx) :
    Ideal.hostReduceAdd h v init j = init + ∑ a : Fin n0, ∑ b : Fin n3, v (ix4 a (j 0) (j 1) b) := by
  refine congrArg (init + ·) ?_
  rw [Finset.sum_filter_eq_sum_of_fiber _ (fun k : Fin n0 × Fin n3 => (ix4 k.1 (j 0) (j 1) k.2 : (⟨4, ![n0, n1, n2, n3]⟩ : Shape).Idx))
    (fun _ _ e => Prod.ext (congrFun e 0) (congrFun e 3))]
  · rw [Fintype.sum_prod_type]
  · intro i
    constructor
    · intro e
      refine ⟨(i 0, i 3), ?_⟩
      funext a; apply Fin.ext
      match a with
      | ⟨0, _⟩ => rfl
      | ⟨1, _⟩ => exact (congrArg Fin.val (congrFun e (0 : Fin 2))).symm
      | ⟨2, _⟩ => exact (congrArg Fin.val (congrFun e (1 : Fin 2))).symm
      | ⟨3, _⟩ => rfl
    · rintro ⟨k, rfl⟩
      funext a; apply Fin.ext
      match a with
      | ⟨0, _⟩ => rfl
      | ⟨1, _⟩ => rfl

end Fiber

theorem dwR_at (a0 a1 : FVec Ideal S16384x2048 .f32) (a2 : FVec Ideal S16384x2048 .bf16) (j) :
    dwR a0 a1 a2 j = tri (j 1) (j 2) (∑ n : Fin 128, ∑ e : Fin 256,
      a1 (ix2 (rowOf n (j 1)) (colOf (j 0) e)) * a0 (ix2 (rowOf n (j 1)) (colOf (j 0) e)) * a2 (ix2 (rowOf n (j 2)) (colOf (j 0) e))) := by
  pointwise [dwR]
  simp only [addi_zero]

theorem dbR_at (a0 a1 : FVec Ideal S16384x2048 .f32) (j) :
    dbR a0 a1 j = ∑ n : Fin 128, ∑ e : Fin 256,
      a1 (ix2 (rowOf n (j 1)) (colOf (j 0) e)) * a0 (ix2 (rowOf n (j 1)) (colOf (j 0) e)) := by
  pointwise [dbR, reduceAdd_first_last]
  simp only [Finset.univ_unique, Finset.sum_singleton]

end Cert.ReferenceIdeal.Value
-- ==== Proof.GmFinal.lean ====
module

public import proofs.«01_k».proof.Proof.GmBlock
public import proofs.«01_k».proof.Proof.GmRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

open Cert.ReferenceIdeal.Value (duR dvR dwR dbR dwR_at dbR_at addi_zero rowOf)

namespace Cert.KernelIdeal.Value

open Cert.KernelIdeal Cert.KernelIdeal.Gen

variable (m : (ℓ : Loc nD τ sig) → Buf (Elt Ideal) ℓ)

/-- Every window's block at every point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![t.val, 0] ∧ win0_6.index t = ![t.val, 0]
    ∧ win0_7.index t = ![0, 0, 0] ∧ win0_8.index t = ![0, 0, 0] :=
  (by decide +kernel : ∀ t : Fin grid0.N, _)

section Steps
variable (c : Dev nD) (t : Fin cfg0.N)

/-- Every point leaves its block of the gradient of `u`. -/
theorem at_du (y : S128x2048.Idx) : (outsAt0 m c t.val t.isLt).1 y = duB (iblk m c 0 t) (iblk m c 2 t) (iblk m c 3 t) (iblk m c 4 t) y := by
  by_cases h : t.val % 128 = 0
  · rw [outsAt0_A m c t h]
    dsimp only
    rw [du_A]
  · rw [outsAt0_B m c t h]
    dsimp only
    rw [du_B]

/-- Every point leaves its block of the gradient of `v`. -/
theorem at_dv (y : S128x2048.Idx) : (outsAt0 m c t.val t.isLt).2.1 y = dvB (iblk m c 0 t) (iblk m c 1 t) (iblk m c 3 t) y := by
  by_cases h : t.val % 128 = 0
  · rw [outsAt0_A m c t h]
    dsimp only
    rw [dv_A]
  · rw [outsAt0_B m c t h]
    dsimp only
    rw [dv_B]

/-- The first point leaves its own part of the gradient of the weights. -/
theorem at_dw_A (h : t.val % 128 = 0) (j : S8x128x128.Idx) : (outsAt0 m c t.val t.isLt).2.2.1 j = dwB (iblk m c 0 t) (iblk m c 1 t) (iblk m c 2 t) j := by
  rw [outsAt0_A m c t h]
  dsimp only
  rw [dw_A]

/-- A later point adds its own part to what the point before left. -/
theorem at_dw_B (h : ¬t.val % 128 = 0) (j : S8x128x128.Idx) :
    (outsAt0 m c t.val t.isLt).2.2.1 j = (outsAt0 m c (t.val - 1) (Nat.lt_of_le_of_lt (Nat.sub_le _ _) t.isLt)).2.2.1 j + dwB (iblk m c 0 t) (iblk m c 1 t) (iblk m c 2 t) j := by
  rw [outsAt0_B m c t h]
  dsimp only
  rw [dw_B]

/-- The first point leaves its own part of the gradient of the bias. -/
theorem at_db_A (h : t.val % 128 = 0) (j : S8x128x128.Idx) : (outsAt0 m c t.val t.isLt).2.2.2 j = dbB (iblk m c 0 t) (iblk m c 1 t) j := by
  rw [outsAt0_A m c t h]
  dsimp only
  rw [db_A]

/-- A later point adds its own part to what the point before left. -/
theorem at_db_B (h : ¬t.val % 128 = 0) (j : S8x128x128.Idx) :
    (outsAt0 m c t.val t.isLt).2.2.2 j = (outsAt0 m c (t.val - 1) (Nat.lt_of_le_of_lt (Nat.sub_le _ _) t.isLt)).2.2.2 j + dbB (iblk m c 0 t) (iblk m c 1 t) j := by
  rw [outsAt0_B m c t h]
  dsimp only
  rw [db_B]

end Steps

section Blocks
variable (c : Dev nD) (t : Fin cfg0.N)

/-- A block of `du`. -/
theorem blk0 (y : S128x2048.Idx) : iblk m c 0 t y = m ((c : Thread nD τ).loc main_arg0) (ix2 (rowOf t (y 0)) (y 1)) := by
  blk_point [iblk, V, idx t, rowOf]

/-- A block of `u`. -/
theorem blk1 (y : S128x2048.Idx) : iblk m c 1 t y = m ((c : Thread nD τ).loc main_arg1) (ix2 (rowOf t (y 0)) (y 1)) := by
  blk_point [iblk, V, idx t, rowOf]

/-- A block of `v`. -/
theorem blk2 (y : S128x2048.Idx) : iblk m c 2 t y = m ((c : Thread nD τ).loc main_arg2) (ix2 (rowOf t (y 0)) (y 1)) := by
  blk_point [iblk, V, idx t, rowOf]

/-- The weights, the same at every point. -/
theorem blk3 (y : S8x128x128.Idx) : iblk m c 3 t y = m ((c : Thread nD τ).loc main_arg3) y := by
  blk_point [iblk, V, idx t]

/-- The bias, the same at every point. -/
theorem blk4 (y : S8x128x1.Idx) : iblk m c 4 t y = m ((c : Thread nD τ).loc main_arg4) (ix2 (y 0) (y 1)) := by
  blk_point [iblk, V, idx t]

/-- Where a block of the gradient of `u` lies. -/
theorem emb5 (y : S128x2048.Idx) : (win0_5.blk t).view.emb y = ix2 (rowOf t (y 0)) (y 1) := by
  blk_ext [idx t, rowOf]

/-- Where a block of the gradient of `v` lies. -/
theorem emb6 (y : S128x2048.Idx) : (win0_6.blk t).view.emb y = ix2 (rowOf t (y 0)) (y 1) := by
  blk_ext [idx t, rowOf]

/-- The gradient of the weights is one block. -/
theorem emb7 (y : S8x128x128.Idx) : (win0_7.blk t).view.emb y = y := by
  blk_ext [idx t]

/-- The gradient of the bias is one block. -/
theorem emb8 (y : S8x128x128.Idx) : (win0_8.blk t).view.emb y = y := by
  blk_ext [idx t]

theorem row_mod (n a : Fin 128) : (n.val * 128 + a.val) % 128 = a.val := by omega

theorem row_div (n a : Fin 128) : (n.val * 128 + a.val) / 128 = n.val := by omega

/-- There is one round of points. -/
theorem sum_points (h : ∀ s : Fin 128, 128 * (t.val / 128) + s.val < 128) (f : Fin 128 → EReal) : ∑ s : Fin 128, f ⟨128 * (t.val / 128) + s.val, h s⟩ = ∑ s, f s :=
  Finset.sum_congr rfl fun s _ => congrArg f (Fin.ext (by
    have : t.val < 128 := t.isLt
    show 128 * (t.val / 128) + s.val = s.val; omega))

end Blocks

theorem comm_du {n : ℕ} (p : Fin n → BitVec 1) (a b : Fin n → EReal) (x z : EReal) :
    x * (∑ s, Scalar.select (p s) (a s * b s) 0 + z) = x * (∑ s, Scalar.select (p s) (b s * a s) 0 + z) := by
  simp only [mul_comm]

theorem comm_dv {n : ℕ} (p : Fin n → BitVec 1) (a b d : Fin n → EReal) :
    ∑ s, Scalar.select (p s) (a s * (b s * d s)) 0 = ∑ s, Scalar.select (p s) (d s * b s * a s) 0 :=
  Finset.sum_congr rfl fun s _ => by rw [mul_comm (a s), mul_comm (b s)]

theorem comm_dw {a b d a' b' d' : EReal} (ha : a = a') (hb : b = b') (hd : d = d') : a * b * d = b' * a' * d' := by
  rw [ha, hb, hd, mul_comm a']

theorem comm_db {a b a' b' : EReal} (ha : a = a') (hb : b = b') : a * b = b' * a' := by
  rw [ha, hb, mul_comm]

/-- The gradient of `u` the kernel leaves is the reference's. -/
theorem final_du (c : Dev nD) : (dats m 0 c).arrAt 5 (cfgs 0).N = duR (m ((c : Thread nD τ).loc main_arg0)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5]
  refine (at_du m c t y).trans (Eq.trans ?_ (congrArg _ (emb5 t y).symm))
  pointwise [duB, duR]
  simp only [addi_zero, blk0, blk2, blk3, blk4, row_mod t (y 0), row_div t (y 0), tri, headOf]
  exact comm_du (fun x : Fin 128 => _) (fun x => _) (fun x => _) _ _

/-- The gradient of `v` the kernel leaves is the reference's. -/
theorem final_dv (c : Dev nD) : (dats m 0 c).arrAt 6 (cfgs 0).N = dvR (m ((c : Thread nD τ).loc main_arg0)) (m ((c : Thread nD τ).loc main_arg1)) (m ((c : Thread nD τ).loc main_arg3)) := by
  refine (dats m 0 c).arrAt_eq_of_covers 6 _ (by decide +kernel) fun t hf y => ?_
  rw [after0_6]
  refine (at_dv m c t y).trans (Eq.trans ?_ (congrArg _ (emb6 t y).symm))
  pointwise [dvB, dvR]
  simp only [addi_zero, blk0, blk1, blk3, row_mod t (y 0), row_div t (y 0), tri, headOf]
  exact comm_dv (fun x : Fin 128 => _) (fun x => _) (fun x => _) (fun x => _)

/-- A masked sum is the sum of the masked terms. -/
theorem tri_sum {n : ℕ} (a b : ℕ) (f : Fin n → EReal) : ∑ s, tri a b (f s) = tri a b (∑ s, f s) := by
  unfold tri Scalar.select
  split
  · rfl
  · exact Finset.sum_const_zero

/-- The gradient of the weights the kernel leaves is the reference's: the blocks' parts added up. -/
theorem final_dw (c : Dev nD) : (dats m 0 c).arrAt 7 (cfgs 0).N = dwR (m ((c : Thread nD τ).loc main_arg0)) (m ((c : Thread nD τ).loc main_arg1)) (m ((c : Thread nD τ).loc main_arg2)) := by
  refine (dats m 0 c).arrAt_eq_of_covers 7 _ (by decide +kernel) fun t hf y => ?_
  rw [after0_7]
  refine Eq.trans ?_ (congrArg _ (emb7 t y).symm)
  refine (Pipeline.eq_sum_fin_of_reset_step_apply_of_flush (fun n h => (outsAt0 m c n h).2.2.1) 128 (fun _ => 0)
    (fun t => dwB (iblk m c 0 t) (iblk m c 1 t) (iblk m c 2 t))
    (fun t h j => by rw [zero_add]; exact at_dw_A m c t h j) (fun t h j => at_dw_B m c t h j) t ((flush0_7 t).mp hf) y).trans ?_
  rw [zero_add]
  refine (sum_points t _ (fun s => dwB (iblk m c 0 s) (iblk m c 1 s) (iblk m c 2 s) y)).trans ?_
  rw [dwR_at]
  simp only [dwB, tri_sum]
  refine congrArg (tri _ _) (Finset.sum_congr rfl fun s _ => Finset.sum_congr rfl fun x _ => ?_)
  exact comm_dw (blk0 m c s _) (blk1 m c s _) (blk2 m c s _)

/-- The gradient of the bias the kernel leaves is the reference's, in every lane. -/
theorem final_db (c : Dev nD) : (dats m 0 c).arrAt 8 (cfgs 0).N = dbR (m ((c : Thread nD τ).loc main_arg0)) (m ((c : Thread nD τ).loc main_arg1)) := by
  refine (dats m 0 c).arrAt_eq_of_covers 8 _ (by decide +kernel) fun t hf y => ?_
  rw [after0_8]
  refine Eq.trans ?_ (congrArg _ (emb8 t y).symm)
  refine (Pipeline.eq_sum_fin_of_reset_step_apply_of_flush (fun n h => (outsAt0 m c n h).2.2.2) 128 (fun _ => 0)
    (fun t => dbB (iblk m c 0 t) (iblk m c 1 t))
    (fun t h j => by rw [zero_add]; exact at_db_A m c t h j) (fun t h j => at_db_B m c t h j) t ((flush0_8 t).mp hf) y).trans ?_
  rw [zero_add]
  refine (sum_points t _ (fun s => dbB (iblk m c 0 s) (iblk m c 1 s) y)).trans ?_
  rw [dbR_at]
  simp only [dbB]
  refine Finset.sum_congr rfl fun s _ => Finset.sum_congr rfl fun x _ => ?_
  exact comm_db (blk0 m c s _) (blk1 m c s _)

end Cert.KernelIdeal.Value
-- ==== Proof.Dw3Block.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

/-- What the 2048 rows of one point add to a block of the product: `x0` transposed times `x1`. -/
def part (x0 : Vec Ideal S2048x1408 .bf16) (x1 : Vec Ideal S2048x1024 .bf16) : Vec Ideal S1408x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1408) : Fin 2816 := ⟨t.val / 8 * 1408 + a, by have : t.val < 16 := t.isLt; omega⟩

variable (m : (ℓ : Loc nD τ sig) → Buf (Elt Ideal) ℓ) (c : Dev nD) (t : Fin cfg0.N)

/-- The chunk of rows of the left factor. -/
theorem blk0 (y : S2048x1408.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1408x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

theorem same_term {a b a' b' : EReal} (ha : a = a') (hb : b = b') : a * b = b' * a' := by
  rw [ha, hb, mul_comm]

/-- The reference's product, as an array of its arguments. -/
def prodR (a0 : FVec Ideal S16384x2816 .bf16) (a1 : FVec Ideal S16384x1024 .bf16) : FVec Ideal S2816x1024 .bf16 :=
  truncf .bf16 (transpose _ [1, 0] (Host.dotGeneral Cert.Reference3Ideal.dot_S16384x1024_S16384x2816_S1024x2816_0_0_1_1_n_n none (extf .f32 a1 Cert.Reference3Ideal.Gen.bitsLt_bf16_f32) (extf .f32 a0 Cert.Reference3Ideal.Gen.bitsLt_bf16_f32)) Cert.Reference3Ideal.Gen.transposes_S1024x2816_S2816x1024_1_0) Cert.Reference3Ideal.Gen.bitsLt_bf16_f32

/-- An entry of it: a sum over all the rows. -/
theorem prodR_at (a0 a1) (j) : prodR a0 a1 j = ∑ k : Fin 16384, a1 (ix2 k (j 1)) * a0 (ix2 k (j 0)) := by
  pointwise [prodR]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1408 + (y 0).val) hd
  · exact congrArg (ix2 · (y 1)) (Fin.ext (congrArg (· * 2048 + r.val) hs))

end Cert.Kernel3Ideal.Value
-- ==== Proof.Dw4Block.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

/-- What the 2048 rows of one point add to a block of the product: `x0` transposed times `x1`. -/
def part (x0 : Vec Ideal S2048x1408 .bf16) (x1 : Vec Ideal S2048x1024 .bf16) : Vec Ideal S1408x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1408) : Fin 2816 := ⟨t.val / 8 * 1408 + a, by have : t.val < 16 := t.isLt; omega⟩

variable (m : (ℓ : Loc nD τ sig) → Buf (Elt Ideal) ℓ) (c : Dev nD) (t : Fin cfg0.N)

/-- The chunk of rows of the left factor. -/
theorem blk0 (y : S2048x1408.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1408x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

theorem same_term {a b a' b' : EReal} (ha : a = a') (hb : b = b') : a * b = a' * b' := by
  rw [ha, hb]

/-- The reference's product, as an array of its arguments. -/
def prodR (a0 : FVec Ideal S16384x2816 .bf16) (a1 : FVec Ideal S16384x1024 .bf16) : FVec Ideal S2816x1024 .bf16 :=
  truncf .bf16 (transpose _ [1, 0] (transpose Cert.Reference4Ideal.S1024x2816 [1, 0] (Host.dotGeneral Cert.Reference4Ideal.dot_S16384x2816_S16384x1024_S2816x1024_0_0_1_1_n_n none (extf .f32 a0 Cert.Reference4Ideal.Gen.bitsLt_bf16_f32) (extf .f32 a1 Cert.Reference4Ideal.Gen.bitsLt_bf16_f32)) Cert.Reference4Ideal.Gen.transposes_S2816x1024_S1024x2816_1_0) Cert.Reference4Ideal.Gen.transposes_S1024x2816_S2816x1024_1_0) Cert.Reference4Ideal.Gen.bitsLt_bf16_f32

/-- An entry of it: a sum over all the rows. -/
theorem prodR_at (a0 a1) (j) : prodR a0 a1 j = ∑ k : Fin 16384, a0 (ix2 k (j 0)) * a1 (ix2 k (j 1)) := by
  pointwise [prodR]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1408 + (y 0).val) hd
  · exact congrArg (ix2 · (y 1)) (Fin.ext (congrArg (· * 2048 + r.val) hs))

end Cert.Kernel4Ideal.Value
-- ==== Proof.FfnRun.lean ====
module

public import proofs.«01_k».proof.Proof.Gen.Kernel2Ideal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.Kernel2Ideal.Value

open Cert.Kernel2Ideal Cert.Kernel2Ideal.Gen

variable {F : FTy → Type} [FloatOps F]

/-- The propositions the run is stated in. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The four calls run one after the other, and every buffer ends at what they leave in it. -/
theorem run_all : θ_run defs (onTc (τ := τ) (main (F := F))) ⟨m, fun _ => 0, ρ⟩ fun r =>
    ∀ c : Dev nD, ∀ b ∈ Pipeline.ucRefs τ sig, r.2.mem ((c : Thread nD τ).1, b) = W5 m ρ c b := by
  refine Pipeline.θ_run_regions_kit_sems (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩) (hinit := ?start)
    (QY := fun c s => ∀ b ∈ Pipeline.ucRefs τ sig, s.mem ((c : Thread nD τ).1, b) = W5 m ρ c b)
    (hfin := ?finish) (hQ := fun _ h _ => h)
  case pipes => simp only [segs, Pipeline.Seg.pipes_host, Pipeline.Seg.pipes_region, Pipeline.Seg.pipes_nil]; decide
  case tokens =>
    iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case start =>
    refine Pipeline.initEach L lv fun c => ?_
    have e : (unscopedBufs c (fun b => m ((c : Thread nD τ).loc b)) : sProp 𝕄)
        = StableHlo.held (c : Thread nD τ) (Pipeline.ucRefs τ sig) (W0 m ρ c) := Pipeline.unscopedBufs_held c (W0 m ρ c)
    rw [e]
    iintro ⟨⟨Hbufs, -, Howes, -, Hprng, -⟩, -⟩
    imodintro
    isplitl [Hbufs]
    · iexact Hbufs
    isplitl [Hprng]
    · iexists _
      iexact Hprng
    · iexists ∅
      iexact Howes
  case finish =>
    intro c s
    iintro ⟨⟨Hbufs, -⟩, Hstate⟩
    unfold StableHlo.held
    imodintro
    iapply (pointsTo_read_all (Pipeline.ucRefs τ sig) (fun b => ((c : Thread nD τ).1, b)) (W5 m ρ c) s)
    isplitl [Hbufs] <;> iassumption

/-- The two results end at what the second and the fourth call leave, the arguments as they were. -/
theorem run_blocks : θ_run defs (onTc (τ := τ) (main (F := F))) ⟨m, fun _ => 0, ρ⟩ fun r => ∀ c : Dev nD,
    r.2.mem ((c.tc : Thread nD τ).loc main_v6) = (dat1 (V2 m ρ) c).arrAt 2 cfg1.N
    ∧ r.2.mem ((c.tc : Thread nD τ).loc main_v8) = (dat3 (V4 m ρ) c).arrAt 4 cfg3.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨?_, ?_, ?_, ?_, ?_, ?_, ?_⟩) (run_all m ρ)
  · refine (h c _ (mem_uc main_v6 (by decide))).trans ?_
    rw [W5_of m ρ c main_v6 (by decide), W4_of m ρ c main_v6 (by decide)]
    exact W3_arr m ρ c 2
  · exact (h c _ (mem_uc main_v8 (by decide))).trans (W5_arr m ρ c 4)
  · exact (h c _ (mem_uc main_arg0 (by decide))).trans (W5_main_arg0 m ρ c)
  · exact (h c _ (mem_uc main_arg1 (by decide))).trans (W5_main_arg1 m ρ c)
  · exact (h c _ (mem_uc main_arg2 (by decide))).trans (W5_main_arg2 m ρ c)
  · exact (h c _ (mem_uc main_arg3 (by decide))).trans (W5_main_arg3 m ρ c)
  · exact (h c _ (mem_uc main_arg4 (by decide))).trans (W5_main_arg4 m ρ c)

end Cert.Kernel2Ideal.Value
-- ==== Proof.FfnBlock.lean ====
module

public import proofs.«01_k».proof.Proof.Gen.Kernel2Ideal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

/-- A row of `x0` against a row of `x1`. -/
abbrev rowsProd (x0 : Vec Ideal S512x1024 .bf16) (x1 : Vec Ideal S1408x1024 .bf16) (y : S512x1408.Idx) : EReal :=
  ∑ k : Fin 1024, x0 (ix2 (y 0) k) * x1 (ix2 (y 1) k)

/-- The gate. -/
abbrev swish (x : EReal) : EReal := x * Ideal.logistic x

/-- Its derivative, as the third call computes it. -/
abbrev swish' (x : EReal) : EReal := Ideal.logistic x + x * Ideal.logistic x * (1 - Ideal.logistic x)

/-- First call, first result: the block's rows against the first weights. -/
theorem up_a (x0 x1 x2) (y) : out0_3 (F := Ideal) x0 x1 x2 y = rowsProd x0 x1 y := by
  frame_out
  open_payloads
  pointwise []

/-- First call, second result: the block's rows against the second weights. -/
theorem up_b (x0 x1 x2) (y) : out0_4 (F := Ideal) x0 x1 x2 y = rowsProd x0 x2 y := by
  frame_out
  open_payloads
  pointwise []

/-- First call, third result: the gate of the first product times the second product. -/
theorem up_u (x0 x1 x2) (y) : out0_5 (F := Ideal) x0 x1 x2 y = swish (rowsProd x0 x1 y) * rowsProd x0 x2 y := by
  frame_out
  open_payloads
  pointwise []

/-- Second call. -/
theorem down (x0 x1) (y) : out1_2 (F := Ideal) x0 x1 y = ∑ k : Fin 2816, x0 (ix2 (y 0) k) * x1 (ix2 k (y 1)) := by
  frame_out
  open_payloads
  pointwise []

/-- Third call, first result. -/
theorem down_da (x0 x1 x2 x3) (y) : out2_4 (F := Ideal) x0 x1 x2 x3 y = rowsProd x0 x1 y * x3 y * swish' (x2 y) := by
  frame_out
  open_payloads
  pointwise []

/-- Third call, second result. -/
theorem down_db (x0 x1 x2 x3) (y) : out2_5 (F := Ideal) x0 x1 x2 x3 y = rowsProd x0 x1 y * swish (x2 y) := by
  frame_out
  open_payloads
  pointwise []

/-- Fourth call. -/
theorem up_dx (x0 x1 x2 x3) (y) : out3_4 (F := Ideal) x0 x1 x2 x3 y
    = (∑ k : Fin 2816, x0 (ix2 (y 0) k) * x2 (ix2 k (y 1))) + ∑ k : Fin 2816, x1 (ix2 (y 0) k) * x3 (ix2 k (y 1)) := by
  frame_out
  open_payloads
  pointwise []

end Cert.Kernel2Ideal.Value
-- ==== Proof.FfnArray.lean ====
module

public import proofs.«01_k».proof.Proof.FfnBlock
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

/-- First call: point `t` is the block of rows `t % 32` and the block of columns `t / 32`. -/
theorem idx0 : ∀ t : Fin cfg0.N, win0_0.index t = ![t.val % 32, 0] ∧ win0_1.index t = ![t.val / 32, 0] ∧ win0_2.index t = ![t.val / 32, 0]
    ∧ win0_3.index t = ![t.val % 32, t.val / 32] ∧ win0_4.index t = ![t.val % 32, t.val / 32] ∧ win0_5.index t = ![t.val % 32, t.val / 32] :=
  (by decide +kernel : ∀ t : Fin grid0.N, _)

/-- Second call: point `t` is a block of rows. -/
theorem idx1 : ∀ t : Fin cfg1.N, win1_0.index t = ![t.val, 0] ∧ win1_1.index t = ![0, 0] ∧ win1_2.index t = ![t.val, 0] :=
  (by decide +kernel : ∀ t : Fin grid1.N, _)

/-- Third call: blocks as in the first. -/
theorem idx2 : ∀ t : Fin cfg2.N, win2_0.index t = ![t.val % 32, 0] ∧ win2_1.index t = ![t.val / 32, 0] ∧ win2_2.index t = ![t.val % 32, t.val / 32]
    ∧ win2_3.index t = ![t.val % 32, t.val / 32] ∧ win2_4.index t = ![t.val % 32, t.val / 32] ∧ win2_5.index t = ![t.val % 32, t.val / 32] :=
  (by decide +kernel : ∀ t : Fin grid2.N, _)

/-- Fourth call: point `t` is a block of rows. -/
theorem idx3 : ∀ t : Fin cfg3.N, win3_0.index t = ![t.val, 0] ∧ win3_1.index t = ![t.val, 0] ∧ win3_2.index t = ![0, 0]
    ∧ win3_3.index t = ![0, 0] ∧ win3_4.index t = ![t.val, 0] :=
  (by decide +kernel : ∀ t : Fin grid3.N, _)

/-- Row `a` of block `b` of rows. -/
abbrev rowOf (b : ℕ) (hb : b < 32) (a : Fin 512) : Fin 16384 := ⟨b * 512 + a, by omega⟩

/-- Column `a` of block `b` of columns. -/
abbrev colOf (b : ℕ) (hb : b < 2) (a : Fin 1408) : Fin 2816 := ⟨b * 1408 + a, by omega⟩

theorem mod_lt (t : Fin cfg0.N) : t.val % 32 < 32 := Nat.mod_lt _ (by decide)
theorem div_lt (t : Fin cfg0.N) : t.val / 32 < 2 := by have : t.val < 64 := t.isLt; omega

attribute [local irreducible] out0_3 out0_4 out0_5 out1_2 out2_4 out2_5 out3_4

/-- Every buffer's contents when a call starts. -/
abbrev Bufs := (c : Dev nD) → (b : Ref sig .tc) → Buf (Elt Ideal) ((c : Thread nD τ).loc b)

variable (V : Bufs) (c : Dev nD)

section First
variable (t : Fin cfg0.N)

theorem in0_0 (y : S512x1024.Idx) : iblk0 V c 0 t y = V c main_arg0 (ix2 (rowOf _ (mod_lt t) (y 0)) (y 1)) := by
  blk_point [iblk0, idx0 t, rowOf]

theorem in0_1 (y : S1408x1024.Idx) : iblk0 V c 1 t y = V c main_v1 (ix2 (colOf _ (div_lt t) (y 0)) (y 1)) := by
  blk_point [iblk0, idx0 t, colOf]

theorem in0_2 (y : S1408x1024.Idx) : iblk0 V c 2 t y = V c main_v3 (ix2 (colOf _ (div_lt t) (y 0)) (y 1)) := by
  blk_point [iblk0, idx0 t, colOf]

theorem emb0_3 (y : S512x1408.Idx) : (win0_3.blk t).view.emb y = ix2 (rowOf _ (mod_lt t) (y 0)) (colOf _ (div_lt t) (y 1)) := by
  blk_ext [idx0 t, rowOf, colOf]

theorem emb0_4 (y : S512x1408.Idx) : (win0_4.blk t).view.emb y = ix2 (rowOf _ (mod_lt t) (y 0)) (colOf _ (div_lt t) (y 1)) := by
  blk_ext [idx0 t, rowOf, colOf]

theorem emb0_5 (y : S512x1408.Idx) : (win0_5.blk t).view.emb y = ix2 (rowOf _ (mod_lt t) (y 0)) (colOf _ (div_lt t) (y 1)) := by
  blk_ext [idx0 t, rowOf, colOf]

end First

/-- Rows of `x` against rows of `w`. -/
def mulT (x : FVec Ideal S16384x1024 .bf16) (w : FVec Ideal S2816x1024 .bf16) : FVec Ideal S16384x2816 .bf16 := fun i =>
  ∑ k : Fin 1024, x (ix2 (i 0) k) * w (ix2 (i 1) k)

/-- Rows of `x` against columns of `w`. -/
def mul (x : FVec Ideal S16384x2816 .bf16) (w : FVec Ideal S2816x1024 .bf16) : FVec Ideal S16384x1024 .f32 := fun i =>
  ∑ k : Fin 2816, x (ix2 (i 0) k) * w (ix2 k (i 1))

/-- The gate of `a` times `b`. -/
def gated (a b : FVec Ideal S16384x2816 .bf16) : FVec Ideal S16384x2816 .bf16 := fun i => swish (a i) * b i

/-- The gradient of `a` from the gradient `d` of the gated product. -/
def gradA (d a b : FVec Ideal S16384x2816 .bf16) : FVec Ideal S16384x2816 .bf16 := fun i => d i * b i * swish' (a i)

/-- The gradient of `b`. -/
def gradB (d a : FVec Ideal S16384x2816 .bf16) : FVec Ideal S16384x2816 .bf16 := fun i => d i * swish (a i)

/-- The sum of two products. -/
def mul2 (x x' : FVec Ideal S16384x2816 .bf16) (w w' : FVec Ideal S2816x1024 .bf16) : FVec Ideal S16384x1024 .f32 := fun i =>
  mul x w i + mul x' w' i

theorem at_a (t : Fin cfg0.N) (y : S512x1408.Idx) : out0_3 (iblk0 V c 0 t) (iblk0 V c 1 t) (iblk0 V c 2 t) y = mulT (V c main_arg0) (V c main_v1) (ix2 (rowOf _ (mod_lt t) (y 0)) (colOf _ (div_lt t) (y 1))) := by
  rw [up_a]
  simp only [mulT, mul, gated, gradA, gradB, mul2, rowsProd, in0_0, in0_1, in0_2]
  rfl

/-- The first call's first result: the first product. -/
theorem arr_a : (dat0 V c).arrAt 3 cfg0.N = mulT (V c main_arg0) (V c main_v1) := by
  refine (dat0 V c).arrAt_eq_of_covers 3 _ (by decide +kernel) fun t hf y => ?_
  rw [after0_3]
  exact (at_a V c t y).trans (congrArg _ (emb0_3 t y).symm)

theorem at_b (t : Fin cfg0.N) (y : S512x1408.Idx) : out0_4 (iblk0 V c 0 t) (iblk0 V c 1 t) (iblk0 V c 2 t) y = mulT (V c main_arg0) (V c main_v3) (ix2 (rowOf _ (mod_lt t) (y 0)) (colOf _ (div_lt t) (y 1))) := by
  rw [up_b]
  simp only [mulT, mul, gated, gradA, gradB, mul2, rowsProd, in0_0, in0_1, in0_2]
  rfl

/-- The first call's second result: the second product. -/
theorem arr_b : (dat0 V c).arrAt 4 cfg0.N = mulT (V c main_arg0) (V c main_v3) := by
  refine (dat0 V c).arrAt_eq_of_covers 4 _ (by decide +kernel) fun t hf y => ?_
  rw [after0_4]
  exact (at_b V c t y).trans (congrArg _ (emb0_4 t y).symm)

theorem at_u (t : Fin cfg0.N) (y : S512x1408.Idx) : out0_5 (iblk0 V c 0 t) (iblk0 V c 1 t) (iblk0 V c 2 t) y = gated (mulT (V c main_arg0) (V c main_v1)) (mulT (V c main_arg0) (V c main_v3)) (ix2 (rowOf _ (mod_lt t) (y 0)) (colOf _ (div_lt t) (y 1))) := by
  rw [up_u]
  simp only [mulT, mul, gated, gradA, gradB, mul2, rowsProd, in0_0, in0_1, in0_2]
  rfl

/-- The first call's third result: the gated product. -/
theorem arr_u : (dat0 V c).arrAt 5 cfg0.N = gated (mulT (V c main_arg0) (V c main_v1)) (mulT (V c main_arg0) (V c main_v3)) := by
  refine (dat0 V c).arrAt_eq_of_covers 5 _ (by decide +kernel) fun t hf y => ?_
  rw [after0_5]
  exact (at_u V c t y).trans (congrArg _ (emb0_5 t y).symm)

section Second
variable (t : Fin cfg1.N)

theorem in1_0 (y : S512x2816.Idx) : iblk1 V c 0 t y = V c main_v5_2 (ix2 (rowOf _ t.isLt (y 0)) (y 1)) := by
  blk_point [iblk1, idx1 t, rowOf]

theorem in1_1 (y : S2816x1024.Idx) : iblk1 V c 1 t y = V c main_v4 (ix2 (y 0) (y 1)) := by
  blk_point [iblk1, idx1 t]

theorem emb1_2 (y : S512x1024.Idx) : (win1_2.blk t).view.emb y = ix2 (rowOf _ t.isLt (y 0)) (y 1) := by
  blk_ext [idx1 t, rowOf]

end Second

theorem at_o (t : Fin cfg1.N) (y : S512x1024.Idx) : out1_2 (iblk1 V c 0 t) (iblk1 V c 1 t) y = mul (V c main_v5_2) (V c main_v4) (ix2 (rowOf _ t.isLt (y 0)) (y 1)) := by
  rw [down]
  simp only [mulT, mul, gated, gradA, gradB, mul2, rowsProd, in1_0, in1_1]
  rfl

/-- The second call's result. -/
theorem arr_o : (dat1 V c).arrAt 2 cfg1.N = mul (V c main_v5_2) (V c main_v4) := by
  refine (dat1 V c).arrAt_eq_of_covers 2 _ (by decide +kernel) fun t hf y => ?_
  rw [after1_2]
  exact (at_o V c t y).trans (congrArg _ (emb1_2 t y).symm)

section Third
variable (t : Fin cfg2.N)

theorem in2_0 (y : S512x1024.Idx) : iblk2 V c 0 t y = V c main_arg4 (ix2 (rowOf _ (mod_lt t) (y 0)) (y 1)) := by
  blk_point [iblk2, idx2 t, rowOf]

theorem in2_1 (y : S1408x1024.Idx) : iblk2 V c 1 t y = V c main_v4 (ix2 (colOf _ (div_lt t) (y 0)) (y 1)) := by
  blk_point [iblk2, idx2 t, colOf]

theorem in2_2 (y : S512x1408.Idx) : iblk2 V c 2 t y = V c main_v5_0 (ix2 (rowOf _ (mod_lt t) (y 0)) (colOf _ (div_lt t) (y 1))) := by
  blk_point [iblk2, idx2 t, rowOf, colOf]

theorem in2_3 (y : S512x1408.Idx) : iblk2 V c 3 t y = V c main_v5_1 (ix2 (rowOf _ (mod_lt t) (y 0)) (colOf _ (div_lt t) (y 1))) := by
  blk_point [iblk2, idx2 t, rowOf, colOf]

theorem emb2_4 (y : S512x1408.Idx) : (win2_4.blk t).view.emb y = ix2 (rowOf _ (mod_lt t) (y 0)) (colOf _ (div_lt t) (y 1)) := by
  blk_ext [idx2 t, rowOf, colOf]

theorem emb2_5 (y : S512x1408.Idx) : (win2_5.blk t).view.emb y = ix2 (rowOf _ (mod_lt t) (y 0)) (colOf _ (div_lt t) (y 1)) := by
  blk_ext [idx2 t, rowOf, colOf]

end Third

theorem at_da (t : Fin cfg2.N) (y : S512x1408.Idx) : out2_4 (iblk2 V c 0 t) (iblk2 V c 1 t) (iblk2 V c 2 t) (iblk2 V c 3 t) y = gradA (mulT (V c main_arg4) (V c main_v4)) (V c main_v5_0) (V c main_v5_1) (ix2 (rowOf _ (mod_lt t) (y 0)) (colOf _ (div_lt t) (y 1))) := by
  rw [down_da]
  simp only [mulT, mul, gated, gradA, gradB, mul2, rowsProd, in2_0, in2_1, in2_2, in2_3]
  rfl

/-- The third call's first result. -/
theorem arr_da : (dat2 V c).arrAt 4 cfg2.N = gradA (mulT (V c main_arg4) (V c main_v4)) (V c main_v5_0) (V c main_v5_1) := by
  refine (dat2 V c).arrAt_eq_of_covers 4 _ (by decide +kernel) fun t hf y => ?_
  rw [after2_4]
  exact (at_da V c t y).trans (congrArg _ (emb2_4 t y).symm)

theorem at_db (t : Fin cfg2.N) (y : S512x1408.Idx) : out2_5 (iblk2 V c 0 t) (iblk2 V c 1 t) (iblk2 V c 2 t) (iblk2 V c 3 t) y = gradB (mulT (V c main_arg4) (V c main_v4)) (V c main_v5_0) (ix2 (rowOf _ (mod_lt t) (y 0)) (colOf _ (div_lt t) (y 1))) := by
  rw [down_db]
  simp only [mulT, mul, gated, gradA, gradB, mul2, rowsProd, in2_0, in2_1, in2_2, in2_3]
  rfl

/-- The third call's second result. -/
theorem arr_db : (dat2 V c).arrAt 5 cfg2.N = gradB (mulT (V c main_arg4) (V c main_v4)) (V c main_v5_0) := by
  refine (dat2 V c).arrAt_eq_of_covers 5 _ (by decide +kernel) fun t hf y => ?_
  rw [after2_5]
  exact (at_db V c t y).trans (congrArg _ (emb2_5 t y).symm)

section Fourth
variable (t : Fin cfg3.N)

theorem in3_0 (y : S512x2816.Idx) : iblk3 V c 0 t y = V c main_v7_0 (ix2 (rowOf _ t.isLt (y 0)) (y 1)) := by
  blk_point [iblk3, idx3 t, rowOf]

theorem in3_1 (y : S512x2816.Idx) : iblk3 V c 1 t y = V c main_v7_1 (ix2 (rowOf _ t.isLt (y 0)) (y 1)) := by
  blk_point [iblk3, idx3 t, rowOf]

theorem in3_2 (y : S2816x1024.Idx) : iblk3 V c 2 t y = V c main_v1 (ix2 (y 0) (y 1)) := by
  blk_point [iblk3, idx3 t]

theorem in3_3 (y : S2816x1024.Idx) : iblk3 V c 3 t y = V c main_v3 (ix2 (y 0) (y 1)) := by
  blk_point [iblk3, idx3 t]

theorem emb3_4 (y : S512x1024.Idx) : (win3_4.blk t).view.emb y = ix2 (rowOf _ t.isLt (y 0)) (y 1) := by
  blk_ext [idx3 t, rowOf]

end Fourth

theorem at_dh (t : Fin cfg3.N) (y : S512x1024.Idx) : out3_4 (iblk3 V c 0 t) (iblk3 V c 1 t) (iblk3 V c 2 t) (iblk3 V c 3 t) y = mul2 (V c main_v7_0) (V c main_v7_1) (V c main_v1) (V c main_v3) (ix2 (rowOf _ t.isLt (y 0)) (y 1)) := by
  rw [up_dx]
  simp only [mulT, mul, gated, gradA, gradB, mul2, rowsProd, in3_0, in3_1, in3_2, in3_3]
  rfl

/-- The fourth call's result. -/
theorem arr_dh : (dat3 V c).arrAt 4 cfg3.N = mul2 (V c main_v7_0) (V c main_v7_1) (V c main_v1) (V c main_v3) := by
  refine (dat3 V c).arrAt_eq_of_covers 4 _ (by decide +kernel) fun t hf y => ?_
  rw [after3_4]
  exact (at_dh V c t y).trans (congrArg _ (emb3_4 t y).symm)

end Cert.Kernel2Ideal.Value
-- ==== Proof.FfnRef.lean ====
module

public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference2Ideal.Value

open Cert.Reference2Ideal Cert.Reference2Ideal.Gen

section Terms
variable (a0 a4 : FVec Ideal S16384x1024 .bf16) (w1 w3 : FVec Ideal S1024x2816 .f32) (w2 : FVec Ideal S2816x1024 .f32)

/-- The rows of `a0` times weights. -/
def upR : FVec Ideal S16384x2816 .f32 :=
  Host.dotGeneral dot_S16384x1024_S1024x2816_S16384x2816_1_0_0_1_n_n none (extf .f32 a0 bitsLt_bf16_f32) w1

/-- The gradient of the gated product: the incoming gradient times the second weights transposed. -/
def gradR : FVec Ideal S16384x2816 .f32 :=
  Host.dotGeneral dot_S16384x1024_S2816x1024_S16384x2816_1_1_0_0_n_n none (extf .f32 a4 bitsLt_bf16_f32) w2

/-- One everywhere. -/
def oneR : FVec Ideal S16384x2816 .f32 := broadcastInDim S16384x2816 ![] bcast_S_S16384x2816 (constant S_ .f32 0x3F800000#32)

/-- The logistic function, written out. -/
def sigR (x : FVec Ideal S16384x2816 .f32) : FVec Ideal S16384x2816 .f32 := Host.divf oneR (addf oneR (Host.exp (Host.negf x)))

/-- The result of the forward pass. -/
def oR : FVec Ideal S16384x1024 .f32 :=
  Host.dotGeneral dot_S16384x2816_S2816x1024_S16384x1024_1_0_0_1_n_n none
    (mulf (mulf (upR a0 w1) (sigR (upR a0 w1))) (upR a0 w3)) w2

/-- The gradient of its first factor. -/
def daR : FVec Ideal S16384x2816 .f32 :=
  addf (mulf (mulf (gradR a4 w2) (upR a0 w3)) (sigR (upR a0 w1)))
    (mulf (mulf (upR a0 w1) (mulf (gradR a4 w2) (upR a0 w3))) (mulf (sigR (upR a0 w1)) (subf oneR (sigR (upR a0 w1)))))

/-- The gradient of `h`. -/
def dhR : FVec Ideal S16384x1024 .f32 :=
  addf (Host.dotGeneral dot_S16384x2816_S1024x2816_S16384x1024_1_1_0_0_n_n none (mulf (mulf (upR a0 w1) (sigR (upR a0 w1))) (gradR a4 w2)) w3)
    (Host.dotGeneral dot_S16384x2816_S1024x2816_S16384x1024_1_1_0_0_n_n none (daR a0 a4 w1 w3 w2) w1)

theorem upR_at (i) : upR a0 w1 i = ∑ k : Fin 1024, a0 (ix2 (i 0) k) * w1 (ix2 k (i 1)) := by
  pointwise [upR]

theorem gradR_at (i) : gradR a4 w2 i = ∑ k : Fin 1024, a4 (ix2 (i 0) k) * w2 (ix2 (i 1) k) := by
  pointwise [gradR]

theorem sigR_at (x) (i) : sigR x i = Ideal.logistic (x i) := by
  pointwise [sigR, oneR]
  rfl

theorem oR_at (i) : oR a0 w1 w3 w2 i
    = ∑ k : Fin 2816, upR a0 w1 (ix2 (i 0) k) * Ideal.logistic (upR a0 w1 (ix2 (i 0) k)) * upR a0 w3 (ix2 (i 0) k) * w2 (ix2 k (i 1)) := by
  pointwise [oR]
  simp only [sigR_at]

theorem daR_at (i) : daR a0 a4 w1 w3 w2 i = gradR a4 w2 i * upR a0 w3 i * Ideal.logistic (upR a0 w1 i)
    + upR a0 w1 i * (gradR a4 w2 i * upR a0 w3 i) * (Ideal.logistic (upR a0 w1 i) * (1 - Ideal.logistic (upR a0 w1 i))) := by
  pointwise [daR, oneR]
  simp only [sigR_at]

theorem dhR_at (i) : dhR a0 a4 w1 w3 w2 i
    = (∑ k : Fin 2816, upR a0 w1 (ix2 (i 0) k) * Ideal.logistic (upR a0 w1 (ix2 (i 0) k)) * gradR a4 w2 (ix2 (i 0) k) * w3 (ix2 (i 1) k))
    + ∑ k : Fin 2816, daR a0 a4 w1 w3 w2 (ix2 (i 0) k) * w1 (ix2 (i 1) k) := by
  pointwise [dhR]
  simp only [sigR_at]

end Terms

end Cert.Reference2Ideal.Value
-- ==== Proof.FfnFinite.lean ====
module

public import proofs.«01_k».proof.Proof.Gen.Pre_finite
public import Idealize.ShloMosaic.Lib.ReduceAll
public import Idealize.ShloMosaic.Lib.KernelVsHost
public import Idealize.ShloMosaic.Lib.Pipeline.ValueKit

@[expose] public section

set_option maxRecDepth 16384

noncomputable section

open Idealize.ShloMosaic

namespace Cert.Pre_finite

open Cert.Pre_finite.Gen

/-- A value that is a real number. -/
def IsReal (x : EReal) : Prop := ∃ r : ℝ, x = r

theorem isReal_mul {x y : EReal} : IsReal x → IsReal y → IsReal (x * y) := by
  rintro ⟨r, rfl⟩ ⟨s, rfl⟩
  exact ⟨r * s, (EReal.coe_mul r s).symm⟩

theorem isReal_add {x y : EReal} : IsReal x → IsReal y → IsReal (x + y) := by
  rintro ⟨r, rfl⟩ ⟨s, rfl⟩
  exact ⟨r + s, (EReal.coe_add r s).symm⟩

/-- A finite sum of real numbers is a real number. -/
theorem isReal_sum {n : ℕ} (f : Fin n → EReal) (h : ∀ k, IsReal (f k)) : IsReal (∑ k, f k) :=
  Finset.sum_induction f IsReal (fun _ _ => isReal_add) ⟨0, rfl⟩ fun k _ => h k

/-- `|x| < ∞` says that `x` is a real number. -/
theorem isReal_of_cmp (x : EReal)
    (h : FloatOps.cmpf .olt (FloatOps.hostAbsf (F := Ideal) (φ := .f32) x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => simp [Ideal.cmp] at h'
  | top => simp [Ideal.cmp] at h'
  | coe r => exact ⟨r, rfl⟩

instance : Subsingleton S_.Idx := ⟨fun a b => funext fun k => k.elim0⟩

/-- A conjunction of bits is set when both are. -/
theorem andi_split {x y : IVec S_ 1} {i} (h : andi x y i = 1#1) : x i = 1#1 ∧ y i = 1#1 := by
  have h' : x i &&& y i = 1#1 := h
  revert h'
  generalize x i = p
  generalize y i = q
  revert p q
  decide

/-- The condition the claim takes says that every entry of the five arguments is a real number. -/
theorem finite_args {a0 : FVec Ideal S16384x1024 .bf16} {a1 a2 : FVec Ideal S1024x2816 .f32} {a3 : FVec Ideal S2816x1024 .f32}
    {a4 : FVec Ideal S16384x1024 .bf16} (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have h := congrFun h (Shape.Idx.first h_S_)
  simp only [fn, fn_part1] at h
  obtain ⟨h, h4⟩ := andi_split h
  obtain ⟨h, h3⟩ := andi_split h
  obtain ⟨h, h2⟩ := andi_split h
  obtain ⟨h0, h1⟩ := andi_split h
  exact ⟨fun i => isReal_of_cmp _ (Host.reduce_andi_all _ _ _ _ _ h0 i), fun i => isReal_of_cmp _ (Host.reduce_andi_all _ _ _ _ _ h1 i),
    fun i => isReal_of_cmp _ (Host.reduce_andi_all _ _ _ _ _ h2 i), fun i => isReal_of_cmp _ (Host.reduce_andi_all _ _ _ _ _ h3 i),
    fun i => isReal_of_cmp _ (Host.reduce_andi_all _ _ _ _ _ h4 i)⟩

end Cert.Pre_finite
-- ==== Proof.FfnFinal.lean ====
module

public import proofs.«01_k».proof.Proof.FfnArray
public import proofs.«01_k».proof.Proof.FfnRun
public import proofs.«01_k».proof.Proof.FfnRef
public import proofs.«01_k».proof.Proof.FfnFinite

@[expose] public section

set_option maxRecDepth 16384

noncomputable section

open Idealize.ShloMosaic Idealize.ShloMosaic.TcCoe Idealize.SL.Sem
open Cert.Pre_finite (IsReal isReal_mul isReal_sum)

namespace Cert.Kernel2Ideal.Value

open Cert.Kernel2Ideal Cert.Kernel2Ideal.Gen
open Cert.Reference2Ideal.Value (upR gradR sigR oR daR dhR upR_at gradR_at oR_at daR_at dhR_at)

variable (m : (ℓ : Loc nD τ sig) → Buf (Elt Ideal) ℓ) (ρ : Dev nD → PrngReg) (c : Dev nD)

/-! ## The host's weights -/

/-- Weights transposed (and cast, which changes no value here). -/
def turned (w : FVec Ideal S1024x2816 .f32) : FVec Ideal S2816x1024 .bf16 := fun i => w (ix2 (i 1) (i 0))

/-- Weights cast. -/
def narrowed (w : FVec Ideal S2816x1024 .f32) : FVec Ideal S2816x1024 .bf16 := fun i => w i

/-- The host's operations for them. -/
def turnedH (w : FVec Ideal S1024x2816 .f32) : FVec Ideal S2816x1024 .bf16 :=
  truncf .bf16 (transpose S2816x1024 [1, 0] w transposes_S1024x2816_S2816x1024_1_0) bitsLt_bf16_f32

def narrowedH (w : FVec Ideal S2816x1024 .f32) : FVec Ideal S2816x1024 .bf16 := truncf .bf16 w bitsLt_bf16_f32

theorem turned_eq (w) : turnedH w = turned w := by
  funext i
  pointwise [turnedH, turned]

theorem narrowed_eq (w) : narrowedH w = narrowed w := by
  funext i
  pointwise [narrowedH, narrowed]

theorem val_w1 : V1 m ρ c main_v1 = turned (m ((c : Thread nD τ).loc main_arg1)) := by
  have : V1 m ρ c main_v1 = turnedH (m ((c : Thread nD τ).loc main_arg1)) := by
    show StableHlo.after hostOps0 (W0 m ρ c) main_v1 = _
    after_results
    rfl
  exact this.trans (turned_eq _)

theorem val_w3 : V1 m ρ c main_v3 = turned (m ((c : Thread nD τ).loc main_arg2)) := by
  have : V1 m ρ c main_v3 = turnedH (m ((c : Thread nD τ).loc main_arg2)) := by
    show StableHlo.after hostOps0 (W0 m ρ c) main_v3 = _
    after_results
    rfl
  exact this.trans (turned_eq _)

theorem val_w2 : V1 m ρ c main_v4 = narrowed (m ((c : Thread nD τ).loc main_arg3)) := by
  have : V1 m ρ c main_v4 = narrowedH (m ((c : Thread nD τ).loc main_arg3)) := by
    show StableHlo.after hostOps0 (W0 m ρ c) main_v4 = _
    after_results
    rfl
  exact this.trans (narrowed_eq _)

/-! ## What each call leaves -/

/-- Rows times weights. -/
def upK (h : FVec Ideal S16384x1024 .bf16) (w : FVec Ideal S1024x2816 .f32) := mulT h (turned w)

theorem val_h : V1 m ρ c main_arg0 = m ((c : Thread nD τ).loc main_arg0) := W1_of m ρ c main_arg0 (by decide)

theorem val_a : V2 m ρ c main_v5_0 = upK (m ((c : Thread nD τ).loc main_arg0)) (m ((c : Thread nD τ).loc main_arg1)) :=
  (W2_arr m ρ c 3).trans ((arr_a (V1 m ρ) c).trans (congrArg₂ mulT (val_h m ρ c) (val_w1 m ρ c)))

theorem val_b : V2 m ρ c main_v5_1 = upK (m ((c : Thread nD τ).loc main_arg0)) (m ((c : Thread nD τ).loc main_arg2)) :=
  (W2_arr m ρ c 4).trans ((arr_b (V1 m ρ) c).trans (congrArg₂ mulT (val_h m ρ c) (val_w3 m ρ c)))

theorem val_u : V2 m ρ c main_v5_2 = gated (upK (m ((c : Thread nD τ).loc main_arg0)) (m ((c : Thread nD τ).loc main_arg1)))
    (upK (m ((c : Thread nD τ).loc main_arg0)) (m ((c : Thread nD τ).loc main_arg2))) :=
  (W2_arr m ρ c 5).trans ((arr_u (V1 m ρ) c).trans (congrArg₂ gated (congrArg₂ mulT (val_h m ρ c) (val_w1 m ρ c)) (congrArg₂ mulT (val_h m ρ c) (val_w3 m ρ c))))

theorem val_o : (dat1 (V2 m ρ) c).arrAt 2 cfg1.N = mul (gated (upK (m ((c : Thread nD τ).loc main_arg0)) (m ((c : Thread nD τ).loc main_arg1)))
    (upK (m ((c : Thread nD τ).loc main_arg0)) (m ((c : Thread nD τ).loc main_arg2)))) (narrowed (m ((c : Thread nD τ).loc main_arg3))) :=
  (arr_o (V2 m ρ) c).trans (congrArg₂ mul (val_u m ρ c) ((W2_of m ρ c main_v4 (by decide)).trans (val_w2 m ρ c)))

/-- The gradient of the gated product. -/
def gradK (d : FVec Ideal S16384x1024 .bf16) (w : FVec Ideal S2816x1024 .f32) := mulT d (narrowed w)

theorem val_d : mulT (V3 m ρ c main_arg4) (V3 m ρ c main_v4) = gradK (m ((c : Thread nD τ).loc main_arg4)) (m ((c : Thread nD τ).loc main_arg3)) :=
  congrArg₂ mulT ((W3_of m ρ c main_arg4 (by decide)).trans ((W2_of m ρ c main_arg4 (by decide)).trans (W1_of m ρ c main_arg4 (by decide))))
    ((W3_of m ρ c main_v4 (by decide)).trans ((W2_of m ρ c main_v4 (by decide)).trans (val_w2 m ρ c)))

theorem val_a3 : V3 m ρ c main_v5_0 = upK (m ((c : Thread nD τ).loc main_arg0)) (m ((c : Thread nD τ).loc main_arg1)) :=
  (W3_of m ρ c main_v5_0 (by decide)).trans (val_a m ρ c)

theorem val_b3 : V3 m ρ c main_v5_1 = upK (m ((c : Thread nD τ).loc main_arg0)) (m ((c : Thread nD τ).loc main_arg2)) :=
  (W3_of m ρ c main_v5_1 (by decide)).trans (val_b m ρ c)

theorem val_da : V4 m ρ c main_v7_0 = gradA (gradK (m ((c : Thread nD τ).loc main_arg4)) (m ((c : Thread nD τ).loc main_arg3)))
    (upK (m ((c : Thread nD τ).loc main_arg0)) (m ((c : Thread nD τ).loc main_arg1))) (upK (m ((c : Thread nD τ).loc main_arg0)) (m ((c : Thread nD τ).loc main_arg2))) := by
  refine (W4_arr m ρ c 4).trans ((arr_da (V3 m ρ) c).trans ?_)
  rw [val_d, val_a3, val_b3]

theorem val_db : V4 m ρ c main_v7_1 = gradB (gradK (m ((c : Thread nD τ).loc main_arg4)) (m ((c : Thread nD τ).loc main_arg3)))
    (upK (m ((c : Thread nD τ).loc main_arg0)) (m ((c : Thread nD τ).loc main_arg1))) := by
  refine (W4_arr m ρ c 5).trans ((arr_db (V3 m ρ) c).trans ?_)
  rw [val_d, val_a3]

theorem val_w1' : V4 m ρ c main_v1 = turned (m ((c : Thread nD τ).loc main_arg1)) :=
  (W4_of m ρ c main_v1 (by decide)).trans ((W3_of m ρ c main_v1 (by decide)).trans ((W2_of m ρ c main_v1 (by decide)).trans (val_w1 m ρ c)))

theorem val_w3' : V4 m ρ c main_v3 = turned (m ((c : Thread nD τ).loc main_arg2)) :=
  (W4_of m ρ c main_v3 (by decide)).trans ((W3_of m ρ c main_v3 (by decide)).trans ((W2_of m ρ c main_v3 (by decide)).trans (val_w3 m ρ c)))

/-! ## The two sides, entry by entry -/

theorem up_eq (h w i) : upK h w i = upR h w i :=
  (upR_at h w i).symm

theorem grad_eq (d w i) : gradK d w i = gradR d w i :=
  (gradR_at d w i).symm

/-- The gradient of the gate: the kernel's factored form and the reference's sum agree on real numbers (not at infinities, where a
    product does not distribute over a sum). -/
theorem gate_eq {d b x : EReal} (hd : IsReal d) (hb : IsReal b) (hx : IsReal x) :
    d * b * swish' x = d * b * Ideal.logistic x + x * (d * b) * (Ideal.logistic x * (1 - Ideal.logistic x)) := by
  obtain ⟨d, rfl⟩ := hd
  obtain ⟨b, rfl⟩ := hb
  obtain ⟨x, rfl⟩ := hx
  unfold swish'
  rw [Ideal.logistic_coe]
  generalize (1 + Real.exp (-x))⁻¹ = s
  norm_cast
  ring

/-- The result of the forward pass is the reference's. -/
theorem final_o : (dat1 (V2 m ρ) c).arrAt 2 cfg1.N = oR (m ((c : Thread nD τ).loc main_arg0)) (m ((c : Thread nD τ).loc main_arg1))
    (m ((c : Thread nD τ).loc main_arg2)) (m ((c : Thread nD τ).loc main_arg3)) := by
  rw [val_o]
  funext i
  refine Eq.trans ?_ (oR_at _ _ _ _ i).symm
  unfold mul
  refine Finset.sum_congr rfl fun k _ => ?_
  rw [← up_eq, ← up_eq]
  rfl

/-- The kernel's gradient of the first factor is the reference's, for real arguments. -/
theorem da_eq {h d : FVec Ideal S16384x1024 .bf16} {w1 w3 : FVec Ideal S1024x2816 .f32} {w2 : FVec Ideal S2816x1024 .f32}
    (hh : ∀ i, IsReal (h i)) (h1 : ∀ i, IsReal (w1 i)) (h3 : ∀ i, IsReal (w3 i)) (h2 : ∀ i, IsReal (w2 i)) (hd : ∀ i, IsReal (d i)) (i) :
    gradA (gradK d w2) (upK h w1) (upK h w3) i = daR h d w1 w3 w2 i := by
  refine Eq.trans ?_ (daR_at _ _ _ _ _ i).symm
  rw [← up_eq, ← up_eq, ← grad_eq]
  exact gate_eq (isReal_sum _ fun k => isReal_mul (hd _) (h2 _)) (isReal_sum _ fun k => isReal_mul (hh _) (h3 _))
    (isReal_sum _ fun k => isReal_mul (hh _) (h1 _))

theorem db_eq (h d w1 w2 i) : gradB (gradK d w2) (upK h w1) i = upR h w1 i * Ideal.logistic (upR h w1 i) * gradR d w2 i := by
  rw [← up_eq, ← grad_eq]
  exact mul_comm _ _

/-- The gradient of `h` is the reference's, for real arguments. -/
theorem final_dh (hh : ∀ i, IsReal (m ((c : Thread nD τ).loc main_arg0) i)) (h1 : ∀ i, IsReal (m ((c : Thread nD τ).loc main_arg1) i))
    (h3 : ∀ i, IsReal (m ((c : Thread nD τ).loc main_arg2) i)) (h2 : ∀ i, IsReal (m ((c : Thread nD τ).loc main_arg3) i))
    (hd : ∀ i, IsReal (m ((c : Thread nD τ).loc main_arg4) i)) :
    (dat3 (V4 m ρ) c).arrAt 4 cfg3.N = dhR (m ((c : Thread nD τ).loc main_arg0)) (m ((c : Thread nD τ).loc main_arg4)) (m ((c : Thread nD τ).loc main_arg1))
      (m ((c : Thread nD τ).loc main_arg2)) (m ((c : Thread nD τ).loc main_arg3)) := by
  refine (arr_dh (V4 m ρ) c).trans ?_
  rw [val_da, val_db, val_w1', val_w3']
  funext i
  refine Eq.trans ?_ (dhR_at _ _ _ _ _ i).symm
  refine (add_comm _ _).trans (congrArg₂ (· + ·) ?_ ?_)
  · exact Finset.sum_congr rfl fun k _ => congrArg (· * _) (db_eq _ _ _ _ _)
  · exact Finset.sum_congr rfl fun k _ => congrArg (· * _) (da_eq hh h1 h3 h2 hd _)

end Cert.Kernel2Ideal.Value
-- ==== Proof.Prod5.lean ====
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The reference: a product `x w`, and the gradient of `x` -/

namespace Cert.Reference5Ideal.Value

open Cert.Reference5Ideal Cert.Reference5Ideal.Gen

/-- The product. -/
def yR (a0 : FVec Ideal S16384x1024 .bf16) (a1 : FVec Ideal S1024x1024 .f32) : FVec Ideal S16384x1024 .f32 :=
  Host.dotGeneral dot_S16384x1024_S1024x1024_S16384x1024_1_0_0_1_n_n none (extf .f32 a0 bitsLt_bf16_f32) a1

/-- The gradient of `x`. -/
def dxR (a2 : FVec Ideal S16384x1024 .bf16) (a1 : FVec Ideal S1024x1024 .f32) : FVec Ideal S16384x1024 .f32 :=
  Host.dotGeneral dot_S16384x1024_S1024x1024_S16384x1024_1_1_0_0_n_n none (extf .f32 a2 bitsLt_bf16_f32) a1

theorem yR_at (a0 a1) (i) : yR a0 a1 i = ∑ k : Fin 1024, a0 (ix2 (i 0) k) * a1 (ix2 k (i 1)) := by
  pointwise [yR]

theorem dxR_at (a2 a1) (i) : dxR a2 a1 i = ∑ k : Fin 1024, a2 (ix2 (i 0) k) * a1 (ix2 (i 1) k) := by
  pointwise [dxR]

end Cert.Reference5Ideal.Value

namespace Cert.Kernel5Ideal.Value

open Cert.Kernel5Ideal Cert.Kernel5Ideal.Gen
open Cert.Reference5Ideal.Value (yR dxR yR_at dxR_at)

/-! ## The two calls run one after the other -/

section Run

variable {F : FTy → Type} [FloatOps F]

/-- The propositions the run is stated in. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The calls run one after the other, and every buffer ends at what they leave in it. -/
theorem run_all : θ_run defs (onTc (τ := τ) (main (F := F))) ⟨m, fun _ => 0, ρ⟩ fun r =>
    ∀ c : Dev nD, ∀ b ∈ Pipeline.ucRefs τ sig, r.2.mem ((c : Thread nD τ).1, b) = W3 m ρ c b := by
  refine Pipeline.θ_run_regions_kit_sems (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?start)
    (QY := fun c s => ∀ b ∈ Pipeline.ucRefs τ sig, s.mem ((c : Thread nD τ).1, b) = W3 m ρ c b)
    (hfin := ?finish) (hQ := fun _ h _ => h)
  case pipes => simp only [segs, Pipeline.Seg.pipes_host, Pipeline.Seg.pipes_region, Pipeline.Seg.pipes_nil]; decide
  case tokens =>
    iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case start =>
    refine Pipeline.initEach L lv fun c => ?_
    have e : (unscopedBufs c (fun b => m ((c : Thread nD τ).loc b)) : sProp 𝕄)
        = StableHlo.held (c : Thread nD τ) (Pipeline.ucRefs τ sig) (W0 m ρ c) := Pipeline.unscopedBufs_held c (W0 m ρ c)
    rw [e]
    iintro ⟨⟨Hbufs, -, Howes, -, Hprng, -⟩, -⟩
    imodintro
    isplitl [Hbufs]
    · iexact Hbufs
    isplitl [Hprng]
    · iexists _
      iexact Hprng
    · iexists ∅
      iexact Howes
  case finish =>
    intro c s
    iintro ⟨⟨Hbufs, -⟩, Hstate⟩
    unfold StableHlo.held
    imodintro
    iapply (pointsTo_read_all (Pipeline.ucRefs τ sig) (fun b => ((c : Thread nD τ).1, b)) (W3 m ρ c) s)
    isplitl [Hbufs] <;> iassumption

/-- The two results end at what the two calls leave, the arguments as they were. -/
theorem run_blocks : θ_run defs (onTc (τ := τ) (main (F := F))) ⟨m, fun _ => 0, ρ⟩ fun r => ∀ c : Dev nD,
    r.2.mem ((c.tc : Thread nD τ).loc main_v1) = (dat0 (V1 m ρ) c).arrAt 2 cfg0.N
    ∧ r.2.mem ((c.tc : Thread nD τ).loc main_v2) = (dat1 (V2 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨?_, ?_, ?_, ?_, ?_⟩) (run_all m ρ)
  · refine (h c _ (mem_uc main_v1 (by decide))).trans ?_
    rw [W3_of m ρ c main_v1 (by decide)]
    exact W2_arr m ρ c 2
  · exact (h c _ (mem_uc main_v2 (by decide))).trans (W3_arr m ρ c 2)
  · exact (h c _ (mem_uc main_arg0 (by decide))).trans (W3_main_arg0 m ρ c)
  · exact (h c _ (mem_uc main_arg1 (by decide))).trans (W3_main_arg1 m ρ c)
  · exact (h c _ (mem_uc main_arg2 (by decide))).trans (W3_main_arg2 m ρ c)

end Run

/-! ## One block of each call -/

theorem blk_y (x0 x1) (y) : out0_2 (F := Ideal) x0 x1 y = ∑ k : Fin 1024, x0 (ix2 (y 0) k) * x1 (ix2 k (y 1)) := by
  frame_out
  open_payloads
  pointwise []

theorem blk_dx (x0 x1) (y) : out1_2 (F := Ideal) x0 x1 y = ∑ k : Fin 1024, x0 (ix2 (y 0) k) * x1 (ix2 (y 1) k) := by
  frame_out
  open_payloads
  pointwise []

/-! ## The arrays the calls leave -/

/-- Row `a` of block `b` of rows. -/
abbrev rowOf (b : ℕ) (hb : b < 32) (a : Fin 512) : Fin 16384 := ⟨b * 512 + a, by omega⟩

/-- Point `t` is the block of rows `t % 32` and the block of columns `t / 32`. -/
theorem idx0 : ∀ t : Fin cfg0.N, win0_0.index t = ![t.val % 32, 0] ∧ win0_1.index t = ![0, t.val / 32] ∧ win0_2.index t = ![t.val % 32, t.val / 32] :=
  (by decide +kernel : ∀ t : Fin grid0.N, _)

/-- Column `a` of block `b` of columns. -/
abbrev colOf0 (b : ℕ) (hb : b < 1) (a : Fin 1024) : Fin 1024 := ⟨b * 1024 + a, by omega⟩

theorem mod_lt0 (t : Fin cfg0.N) : t.val % 32 < 32 := Nat.mod_lt _ (by decide)
theorem div_lt0 (t : Fin cfg0.N) : t.val / 32 < 1 := by have : t.val < 32 := t.isLt; omega

/-- The product of a call, as arrays. -/
def prod0 (x : FVec Ideal S16384x1024 .bf16) (w : FVec Ideal S1024x1024 .bf16) : FVec Ideal S16384x1024 .f32 := fun i =>
  ∑ k : Fin 1024, x (ix2 (i 0) k) * w (ix2 k (i 1))

/-- Point `t` is the block of rows `t % 32` and the block of columns `t / 32`. -/
theorem idx1 : ∀ t : Fin cfg1.N, win1_0.index t = ![t.val % 32, 0] ∧ win1_1.index t = ![t.val / 32, 0] ∧ win1_2.index t = ![t.val % 32, t.val / 32] :=
  (by decide +kernel : ∀ t : Fin grid1.N, _)

/-- Column `a` of block `b` of columns. -/
abbrev colOf1 (b : ℕ) (hb : b < 1) (a : Fin 1024) : Fin 1024 := ⟨b * 1024 + a, by omega⟩

theorem mod_lt1 (t : Fin cfg1.N) : t.val % 32 < 32 := Nat.mod_lt _ (by decide)
theorem div_lt1 (t : Fin cfg1.N) : t.val / 32 < 1 := by have : t.val < 32 := t.isLt; omega

/-- The product of a call, as arrays. -/
def prod1 (x : FVec Ideal S16384x1024 .bf16) (w : FVec Ideal S1024x1024 .bf16) : FVec Ideal S16384x1024 .f32 := fun i =>
  ∑ k : Fin 1024, x (ix2 (i 0) k) * w (ix2 (i 1) k)

attribute [local irreducible] out0_2 out1_2

/-- Every buffer's contents when a call starts. -/
abbrev Bufs := (c : Dev nD) → (b : Ref sig .tc) → Buf (Elt Ideal) ((c : Thread nD τ).loc b)

section Arrays
variable (V : Bufs) (c : Dev nD)

theorem in0_0 (t : Fin cfg0.N) (y : S512x1024.Idx) : iblk0 V c 0 t y = V c main_arg0 (ix2 (rowOf _ (mod_lt0 t) (y 0)) (y 1)) := by
  blk_point [iblk0, idx0 t, rowOf]

theorem in0_1 (t : Fin cfg0.N) (y : S1024x1024.Idx) : iblk0 V c 1 t y = V c main_v0 (ix2 (y 0) (colOf0 _ (div_lt0 t) (y 1))) := by
  blk_point [iblk0, idx0 t, colOf0]

theorem emb0 (t : Fin cfg0.N) (y : S512x1024.Idx) : (win0_2.blk t).view.emb y = ix2 (rowOf _ (mod_lt0 t) (y 0)) (colOf0 _ (div_lt0 t) (y 1)) := by
  blk_ext [idx0 t, rowOf, colOf0]

theorem at0 (t : Fin cfg0.N) (y : S512x1024.Idx) : out0_2 (iblk0 V c 0 t) (iblk0 V c 1 t) y
    = prod0 (V c main_arg0) (V c main_v0) (ix2 (rowOf _ (mod_lt0 t) (y 0)) (colOf0 _ (div_lt0 t) (y 1))) := by
  rw [blk_y]
  simp only [prod0, in0_0, in0_1]
  rfl

/-- What the call leaves. -/
theorem arr0 : (dat0 V c).arrAt 2 cfg0.N = prod0 (V c main_arg0) (V c main_v0) := by
  refine (dat0 V c).arrAt_eq_of_covers 2 _ (by decide +kernel) fun t hf y => ?_
  rw [after0_2]
  exact (at0 V c t y).trans (congrArg _ (emb0 t y).symm)

theorem in1_0 (t : Fin cfg1.N) (y : S512x1024.Idx) : iblk1 V c 0 t y = V c main_arg2 (ix2 (rowOf _ (mod_lt1 t) (y 0)) (y 1)) := by
  blk_point [iblk1, idx1 t, rowOf]

theorem in1_1 (t : Fin cfg1.N) (y : S1024x1024.Idx) : iblk1 V c 1 t y = V c main_v0 (ix2 (colOf1 _ (div_lt1 t) (y 0)) (y 1)) := by
  blk_point [iblk1, idx1 t, colOf1]

theorem emb1 (t : Fin cfg1.N) (y : S512x1024.Idx) : (win1_2.blk t).view.emb y = ix2 (rowOf _ (mod_lt1 t) (y 0)) (colOf1 _ (div_lt1 t) (y 1)) := by
  blk_ext [idx1 t, rowOf, colOf1]

theorem at1 (t : Fin cfg1.N) (y : S512x1024.Idx) : out1_2 (iblk1 V c 0 t) (iblk1 V c 1 t) y
    = prod1 (V c main_arg2) (V c main_v0) (ix2 (rowOf _ (mod_lt1 t) (y 0)) (colOf1 _ (div_lt1 t) (y 1))) := by
  rw [blk_dx]
  simp only [prod1, in1_0, in1_1]
  rfl

/-- What the call leaves. -/
theorem arr1 : (dat1 V c).arrAt 2 cfg1.N = prod1 (V c main_arg2) (V c main_v0) := by
  refine (dat1 V c).arrAt_eq_of_covers 2 _ (by decide +kernel) fun t hf y => ?_
  rw [after1_2]
  exact (at1 V c t y).trans (congrArg _ (emb1 t y).symm)

end Arrays

/-! ## The host's weights, and the two sides -/

variable (m : (ℓ : Loc nD τ sig) → Buf (Elt Ideal) ℓ) (ρ : Dev nD → PrngReg) (c : Dev nD)

/-- The weights as the host hands them to the calls. -/
def wK (w : FVec Ideal S1024x1024 .f32) : FVec Ideal S1024x1024 .bf16 :=
  truncf .bf16 w bitsLt_bf16_f32

theorem wK_at (w) (i) : wK w i = w i := by
  pointwise [wK]

theorem val_w : V1 m ρ c main_v0 = wK (m ((c : Thread nD τ).loc main_arg1)) := by
  show StableHlo.after hostOps0 (W0 m ρ c) main_v0 = _
  after_results
  rfl

/-- The product is the reference's. -/
theorem final_y : (dat0 (V1 m ρ) c).arrAt 2 cfg0.N = yR (m ((c : Thread nD τ).loc main_arg0)) (m ((c : Thread nD τ).loc main_arg1)) := by
  refine (arr0 (V1 m ρ) c).trans ?_
  rw [val_w]
  funext i
  refine Eq.trans ?_ (yR_at _ _ i).symm
  exact Finset.sum_congr rfl fun k _ => congrArg₂ (· * ·) (congrFun (W1_of m ρ c main_arg0 (by decide)) _) (wK_at _ _)

/-- The gradient of `x` is the reference's. -/
theorem final_dx : (dat1 (V2 m ρ) c).arrAt 2 cfg1.N = dxR (m ((c : Thread nD τ).loc main_arg2)) (m ((c : Thread nD τ).loc main_arg1)) := by
  refine (arr1 (V2 m ρ) c).trans ?_
  have hw : V2 m ρ c main_v0 = wK (m ((c : Thread nD τ).loc main_arg1)) := (W2_of m ρ c main_v0 (by decide)).trans (val_w m ρ c)
  have hx : V2 m ρ c main_arg2 = m ((c : Thread nD τ).loc main_arg2) := (W2_of m ρ c main_arg2 (by decide)).trans (W1_of m ρ c main_arg2 (by decide))
  rw [hw, hx]
  funext i
  refine Eq.trans ?_ (dxR_at _ _ i).symm
  exact Finset.sum_congr rfl fun k _ => congrArg₂ (· * ·) rfl (wK_at _ _)

end Cert.Kernel5Ideal.Value
-- ==== Proof.Dw6.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference6Ideal.Value

open Cert.Reference6Ideal Cert.Reference6Ideal.Gen

/-- The reference's gradient of the weights, as an array of its arguments. -/
def prodR (a0 : FVec Ideal S16384x1024 .bf16) (a1 : FVec Ideal S16384x1024 .bf16) : FVec Ideal S1024x1024 .bf16 :=
  truncf .bf16 (transpose S1024x1024 [1, 0] (Host.dotGeneral dot_S16384x1024_S16384x1024_S1024x1024_0_0_1_1_n_n none (extf .f32 a1 bitsLt_bf16_f32) (extf .f32 a0 bitsLt_bf16_f32)) transposes_S1024x1024_S1024x1024_1_0) bitsLt_bf16_f32

/-- An entry of it: a sum over all the rows. -/
theorem prodR_at (a0 a1) (j) : prodR a0 a1 j = ∑ k : Fin 16384, a1 (ix2 k (j 1)) * a0 (ix2 k (j 0)) := by
  pointwise [prodR]

end Cert.Reference6Ideal.Value

namespace Cert.Kernel6Ideal.Value

open Cert.Kernel6Ideal Cert.Kernel6Ideal.Gen
open Cert.Reference6Ideal.Value (prodR prodR_at)

/-- What the 2048 rows of one point add to a block of the product: `x0` transposed times `x1`. -/
def part (x0 : Vec Ideal S2048x1024 .bf16) (x1 : Vec Ideal S2048x1024 .bf16) : Vec Ideal S1024x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1024) : Fin 1024 := ⟨t.val / 8 * 1024 + a, by have : t.val < 8 := t.isLt; omega⟩

variable (m : (ℓ : Loc nD τ sig) → Buf (Elt Ideal) ℓ) (c : Dev nD) (t : Fin cfg0.N)

/-- The chunk of rows of the left factor. -/
theorem blk0 (y : S2048x1024.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1024x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  have : t.val < 8 := t.isLt
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

/-- Equal factors have equal products. -/
theorem same_term {a b a' b' : EReal} (ha : a = a') (hb : b = b') : a * b = b' * a' := by
  rw [ha, hb, mul_comm]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1024 + (y 0).val) hd
  · exact congrArg (ix2 · (y 1)) (Fin.ext (congrArg (· * 2048 + r.val) hs))

end Cert.Kernel6Ideal.Value
-- ==== Proof.Prod7.lean ====
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The reference: a product `x w`, and the gradient of `x` -/

namespace Cert.Reference7Ideal.Value

open Cert.Reference7Ideal Cert.Reference7Ideal.Gen

/-- The product. -/
def yR (a0 : FVec Ideal S16384x1024 .f32) (a1 : FVec Ideal S1024x1024 .f32) : FVec Ideal S16384x1024 .f32 :=
  Host.dotGeneral dot_S16384x1024_S1024x1024_S16384x1024_1_0_0_1_n_n none a0 a1

/-- The gradient of `x`. -/
def dxR (a2 : FVec Ideal S16384x1024 .bf16) (a1 : FVec Ideal S1024x1024 .f32) : FVec Ideal S16384x1024 .f32 :=
  Host.dotGeneral dot_S16384x1024_S1024x1024_S16384x1024_1_1_0_0_n_n none (extf .f32 a2 bitsLt_bf16_f32) a1

theorem yR_at (a0 a1) (i) : yR a0 a1 i = ∑ k : Fin 1024, a0 (ix2 (i 0) k) * a1 (ix2 k (i 1)) := by
  pointwise [yR]

theorem dxR_at (a2 a1) (i) : dxR a2 a1 i = ∑ k : Fin 1024, a2 (ix2 (i 0) k) * a1 (ix2 (i 1) k) := by
  pointwise [dxR]

end Cert.Reference7Ideal.Value

namespace Cert.Kernel7Ideal.Value

open Cert.Kernel7Ideal Cert.Kernel7Ideal.Gen
open Cert.Reference7Ideal.Value (yR dxR yR_at dxR_at)

/-! ## The two calls run one after the other -/

section Run

variable {F : FTy → Type} [FloatOps F]

/-- The propositions the run is stated in. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The calls run one after the other, and every buffer ends at what they leave in it. -/
theorem run_all : θ_run defs (onTc (τ := τ) (main (F := F))) ⟨m, fun _ => 0, ρ⟩ fun r =>
    ∀ c : Dev nD, ∀ b ∈ Pipeline.ucRefs τ sig, r.2.mem ((c : Thread nD τ).1, b) = W3 m ρ c b := by
  refine Pipeline.θ_run_regions_kit_sems (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?start)
    (QY := fun c s => ∀ b ∈ Pipeline.ucRefs τ sig, s.mem ((c : Thread nD τ).1, b) = W3 m ρ c b)
    (hfin := ?finish) (hQ := fun _ h _ => h)
  case pipes => simp only [segs, Pipeline.Seg.pipes_host, Pipeline.Seg.pipes_region, Pipeline.Seg.pipes_nil]; decide
  case tokens =>
    iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case start =>
    refine Pipeline.initEach L lv fun c => ?_
    have e : (unscopedBufs c (fun b => m ((c : Thread nD τ).loc b)) : sProp 𝕄)
        = StableHlo.held (c : Thread nD τ) (Pipeline.ucRefs τ sig) (W0 m ρ c) := Pipeline.unscopedBufs_held c (W0 m ρ c)
    rw [e]
    iintro ⟨⟨Hbufs, -, Howes, -, Hprng, -⟩, -⟩
    imodintro
    isplitl [Hbufs]
    · iexact Hbufs
    isplitl [Hprng]
    · iexists _
      iexact Hprng
    · iexists ∅
      iexact Howes
  case finish =>
    intro c s
    iintro ⟨⟨Hbufs, -⟩, Hstate⟩
    unfold StableHlo.held
    imodintro
    iapply (pointsTo_read_all (Pipeline.ucRefs τ sig) (fun b => ((c : Thread nD τ).1, b)) (W3 m ρ c) s)
    isplitl [Hbufs] <;> iassumption

/-- The two results end at what the two calls leave, the arguments as they were. -/
theorem run_blocks : θ_run defs (onTc (τ := τ) (main (F := F))) ⟨m, fun _ => 0, ρ⟩ fun r => ∀ c : Dev nD,
    r.2.mem ((c.tc : Thread nD τ).loc main_v1) = (dat0 (V1 m ρ) c).arrAt 2 cfg0.N
    ∧ r.2.mem ((c.tc : Thread nD τ).loc main_v2) = (dat1 (V2 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨?_, ?_, ?_, ?_, ?_⟩) (run_all m ρ)
  · refine (h c _ (mem_uc main_v1 (by decide))).trans ?_
    rw [W3_of m ρ c main_v1 (by decide)]
    exact W2_arr m ρ c 2
  · exact (h c _ (mem_uc main_v2 (by decide))).trans (W3_arr m ρ c 2)
  · exact (h c _ (mem_uc main_arg0 (by decide))).trans (W3_main_arg0 m ρ c)
  · exact (h c _ (mem_uc main_arg1 (by decide))).trans (W3_main_arg1 m ρ c)
  · exact (h c _ (mem_uc main_arg2 (by decide))).trans (W3_main_arg2 m ρ c)

end Run

/-! ## One block of each call -/

theorem blk_y (x0 x1) (y) : out0_2 (F := Ideal) x0 x1 y = ∑ k : Fin 1024, x0 (ix2 (y 0) k) * x1 (ix2 k (y 1)) := by
  frame_out
  open_payloads
  pointwise []

theorem blk_dx (x0 x1) (y) : out1_2 (F := Ideal) x0 x1 y = ∑ k : Fin 1024, x0 (ix2 (y 0) k) * x1 (ix2 (y 1) k) := by
  frame_out
  open_payloads
  pointwise []

/-! ## The arrays the calls leave -/

/-- Row `a` of block `b` of rows. -/
abbrev rowOf (b : ℕ) (hb : b < 32) (a : Fin 512) : Fin 16384 := ⟨b * 512 + a, by omega⟩

/-- Point `t` is the block of rows `t % 32` and the block of columns `t / 32`. -/
theorem idx0 : ∀ t : Fin cfg0.N, win0_0.index t = ![t.val % 32, 0] ∧ win0_1.index t = ![0, t.val / 32] ∧ win0_2.index t = ![t.val % 32, t.val / 32] :=
  (by decide +kernel : ∀ t : Fin grid0.N, _)

/-- Column `a` of block `b` of columns. -/
abbrev colOf0 (b : ℕ) (hb : b < 1) (a : Fin 1024) : Fin 1024 := ⟨b * 1024 + a, by omega⟩

theorem mod_lt0 (t : Fin cfg0.N) : t.val % 32 < 32 := Nat.mod_lt _ (by decide)
theorem div_lt0 (t : Fin cfg0.N) : t.val / 32 < 1 := by have : t.val < 32 := t.isLt; omega

/-- The product of a call, as arrays. -/
def prod0 (x : FVec Ideal S16384x1024 .f32) (w : FVec Ideal S1024x1024 .bf16) : FVec Ideal S16384x1024 .f32 := fun i =>
  ∑ k : Fin 1024, x (ix2 (i 0) k) * w (ix2 k (i 1))

/-- Point `t` is the block of rows `t % 32` and the block of columns `t / 32`. -/
theorem idx1 : ∀ t : Fin cfg1.N, win1_0.index t = ![t.val % 32, 0] ∧ win1_1.index t = ![t.val / 32, 0] ∧ win1_2.index t = ![t.val % 32, t.val / 32] :=
  (by decide +kernel : ∀ t : Fin grid1.N, _)

/-- Column `a` of block `b` of columns. -/
abbrev colOf1 (b : ℕ) (hb : b < 1) (a : Fin 1024) : Fin 1024 := ⟨b * 1024 + a, by omega⟩

theorem mod_lt1 (t : Fin cfg1.N) : t.val % 32 < 32 := Nat.mod_lt _ (by decide)
theorem div_lt1 (t : Fin cfg1.N) : t.val / 32 < 1 := by have : t.val < 32 := t.isLt; omega

/-- The product of a call, as arrays. -/
def prod1 (x : FVec Ideal S16384x1024 .bf16) (w : FVec Ideal S1024x1024 .bf16) : FVec Ideal S16384x1024 .f32 := fun i =>
  ∑ k : Fin 1024, x (ix2 (i 0) k) * w (ix2 (i 1) k)

attribute [local irreducible] out0_2 out1_2

/-- Every buffer's contents when a call starts. -/
abbrev Bufs := (c : Dev nD) → (b : Ref sig .tc) → Buf (Elt Ideal) ((c : Thread nD τ).loc b)

section Arrays
variable (V : Bufs) (c : Dev nD)

theorem in0_0 (t : Fin cfg0.N) (y : S512x1024.Idx) : iblk0 V c 0 t y = V c main_arg0 (ix2 (rowOf _ (mod_lt0 t) (y 0)) (y 1)) := by
  blk_point [iblk0, idx0 t, rowOf]

theorem in0_1 (t : Fin cfg0.N) (y : S1024x1024.Idx) : iblk0 V c 1 t y = V c main_v0 (ix2 (y 0) (colOf0 _ (div_lt0 t) (y 1))) := by
  blk_point [iblk0, idx0 t, colOf0]

theorem emb0 (t : Fin cfg0.N) (y : S512x1024.Idx) : (win0_2.blk t).view.emb y = ix2 (rowOf _ (mod_lt0 t) (y 0)) (colOf0 _ (div_lt0 t) (y 1)) := by
  blk_ext [idx0 t, rowOf, colOf0]

theorem at0 (t : Fin cfg0.N) (y : S512x1024.Idx) : out0_2 (iblk0 V c 0 t) (iblk0 V c 1 t) y
    = prod0 (V c main_arg0) (V c main_v0) (ix2 (rowOf _ (mod_lt0 t) (y 0)) (colOf0 _ (div_lt0 t) (y 1))) := by
  rw [blk_y]
  simp only [prod0, in0_0, in0_1]
  rfl

/-- What the call leaves. -/
theorem arr0 : (dat0 V c).arrAt 2 cfg0.N = prod0 (V c main_arg0) (V c main_v0) := by
  refine (dat0 V c).arrAt_eq_of_covers 2 _ (by decide +kernel) fun t hf y => ?_
  rw [after0_2]
  exact (at0 V c t y).trans (congrArg _ (emb0 t y).symm)

theorem in1_0 (t : Fin cfg1.N) (y : S512x1024.Idx) : iblk1 V c 0 t y = V c main_arg2 (ix2 (rowOf _ (mod_lt1 t) (y 0)) (y 1)) := by
  blk_point [iblk1, idx1 t, rowOf]

theorem in1_1 (t : Fin cfg1.N) (y : S1024x1024.Idx) : iblk1 V c 1 t y = V c main_v0 (ix2 (colOf1 _ (div_lt1 t) (y 0)) (y 1)) := by
  blk_point [iblk1, idx1 t, colOf1]

theorem emb1 (t : Fin cfg1.N) (y : S512x1024.Idx) : (win1_2.blk t).view.emb y = ix2 (rowOf _ (mod_lt1 t) (y 0)) (colOf1 _ (div_lt1 t) (y 1)) := by
  blk_ext [idx1 t, rowOf, colOf1]

theorem at1 (t : Fin cfg1.N) (y : S512x1024.Idx) : out1_2 (iblk1 V c 0 t) (iblk1 V c 1 t) y
    = prod1 (V c main_arg2) (V c main_v0) (ix2 (rowOf _ (mod_lt1 t) (y 0)) (colOf1 _ (div_lt1 t) (y 1))) := by
  rw [blk_dx]
  simp only [prod1, in1_0, in1_1]
  rfl

/-- What the call leaves. -/
theorem arr1 : (dat1 V c).arrAt 2 cfg1.N = prod1 (V c main_arg2) (V c main_v0) := by
  refine (dat1 V c).arrAt_eq_of_covers 2 _ (by decide +kernel) fun t hf y => ?_
  rw [after1_2]
  exact (at1 V c t y).trans (congrArg _ (emb1 t y).symm)

end Arrays

/-! ## The host's weights, and the two sides -/

variable (m : (ℓ : Loc nD τ sig) → Buf (Elt Ideal) ℓ) (ρ : Dev nD → PrngReg) (c : Dev nD)

/-- The weights as the host hands them to the calls. -/
def wK (w : FVec Ideal S1024x1024 .f32) : FVec Ideal S1024x1024 .bf16 :=
  truncf .bf16 w bitsLt_bf16_f32

theorem wK_at (w) (i) : wK w i = w i := by
  pointwise [wK]

theorem val_w : V1 m ρ c main_v0 = wK (m ((c : Thread nD τ).loc main_arg1)) := by
  show StableHlo.after hostOps0 (W0 m ρ c) main_v0 = _
  after_results
  rfl

/-- The product is the reference's. -/
theorem final_y : (dat0 (V1 m ρ) c).arrAt 2 cfg0.N = yR (m ((c : Thread nD τ).loc main_arg0)) (m ((c : Thread nD τ).loc main_arg1)) := by
  refine (arr0 (V1 m ρ) c).trans ?_
  rw [val_w]
  funext i
  refine Eq.trans ?_ (yR_at _ _ i).symm
  exact Finset.sum_congr rfl fun k _ => congrArg₂ (· * ·) (congrFun (W1_of m ρ c main_arg0 (by decide)) _) (wK_at _ _)

/-- The gradient of `x` is the reference's. -/
theorem final_dx : (dat1 (V2 m ρ) c).arrAt 2 cfg1.N = dxR (m ((c : Thread nD τ).loc main_arg2)) (m ((c : Thread nD τ).loc main_arg1)) := by
  refine (arr1 (V2 m ρ) c).trans ?_
  have hw : V2 m ρ c main_v0 = wK (m ((c : Thread nD τ).loc main_arg1)) := (W2_of m ρ c main_v0 (by decide)).trans (val_w m ρ c)
  have hx : V2 m ρ c main_arg2 = m ((c : Thread nD τ).loc main_arg2) := (W2_of m ρ c main_arg2 (by decide)).trans (W1_of m ρ c main_arg2 (by decide))
  rw [hw, hx]
  funext i
  refine Eq.trans ?_ (dxR_at _ _ i).symm
  exact Finset.sum_congr rfl fun k _ => congrArg₂ (· * ·) rfl (wK_at _ _)

end Cert.Kernel7Ideal.Value
-- ==== Proof.Dw8.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference8Ideal.Value

open Cert.Reference8Ideal Cert.Reference8Ideal.Gen

/-- The reference's gradient of the weights, as an array of its arguments. -/
def prodR (a0 : FVec Ideal S16384x1024 .f32) (a1 : FVec Ideal S16384x1024 .bf16) : FVec Ideal S1024x1024 .bf16 :=
  truncf .bf16 (transpose S1024x1024 [1, 0] (Host.dotGeneral dot_S16384x1024_S16384x1024_S1024x1024_0_0_1_1_n_n none (extf .f32 a1 bitsLt_bf16_f32) a0) transposes_S1024x1024_S1024x1024_1_0) bitsLt_bf16_f32

/-- An entry of it: a sum over all the rows. -/
theorem prodR_at (a0 a1) (j) : prodR a0 a1 j = ∑ k : Fin 16384, a1 (ix2 k (j 1)) * a0 (ix2 k (j 0)) := by
  pointwise [prodR]

end Cert.Reference8Ideal.Value

namespace Cert.Kernel8Ideal.Value

open Cert.Kernel8Ideal Cert.Kernel8Ideal.Gen
open Cert.Reference8Ideal.Value (prodR prodR_at)

/-- What the 2048 rows of one point add to a block of the product: `x0` transposed times `x1`. -/
def part (x0 : Vec Ideal S2048x1024 .f32) (x1 : Vec Ideal S2048x1024 .bf16) : Vec Ideal S1024x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1024) : Fin 1024 := ⟨t.val / 8 * 1024 + a, by have : t.val < 8 := t.isLt; omega⟩

variable (m : (ℓ : Loc nD τ sig) → Buf (Elt Ideal) ℓ) (c : Dev nD) (t : Fin cfg0.N)

/-- The chunk of rows of the left factor. -/
theorem blk0 (y : S2048x1024.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1024x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  have : t.val < 8 := t.isLt
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

/-- Equal factors have equal products. -/
theorem same_term {a b a' b' : EReal} (ha : a = a') (hb : b = b') : a * b = b' * a' := by
  rw [ha, hb, mul_comm]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1024 + (y 0).val) hd
  · exact congrArg (ix2 · (y 1)) (Fin.ext (congrArg (· * 2048 + r.val) hs))

end Cert.Kernel8Ideal.Value
-- ==== Proof.Prod9.lean ====
module

public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The reference: a product `x w`, and the gradient of `x` -/

namespace Cert.Reference9Ideal.Value

open Cert.Reference9Ideal Cert.Reference9Ideal.Gen

/-- The product. -/
def yR (a0 : FVec Ideal S16384x1024 .bf16) (a1 : FVec Ideal S1024x2048 .f32) : FVec Ideal S16384x2048 .f32 :=
  Host.dotGeneral dot_S16384x1024_S1024x2048_S16384x2048_1_0_0_1_n_n none (extf .f32 a0 bitsLt_bf16_f32) a1

/-- The gradient of `x`. -/
def dxR (a2 : FVec Ideal S16384x2048 .bf16) (a1 : FVec Ideal S1024x2048 .f32) : FVec Ideal S16384x1024 .f32 :=
  Host.dotGeneral dot_S16384x2048_S1024x2048_S16384x1024_1_1_0_0_n_n none (extf .f32 a2 bitsLt_bf16_f32) a1

theorem yR_at (a0 a1) (i) : yR a0 a1 i = ∑ k : Fin 1024, a0 (ix2 (i 0) k) * a1 (ix2 k (i 1)) := by
  pointwise [yR]

theorem dxR_at (a2 a1) (i) : dxR a2 a1 i = ∑ k : Fin 2048, a2 (ix2 (i 0) k) * a1 (ix2 (i 1) k) := by
  pointwise [dxR]

end Cert.Reference9Ideal.Value

namespace Cert.Kernel9Ideal.Value

open Cert.Kernel9Ideal Cert.Kernel9Ideal.Gen
open Cert.Reference9Ideal.Value (yR dxR yR_at dxR_at)

/-! ## The two calls run one after the other -/

section Run

variable {F : FTy → Type} [FloatOps F]

/-- The propositions the run is stated in. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The calls run one after the other, and every buffer ends at what they leave in it. -/
theorem run_all : θ_run defs (onTc (τ := τ) (main (F := F))) ⟨m, fun _ => 0, ρ⟩ fun r =>
    ∀ c : Dev nD, ∀ b ∈ Pipeline.ucRefs τ sig, r.2.mem ((c : Thread nD τ).1, b) = W3 m ρ c b := by
  refine Pipeline.θ_run_regions_kit_sems (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?start)
    (QY := fun c s => ∀ b ∈ Pipeline.ucRefs τ sig, s.mem ((c : Thread nD τ).1, b) = W3 m ρ c b)
    (hfin := ?finish) (hQ := fun _ h _ => h)
  case pipes => simp only [segs, Pipeline.Seg.pipes_host, Pipeline.Seg.pipes_region, Pipeline.Seg.pipes_nil]; decide
  case tokens =>
    iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case start =>
    refine Pipeline.initEach L lv fun c => ?_
    have e : (unscopedBufs c (fun b => m ((c : Thread nD τ).loc b)) : sProp 𝕄)
        = StableHlo.held (c : Thread nD τ) (Pipeline.ucRefs τ sig) (W0 m ρ c) := Pipeline.unscopedBufs_held c (W0 m ρ c)
    rw [e]
    iintro ⟨⟨Hbufs, -, Howes, -, Hprng, -⟩, -⟩
    imodintro
    isplitl [Hbufs]
    · iexact Hbufs
    isplitl [Hprng]
    · iexists _
      iexact Hprng
    · iexists ∅
      iexact Howes
  case finish =>
    intro c s
    iintro ⟨⟨Hbufs, -⟩, Hstate⟩
    unfold StableHlo.held
    imodintro
    iapply (pointsTo_read_all (Pipeline.ucRefs τ sig) (fun b => ((c : Thread nD τ).1, b)) (W3 m ρ c) s)
    isplitl [Hbufs] <;> iassumption

/-- The two results end at what the two calls leave, the arguments as they were. -/
theorem run_blocks : θ_run defs (onTc (τ := τ) (main (F := F))) ⟨m, fun _ => 0, ρ⟩ fun r => ∀ c : Dev nD,
    r.2.mem ((c.tc : Thread nD τ).loc main_v2) = (dat0 (V1 m ρ) c).arrAt 2 cfg0.N
    ∧ r.2.mem ((c.tc : Thread nD τ).loc main_v3) = (dat1 (V2 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨?_, ?_, ?_, ?_, ?_⟩) (run_all m ρ)
  · refine (h c _ (mem_uc main_v2 (by decide))).trans ?_
    rw [W3_of m ρ c main_v2 (by decide)]
    exact W2_arr m ρ c 2
  · exact (h c _ (mem_uc main_v3 (by decide))).trans (W3_arr m ρ c 2)
  · exact (h c _ (mem_uc main_arg0 (by decide))).trans (W3_main_arg0 m ρ c)
  · exact (h c _ (mem_uc main_arg1 (by decide))).trans (W3_main_arg1 m ρ c)
  · exact (h c _ (mem_uc main_arg2 (by decide))).trans (W3_main_arg2 m ρ c)

end Run

/-! ## One block of each call -/

theorem blk_y (x0 x1) (y) : out0_2 (F := Ideal) x0 x1 y = ∑ k : Fin 1024, x0 (ix2 (y 0) k) * x1 (ix2 (y 1) k) := by
  frame_out
  open_payloads
  pointwise []

theorem blk_dx (x0 x1) (y) : out1_2 (F := Ideal) x0 x1 y = ∑ k : Fin 2048, x0 (ix2 (y 0) k) * x1 (ix2 k (y 1)) := by
  frame_out
  open_payloads
  pointwise []

/-! ## The arrays the calls leave -/

/-- Row `a` of block `b` of rows. -/
abbrev rowOf (b : ℕ) (hb : b < 32) (a : Fin 512) : Fin 16384 := ⟨b * 512 + a, by omega⟩

/-- Point `t` is the block of rows `t % 32` and the block of columns `t / 32`. -/
theorem idx0 : ∀ t : Fin cfg0.N, win0_0.index t = ![t.val % 32, 0] ∧ win0_1.index t = ![t.val / 32, 0] ∧ win0_2.index t = ![t.val % 32, t.val / 32] :=
  (by decide +kernel : ∀ t : Fin grid0.N, _)

/-- Column `a` of block `b` of columns. -/
abbrev colOf0 (b : ℕ) (hb : b < 2) (a : Fin 1024) : Fin 2048 := ⟨b * 1024 + a, by omega⟩

theorem mod_lt0 (t : Fin cfg0.N) : t.val % 32 < 32 := Nat.mod_lt _ (by decide)
theorem div_lt0 (t : Fin cfg0.N) : t.val / 32 < 2 := by have : t.val < 64 := t.isLt; omega

/-- The product of a call, as arrays. -/
def prod0 (x : FVec Ideal S16384x1024 .bf16) (w : FVec Ideal S2048x1024 .bf16) : FVec Ideal S16384x2048 .f32 := fun i =>
  ∑ k : Fin 1024, x (ix2 (i 0) k) * w (ix2 (i 1) k)

/-- Point `t` is the block of rows `t % 32` and the block of columns `t / 32`. -/
theorem idx1 : ∀ t : Fin cfg1.N, win1_0.index t = ![t.val % 32, 0] ∧ win1_1.index t = ![0, t.val / 32] ∧ win1_2.index t = ![t.val % 32, t.val / 32] :=
  (by decide +kernel : ∀ t : Fin grid1.N, _)

/-- Column `a` of block `b` of columns. -/
abbrev colOf1 (b : ℕ) (hb : b < 1) (a : Fin 1024) : Fin 1024 := ⟨b * 1024 + a, by omega⟩

theorem mod_lt1 (t : Fin cfg1.N) : t.val % 32 < 32 := Nat.mod_lt _ (by decide)
theorem div_lt1 (t : Fin cfg1.N) : t.val / 32 < 1 := by have : t.val < 32 := t.isLt; omega

/-- The product of a call, as arrays. -/
def prod1 (x : FVec Ideal S16384x2048 .bf16) (w : FVec Ideal S2048x1024 .bf16) : FVec Ideal S16384x1024 .f32 := fun i =>
  ∑ k : Fin 2048, x (ix2 (i 0) k) * w (ix2 k (i 1))

attribute [local irreducible] out0_2 out1_2

/-- Every buffer's contents when a call starts. -/
abbrev Bufs := (c : Dev nD) → (b : Ref sig .tc) → Buf (Elt Ideal) ((c : Thread nD τ).loc b)

section Arrays
variable (V : Bufs) (c : Dev nD)

theorem in0_0 (t : Fin cfg0.N) (y : S512x1024.Idx) : iblk0 V c 0 t y = V c main_arg0 (ix2 (rowOf _ (mod_lt0 t) (y 0)) (y 1)) := by
  blk_point [iblk0, idx0 t, rowOf]

theorem in0_1 (t : Fin cfg0.N) (y : S1024x1024.Idx) : iblk0 V c 1 t y = V c main_v1 (ix2 (colOf0 _ (div_lt0 t) (y 0)) (y 1)) := by
  blk_point [iblk0, idx0 t, colOf0]

theorem emb0 (t : Fin cfg0.N) (y : S512x1024.Idx) : (win0_2.blk t).view.emb y = ix2 (rowOf _ (mod_lt0 t) (y 0)) (colOf0 _ (div_lt0 t) (y 1)) := by
  blk_ext [idx0 t, rowOf, colOf0]

theorem at0 (t : Fin cfg0.N) (y : S512x1024.Idx) : out0_2 (iblk0 V c 0 t) (iblk0 V c 1 t) y
    = prod0 (V c main_arg0) (V c main_v1) (ix2 (rowOf _ (mod_lt0 t) (y 0)) (colOf0 _ (div_lt0 t) (y 1))) := by
  rw [blk_y]
  simp only [prod0, in0_0, in0_1]
  rfl

/-- What the call leaves. -/
theorem arr0 : (dat0 V c).arrAt 2 cfg0.N = prod0 (V c main_arg0) (V c main_v1) := by
  refine (dat0 V c).arrAt_eq_of_covers 2 _ (by decide +kernel) fun t hf y => ?_
  rw [after0_2]
  exact (at0 V c t y).trans (congrArg _ (emb0 t y).symm)

theorem in1_0 (t : Fin cfg1.N) (y : S512x2048.Idx) : iblk1 V c 0 t y = V c main_arg2 (ix2 (rowOf _ (mod_lt1 t) (y 0)) (y 1)) := by
  blk_point [iblk1, idx1 t, rowOf]

theorem in1_1 (t : Fin cfg1.N) (y : S2048x1024.Idx) : iblk1 V c 1 t y = V c main_v1 (ix2 (y 0) (colOf1 _ (div_lt1 t) (y 1))) := by
  blk_point [iblk1, idx1 t, colOf1]

theorem emb1 (t : Fin cfg1.N) (y : S512x1024.Idx) : (win1_2.blk t).view.emb y = ix2 (rowOf _ (mod_lt1 t) (y 0)) (colOf1 _ (div_lt1 t) (y 1)) := by
  blk_ext [idx1 t, rowOf, colOf1]

theorem at1 (t : Fin cfg1.N) (y : S512x1024.Idx) : out1_2 (iblk1 V c 0 t) (iblk1 V c 1 t) y
    = prod1 (V c main_arg2) (V c main_v1) (ix2 (rowOf _ (mod_lt1 t) (y 0)) (colOf1 _ (div_lt1 t) (y 1))) := by
  rw [blk_dx]
  simp only [prod1, in1_0, in1_1]
  rfl

/-- What the call leaves. -/
theorem arr1 : (dat1 V c).arrAt 2 cfg1.N = prod1 (V c main_arg2) (V c main_v1) := by
  refine (dat1 V c).arrAt_eq_of_covers 2 _ (by decide +kernel) fun t hf y => ?_
  rw [after1_2]
  exact (at1 V c t y).trans (congrArg _ (emb1 t y).symm)

end Arrays

/-! ## The host's weights, and the two sides -/

variable (m : (ℓ : Loc nD τ sig) → Buf (Elt Ideal) ℓ) (ρ : Dev nD → PrngReg) (c : Dev nD)

/-- The weights as the host hands them to the calls. -/
def wK (w : FVec Ideal S1024x2048 .f32) : FVec Ideal S2048x1024 .bf16 :=
  truncf .bf16 (transpose S2048x1024 [1, 0] w transposes_S1024x2048_S2048x1024_1_0) bitsLt_bf16_f32

theorem wK_at (w) (i) : wK w i = w (ix2 (i 1) (i 0)) := by
  pointwise [wK]

theorem val_w : V1 m ρ c main_v1 = wK (m ((c : Thread nD τ).loc main_arg1)) := by
  show StableHlo.after hostOps0 (W0 m ρ c) main_v1 = _
  after_results
  rfl

/-- The product is the reference's. -/
theorem final_y : (dat0 (V1 m ρ) c).arrAt 2 cfg0.N = yR (m ((c : Thread nD τ).loc main_arg0)) (m ((c : Thread nD τ).loc main_arg1)) := by
  refine (arr0 (V1 m ρ) c).trans ?_
  rw [val_w]
  funext i
  refine Eq.trans ?_ (yR_at _ _ i).symm
  exact Finset.sum_congr rfl fun k _ => congrArg₂ (· * ·) (congrFun (W1_of m ρ c main_arg0 (by decide)) _) (wK_at _ _)

/-- The gradient of `x` is the reference's. -/
theorem final_dx : (dat1 (V2 m ρ) c).arrAt 2 cfg1.N = dxR (m ((c : Thread nD τ).loc main_arg2)) (m ((c : Thread nD τ).loc main_arg1)) := by
  refine (arr1 (V2 m ρ) c).trans ?_
  have hw : V2 m ρ c main_v1 = wK (m ((c : Thread nD τ).loc main_arg1)) := (W2_of m ρ c main_v1 (by decide)).trans (val_w m ρ c)
  have hx : V2 m ρ c main_arg2 = m ((c : Thread nD τ).loc main_arg2) := (W2_of m ρ c main_arg2 (by decide)).trans (W1_of m ρ c main_arg2 (by decide))
  rw [hw, hx]
  funext i
  refine Eq.trans ?_ (dxR_at _ _ i).symm
  exact Finset.sum_congr rfl fun k _ => congrArg₂ (· * ·) rfl (wK_at _ _)

end Cert.Kernel9Ideal.Value
-- ==== Proof.Dw10.lean ====
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference10Ideal.Value

open Cert.Reference10Ideal Cert.Reference10Ideal.Gen

/-- The reference's gradient of the weights, transposed, as an array of its arguments. -/
def prodR (a0 : FVec Ideal S16384x2048 .bf16) (a1 : FVec Ideal S16384x1024 .bf16) : FVec Ideal S2048x1024 .bf16 :=
  truncf .bf16 (transpose S2048x1024 [1, 0] (transpose S1024x2048 [1, 0] (Host.dotGeneral dot_S16384x2048_S16384x1024_S2048x1024_0_0_1_1_n_n none (extf .f32 a0 bitsLt_bf16_f32) (extf .f32 a1 bitsLt_bf16_f32)) transposes_S2048x1024_S1024x2048_1_0) transposes_S1024x2048_S2048x1024_1_0) bitsLt_bf16_f32

/-- An entry of it: a sum over all the rows. -/
theorem prodR_at (a0 a1) (j) : prodR a0 a1 j = ∑ k : Fin 16384, a0 (ix2 k (j 0)) * a1 (ix2 k (j 1)) := by
  pointwise [prodR]

end Cert.Reference10Ideal.Value

namespace Cert.Kernel10Ideal.Value

open Cert.Kernel10Ideal Cert.Kernel10Ideal.Gen
open Cert.Reference10Ideal.Value (prodR prodR_at)

/-- What the 2048 rows of one point add to a block of the product: `x0` transposed times `x1`. -/
def part (x0 : Vec Ideal S2048x1024 .bf16) (x1 : Vec Ideal S2048x1024 .bf16) : Vec Ideal S1024x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1024) : Fin 2048 := ⟨t.val / 8 * 1024 + a, by have : t.val < 16 := t.isLt; omega⟩

variable (m : (ℓ : Loc nD τ sig) → Buf (Elt Ideal) ℓ) (c : Dev nD) (t : Fin cfg0.N)

/-- The chunk of rows of the left factor. -/
theorem blk0 (y : S2048x1024.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1024x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

/-- Equal factors have equal products. -/
theorem same_term {a b a' b' : EReal} (ha : a = a') (hb : b = b') : a * b = a' * b' := by
  rw [ha, hb]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1024 + (y 0).val) hd
  · exact congrArg (ix2 · (y 1)) (Fin.ext (congrArg (· * 2048 + r.val) hs))

end Cert.Kernel10Ideal.Value
-- ==== Proof.Prod11.lean ====
module

public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The reference: a product `x w`, and the gradient of `x` -/

namespace Cert.Reference11Ideal.Value

open Cert.Reference11Ideal Cert.Reference11Ideal.Gen

/-- The product. -/
def yR (a0 : FVec Ideal S16384x1024 .bf16) (a1 : FVec Ideal S1024x4096 .f32) : FVec Ideal S16384x4096 .f32 :=
  Host.dotGeneral dot_S16384x1024_S1024x4096_S16384x4096_1_0_0_1_n_n none (extf .f32 a0 bitsLt_bf16_f32) a1

/-- The gradient of `x`. -/
def dxR (a2 : FVec Ideal S16384x4096 .bf16) (a1 : FVec Ideal S1024x4096 .f32) : FVec Ideal S16384x1024 .f32 :=
  Host.dotGeneral dot_S16384x4096_S1024x4096_S16384x1024_1_1_0_0_n_n none (extf .f32 a2 bitsLt_bf16_f32) a1

theorem yR_at (a0 a1) (i) : yR a0 a1 i = ∑ k : Fin 1024, a0 (ix2 (i 0) k) * a1 (ix2 k (i 1)) := by
  pointwise [yR]

theorem dxR_at (a2 a1) (i) : dxR a2 a1 i = ∑ k : Fin 4096, a2 (ix2 (i 0) k) * a1 (ix2 (i 1) k) := by
  pointwise [dxR]

end Cert.Reference11Ideal.Value

namespace Cert.Kernel11Ideal.Value

open Cert.Kernel11Ideal Cert.Kernel11Ideal.Gen
open Cert.Reference11Ideal.Value (yR dxR yR_at dxR_at)

/-! ## The two calls run one after the other -/

section Run

variable {F : FTy → Type} [FloatOps F]

/-- The propositions the run is stated in. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The calls run one after the other, and every buffer ends at what they leave in it. -/
theorem run_all : θ_run defs (onTc (τ := τ) (main (F := F))) ⟨m, fun _ => 0, ρ⟩ fun r =>
    ∀ c : Dev nD, ∀ b ∈ Pipeline.ucRefs τ sig, r.2.mem ((c : Thread nD τ).1, b) = W3 m ρ c b := by
  refine Pipeline.θ_run_regions_kit_sems (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?start)
    (QY := fun c s => ∀ b ∈ Pipeline.ucRefs τ sig, s.mem ((c : Thread nD τ).1, b) = W3 m ρ c b)
    (hfin := ?finish) (hQ := fun _ h _ => h)
  case pipes => simp only [segs, Pipeline.Seg.pipes_host, Pipeline.Seg.pipes_region, Pipeline.Seg.pipes_nil]; decide
  case tokens =>
    iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case start =>
    refine Pipeline.initEach L lv fun c => ?_
    have e : (unscopedBufs c (fun b => m ((c : Thread nD τ).loc b)) : sProp 𝕄)
        = StableHlo.held (c : Thread nD τ) (Pipeline.ucRefs τ sig) (W0 m ρ c) := Pipeline.unscopedBufs_held c (W0 m ρ c)
    rw [e]
    iintro ⟨⟨Hbufs, -, Howes, -, Hprng, -⟩, -⟩
    imodintro
    isplitl [Hbufs]
    · iexact Hbufs
    isplitl [Hprng]
    · iexists _
      iexact Hprng
    · iexists ∅
      iexact Howes
  case finish =>
    intro c s
    iintro ⟨⟨Hbufs, -⟩, Hstate⟩
    unfold StableHlo.held
    imodintro
    iapply (pointsTo_read_all (Pipeline.ucRefs τ sig) (fun b => ((c : Thread nD τ).1, b)) (W3 m ρ c) s)
    isplitl [Hbufs] <;> iassumption

/-- The two results end at what the two calls leave, the arguments as they were. -/
theorem run_blocks : θ_run defs (onTc (τ := τ) (main (F := F))) ⟨m, fun _ => 0, ρ⟩ fun r => ∀ c : Dev nD,
    r.2.mem ((c.tc : Thread nD τ).loc main_v2) = (dat0 (V1 m ρ) c).arrAt 2 cfg0.N
    ∧ r.2.mem ((c.tc : Thread nD τ).loc main_v3) = (dat1 (V2 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨?_, ?_, ?_, ?_, ?_⟩) (run_all m ρ)
  · refine (h c _ (mem_uc main_v2 (by decide))).trans ?_
    rw [W3_of m ρ c main_v2 (by decide)]
    exact W2_arr m ρ c 2
  · exact (h c _ (mem_uc main_v3 (by decide))).trans (W3_arr m ρ c 2)
  · exact (h c _ (mem_uc main_arg0 (by decide))).trans (W3_main_arg0 m ρ c)
  · exact (h c _ (mem_uc main_arg1 (by decide))).trans (W3_main_arg1 m ρ c)
  · exact (h c _ (mem_uc main_arg2 (by decide))).trans (W3_main_arg2 m ρ c)

end Run

/-! ## One block of each call -/

theorem blk_y (x0 x1) (y) : out0_2 (F := Ideal) x0 x1 y = ∑ k : Fin 1024, x0 (ix2 (y 0) k) * x1 (ix2 (y 1) k) := by
  frame_out
  open_payloads
  pointwise []

theorem blk_dx (x0 x1) (y) : out1_2 (F := Ideal) x0 x1 y = ∑ k : Fin 4096, x0 (ix2 (y 0) k) * x1 (ix2 k (y 1)) := by
  frame_out
  open_payloads
  pointwise []

/-! ## The arrays the calls leave -/

/-- Row `a` of block `b` of rows. -/
abbrev rowOf (b : ℕ) (hb : b < 32) (a : Fin 512) : Fin 16384 := ⟨b * 512 + a, by omega⟩

/-- Point `t` is the block of rows `t % 32` and the block of columns `t / 32`. -/
theorem idx0 : ∀ t : Fin cfg0.N, win0_0.index t = ![t.val % 32, 0] ∧ win0_1.index t = ![t.val / 32, 0] ∧ win0_2.index t = ![t.val % 32, t.val / 32] :=
  (by decide +kernel : ∀ t : Fin grid0.N, _)

/-- Column `a` of block `b` of columns. -/
abbrev colOf0 (b : ℕ) (hb : b < 4) (a : Fin 1024) : Fin 4096 := ⟨b * 1024 + a, by omega⟩

theorem mod_lt0 (t : Fin cfg0.N) : t.val % 32 < 32 := Nat.mod_lt _ (by decide)
theorem div_lt0 (t : Fin cfg0.N) : t.val / 32 < 4 := by have : t.val < 128 := t.isLt; omega

/-- The product of a call, as arrays. -/
def prod0 (x : FVec Ideal S16384x1024 .bf16) (w : FVec Ideal S4096x1024 .bf16) : FVec Ideal S16384x4096 .f32 := fun i =>
  ∑ k : Fin 1024, x (ix2 (i 0) k) * w (ix2 (i 1) k)

/-- Point `t` is the block of rows `t % 32` and the block of columns `t / 32`. -/
theorem idx1 : ∀ t : Fin cfg1.N, win1_0.index t = ![t.val % 32, 0] ∧ win1_1.index t = ![0, t.val / 32] ∧ win1_2.index t = ![t.val % 32, t.val / 32] :=
  (by decide +kernel : ∀ t : Fin grid1.N, _)

/-- Column `a` of block `b` of columns. -/
abbrev colOf1 (b : ℕ) (hb : b < 1) (a : Fin 1024) : Fin 1024 := ⟨b * 1024 + a, by omega⟩

theorem mod_lt1 (t : Fin cfg1.N) : t.val % 32 < 32 := Nat.mod_lt _ (by decide)
theorem div_lt1 (t : Fin cfg1.N) : t.val / 32 < 1 := by have : t.val < 32 := t.isLt; omega

/-- The product of a call, as arrays. -/
def prod1 (x : FVec Ideal S16384x4096 .bf16) (w : FVec Ideal S4096x1024 .bf16) : FVec Ideal S16384x1024 .f32 := fun i =>
  ∑ k : Fin 4096, x (ix2 (i 0) k) * w (ix2 k (i 1))

attribute [local irreducible] out0_2 out1_2

/-- Every buffer's contents when a call starts. -/
abbrev Bufs := (c : Dev nD) → (b : Ref sig .tc) → Buf (Elt Ideal) ((c : Thread nD τ).loc b)

section Arrays
variable (V : Bufs) (c : Dev nD)

theorem in0_0 (t : Fin cfg0.N) (y : S512x1024.Idx) : iblk0 V c 0 t y = V c main_arg0 (ix2 (rowOf _ (mod_lt0 t) (y 0)) (y 1)) := by
  blk_point [iblk0, idx0 t, rowOf]

theorem in0_1 (t : Fin cfg0.N) (y : S1024x1024.Idx) : iblk0 V c 1 t y = V c main_v1 (ix2 (colOf0 _ (div_lt0 t) (y 0)) (y 1)) := by
  blk_point [iblk0, idx0 t, colOf0]

theorem emb0 (t : Fin cfg0.N) (y : S512x1024.Idx) : (win0_2.blk t).view.emb y = ix2 (rowOf _ (mod_lt0 t) (y 0)) (colOf0 _ (div_lt0 t) (y 1)) := by
  blk_ext [idx0 t, rowOf, colOf0]

theorem at0 (t : Fin cfg0.N) (y : S512x1024.Idx) : out0_2 (iblk0 V c 0 t) (iblk0 V c 1 t) y
    = prod0 (V c main_arg0) (V c main_v1) (ix2 (rowOf _ (mod_lt0 t) (y 0)) (colOf0 _ (div_lt0 t) (y 1))) := by
  rw [blk_y]
  simp only [prod0, in0_0, in0_1]
  rfl

/-- What the call leaves. -/
theorem arr0 : (dat0 V c).arrAt 2 cfg0.N = prod0 (V c main_arg0) (V c main_v1) := by
  refine (dat0 V c).arrAt_eq_of_covers 2 _ (by decide +kernel) fun t hf y => ?_
  rw [after0_2]
  exact (at0 V c t y).trans (congrArg _ (emb0 t y).symm)

theorem in1_0 (t : Fin cfg1.N) (y : S512x4096.Idx) : iblk1 V c 0 t y = V c main_arg2 (ix2 (rowOf _ (mod_lt1 t) (y 0)) (y 1)) := by
  blk_point [iblk1, idx1 t, rowOf]

theorem in1_1 (t : Fin cfg1.N) (y : S4096x1024.Idx) : iblk1 V c 1 t y = V c main_v1 (ix2 (y 0) (colOf1 _ (div_lt1 t) (y 1))) := by
  blk_point [iblk1, idx1 t, colOf1]

theorem emb1 (t : Fin cfg1.N) (y : S512x1024.Idx) : (win1_2.blk t).view.emb y = ix2 (rowOf _ (mod_lt1 t) (y 0)) (colOf1 _ (div_lt1 t) (y 1)) := by
  blk_ext [idx1 t, rowOf, colOf1]

theorem at1 (t : Fin cfg1.N) (y : S512x1024.Idx) : out1_2 (iblk1 V c 0 t) (iblk1 V c 1 t) y
    = prod1 (V c main_arg2) (V c main_v1) (ix2 (rowOf _ (mod_lt1 t) (y 0)) (colOf1 _ (div_lt1 t) (y 1))) := by
  rw [blk_dx]
  simp only [prod1, in1_0, in1_1]
  rfl

/-- What the call leaves. -/
theorem arr1 : (dat1 V c).arrAt 2 cfg1.N = prod1 (V c main_arg2) (V c main_v1) := by
  refine (dat1 V c).arrAt_eq_of_covers 2 _ (by decide +kernel) fun t hf y => ?_
  rw [after1_2]
  exact (at1 V c t y).trans (congrArg _ (emb1 t y).symm)

end Arrays

/-! ## The host's weights, and the two sides -/

variable (m : (ℓ : Loc nD τ sig) → Buf (Elt Ideal) ℓ) (ρ : Dev nD → PrngReg) (c : Dev nD)

/-- The weights as the host hands them to the calls. -/
def wK (w : FVec Ideal S1024x4096 .f32) : FVec Ideal S4096x1024 .bf16 :=
  truncf .bf16 (transpose S4096x1024 [1, 0] w transposes_S1024x4096_S4096x1024_1_0) bitsLt_bf16_f32

theorem wK_at (w) (i) : wK w i = w (ix2 (i 1) (i 0)) := by
  pointwise [wK]

theorem val_w : V1 m ρ c main_v1 = wK (m ((c : Thread nD τ).loc main_arg1)) := by
  show StableHlo.after hostOps0 (W0 m ρ c) main_v1 = _
  after_results
  rfl

/-- The product is the reference's. -/
theorem final_y : (dat0 (V1 m ρ) c).arrAt 2 cfg0.N = yR (m ((c : Thread nD τ).loc main_arg0)) (m ((c : Thread nD τ).loc main_arg1)) := by
  refine (arr0 (V1 m ρ) c).trans ?_
  rw [val_w]
  funext i
  refine Eq.trans ?_ (yR_at _ _ i).symm
  exact Finset.sum_congr rfl fun k _ => congrArg₂ (· * ·) (congrFun (W1_of m ρ c main_arg0 (by decide)) _) (wK_at _ _)

/-- The gradient of `x` is the reference's. -/
theorem final_dx : (dat1 (V2 m ρ) c).arrAt 2 cfg1.N = dxR (m ((c : Thread nD τ).loc main_arg2)) (m ((c : Thread nD τ).loc main_arg1)) := by
  refine (arr1 (V2 m ρ) c).trans ?_
  have hw : V2 m ρ c main_v1 = wK (m ((c : Thread nD τ).loc main_arg1)) := (W2_of m ρ c main_v1 (by decide)).trans (val_w m ρ c)
  have hx : V2 m ρ c main_arg2 = m ((c : Thread nD τ).loc main_arg2) := (W2_of m ρ c main_arg2 (by decide)).trans (W1_of m ρ c main_arg2 (by decide))
  rw [hw, hx]
  funext i
  refine Eq.trans ?_ (dxR_at _ _ i).symm
  exact Finset.sum_congr rfl fun k _ => congrArg₂ (· * ·) rfl (wK_at _ _)

end Cert.Kernel11Ideal.Value
-- ==== Proof.Dw12.lean ====
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference12Ideal.Value

open Cert.Reference12Ideal Cert.Reference12Ideal.Gen

/-- The reference's gradient of the weights, transposed, as an array of its arguments. -/
def prodR (a0 : FVec Ideal S16384x4096 .bf16) (a1 : FVec Ideal S16384x1024 .bf16) : FVec Ideal S4096x1024 .bf16 :=
  truncf .bf16 (transpose S4096x1024 [1, 0] (transpose S1024x4096 [1, 0] (Host.dotGeneral dot_S16384x4096_S16384x1024_S4096x1024_0_0_1_1_n_n none (extf .f32 a0 bitsLt_bf16_f32) (extf .f32 a1 bitsLt_bf16_f32)) transposes_S4096x1024_S1024x4096_1_0) transposes_S1024x4096_S4096x1024_1_0) bitsLt_bf16_f32

/-- An entry of it: a sum over all the rows. -/
theorem prodR_at (a0 a1) (j) : prodR a0 a1 j = ∑ k : Fin 16384, a0 (ix2 k (j 0)) * a1 (ix2 k (j 1)) := by
  pointwise [prodR]

end Cert.Reference12Ideal.Value

namespace Cert.Kernel12Ideal.Value

open Cert.Kernel12Ideal Cert.Kernel12Ideal.Gen
open Cert.Reference12Ideal.Value (prodR prodR_at)

/-- What the 2048 rows of one point add to a block of the product: `x0` transposed times `x1`. -/
def part (x0 : Vec Ideal S2048x1024 .bf16) (x1 : Vec Ideal S2048x1024 .bf16) : Vec Ideal S1024x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1024) : Fin 4096 := ⟨t.val / 8 * 1024 + a, by have : t.val < 32 := t.isLt; omega⟩

variable (m : (ℓ : Loc nD τ sig) → Buf (Elt Ideal) ℓ) (c : Dev nD) (t : Fin cfg0.N)

/-- The chunk of rows of the left factor. -/
theorem blk0 (y : S2048x1024.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1024x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

/-- Equal factors have equal products. -/
theorem same_term {a b a' b' : EReal} (ha : a = a') (hb : b = b') : a * b = a' * b' := by
  rw [ha, hb]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1024 + (y 0).val) hd
  · exact congrArg (ix2 · (y 1)) (Fin.ext (congrArg (· * 2048 + r.val) hs))

end Cert.Kernel12Ideal.Value
-- ==== Proof.Prod13.lean ====
module

public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The reference: a product `x w`, and the gradient of `x` -/

namespace Cert.Reference13Ideal.Value

open Cert.Reference13Ideal Cert.Reference13Ideal.Gen

/-- The product. -/
def yR (a0 : FVec Ideal S16384x2048 .bf16) (a1 : FVec Ideal S2048x1024 .f32) : FVec Ideal S16384x1024 .f32 :=
  Host.dotGeneral dot_S16384x2048_S2048x1024_S16384x1024_1_0_0_1_n_n none (extf .f32 a0 bitsLt_bf16_f32) a1

/-- The gradient of `x`. -/
def dxR (a2 : FVec Ideal S16384x1024 .bf16) (a1 : FVec Ideal S2048x1024 .f32) : FVec Ideal S16384x2048 .f32 :=
  Host.dotGeneral dot_S16384x1024_S2048x1024_S16384x2048_1_1_0_0_n_n none (extf .f32 a2 bitsLt_bf16_f32) a1

theorem yR_at (a0 a1) (i) : yR a0 a1 i = ∑ k : Fin 2048, a0 (ix2 (i 0) k) * a1 (ix2 k (i 1)) := by
  pointwise [yR]

theorem dxR_at (a2 a1) (i) : dxR a2 a1 i = ∑ k : Fin 1024, a2 (ix2 (i 0) k) * a1 (ix2 (i 1) k) := by
  pointwise [dxR]

end Cert.Reference13Ideal.Value

namespace Cert.Kernel13Ideal.Value

open Cert.Kernel13Ideal Cert.Kernel13Ideal.Gen
open Cert.Reference13Ideal.Value (yR dxR yR_at dxR_at)

/-! ## The two calls run one after the other -/

section Run

variable {F : FTy → Type} [FloatOps F]

/-- The propositions the run is stated in. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The calls run one after the other, and every buffer ends at what they leave in it. -/
theorem run_all : θ_run defs (onTc (τ := τ) (main (F := F))) ⟨m, fun _ => 0, ρ⟩ fun r =>
    ∀ c : Dev nD, ∀ b ∈ Pipeline.ucRefs τ sig, r.2.mem ((c : Thread nD τ).1, b) = W3 m ρ c b := by
  refine Pipeline.θ_run_regions_kit_sems (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?start)
    (QY := fun c s => ∀ b ∈ Pipeline.ucRefs τ sig, s.mem ((c : Thread nD τ).1, b) = W3 m ρ c b)
    (hfin := ?finish) (hQ := fun _ h _ => h)
  case pipes => simp only [segs, Pipeline.Seg.pipes_host, Pipeline.Seg.pipes_region, Pipeline.Seg.pipes_nil]; decide
  case tokens =>
    iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case start =>
    refine Pipeline.initEach L lv fun c => ?_
    have e : (unscopedBufs c (fun b => m ((c : Thread nD τ).loc b)) : sProp 𝕄)
        = StableHlo.held (c : Thread nD τ) (Pipeline.ucRefs τ sig) (W0 m ρ c) := Pipeline.unscopedBufs_held c (W0 m ρ c)
    rw [e]
    iintro ⟨⟨Hbufs, -, Howes, -, Hprng, -⟩, -⟩
    imodintro
    isplitl [Hbufs]
    · iexact Hbufs
    isplitl [Hprng]
    · iexists _
      iexact Hprng
    · iexists ∅
      iexact Howes
  case finish =>
    intro c s
    iintro ⟨⟨Hbufs, -⟩, Hstate⟩
    unfold StableHlo.held
    imodintro
    iapply (pointsTo_read_all (Pipeline.ucRefs τ sig) (fun b => ((c : Thread nD τ).1, b)) (W3 m ρ c) s)
    isplitl [Hbufs] <;> iassumption

/-- The two results end at what the two calls leave, the arguments as they were. -/
theorem run_blocks : θ_run defs (onTc (τ := τ) (main (F := F))) ⟨m, fun _ => 0, ρ⟩ fun r => ∀ c : Dev nD,
    r.2.mem ((c.tc : Thread nD τ).loc main_v1) = (dat0 (V1 m ρ) c).arrAt 2 cfg0.N
    ∧ r.2.mem ((c.tc : Thread nD τ).loc main_v2) = (dat1 (V2 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨?_, ?_, ?_, ?_, ?_⟩) (run_all m ρ)
  · refine (h c _ (mem_uc main_v1 (by decide))).trans ?_
    rw [W3_of m ρ c main_v1 (by decide)]
    exact W2_arr m ρ c 2
  · exact (h c _ (mem_uc main_v2 (by decide))).trans (W3_arr m ρ c 2)
  · exact (h c _ (mem_uc main_arg0 (by decide))).trans (W3_main_arg0 m ρ c)
  · exact (h c _ (mem_uc main_arg1 (by decide))).trans (W3_main_arg1 m ρ c)
  · exact (h c _ (mem_uc main_arg2 (by decide))).trans (W3_main_arg2 m ρ c)

end Run

/-! ## One block of each call -/

theorem blk_y (x0 x1) (y) : out0_2 (F := Ideal) x0 x1 y = ∑ k : Fin 2048, x0 (ix2 (y 0) k) * x1 (ix2 k (y 1)) := by
  frame_out
  open_payloads
  pointwise []

theorem blk_dx (x0 x1) (y) : out1_2 (F := Ideal) x0 x1 y = ∑ k : Fin 1024, x0 (ix2 (y 0) k) * x1 (ix2 (y 1) k) := by
  frame_out
  open_payloads
  pointwise []

/-! ## The arrays the calls leave -/

/-- Row `a` of block `b` of rows. -/
abbrev rowOf (b : ℕ) (hb : b < 32) (a : Fin 512) : Fin 16384 := ⟨b * 512 + a, by omega⟩

/-- Point `t` is the block of rows `t % 32` and the block of columns `t / 32`. -/
theorem idx0 : ∀ t : Fin cfg0.N, win0_0.index t = ![t.val % 32, 0] ∧ win0_1.index t = ![0, t.val / 32] ∧ win0_2.index t = ![t.val % 32, t.val / 32] :=
  (by decide +kernel : ∀ t : Fin grid0.N, _)

/-- Column `a` of block `b` of columns. -/
abbrev colOf0 (b : ℕ) (hb : b < 1) (a : Fin 1024) : Fin 1024 := ⟨b * 1024 + a, by omega⟩

theorem mod_lt0 (t : Fin cfg0.N) : t.val % 32 < 32 := Nat.mod_lt _ (by decide)
theorem div_lt0 (t : Fin cfg0.N) : t.val / 32 < 1 := by have : t.val < 32 := t.isLt; omega

/-- The product of a call, as arrays. -/
def prod0 (x : FVec Ideal S16384x2048 .bf16) (w : FVec Ideal S2048x1024 .bf16) : FVec Ideal S16384x1024 .f32 := fun i =>
  ∑ k : Fin 2048, x (ix2 (i 0) k) * w (ix2 k (i 1))

/-- Point `t` is the block of rows `t % 32` and the block of columns `t / 32`. -/
theorem idx1 : ∀ t : Fin cfg1.N, win1_0.index t = ![t.val % 32, 0] ∧ win1_1.index t = ![t.val / 32, 0] ∧ win1_2.index t = ![t.val % 32, t.val / 32] :=
  (by decide +kernel : ∀ t : Fin grid1.N, _)

/-- Column `a` of block `b` of columns. -/
abbrev colOf1 (b : ℕ) (hb : b < 2) (a : Fin 1024) : Fin 2048 := ⟨b * 1024 + a, by omega⟩

theorem mod_lt1 (t : Fin cfg1.N) : t.val % 32 < 32 := Nat.mod_lt _ (by decide)
theorem div_lt1 (t : Fin cfg1.N) : t.val / 32 < 2 := by have : t.val < 64 := t.isLt; omega

/-- The product of a call, as arrays. -/
def prod1 (x : FVec Ideal S16384x1024 .bf16) (w : FVec Ideal S2048x1024 .bf16) : FVec Ideal S16384x2048 .f32 := fun i =>
  ∑ k : Fin 1024, x (ix2 (i 0) k) * w (ix2 (i 1) k)

attribute [local irreducible] out0_2 out1_2

/-- Every buffer's contents when a call starts. -/
abbrev Bufs := (c : Dev nD) → (b : Ref sig .tc) → Buf (Elt Ideal) ((c : Thread nD τ).loc b)

section Arrays
variable (V : Bufs) (c : Dev nD)

theorem in0_0 (t : Fin cfg0.N) (y : S512x2048.Idx) : iblk0 V c 0 t y = V c main_arg0 (ix2 (rowOf _ (mod_lt0 t) (y 0)) (y 1)) := by
  blk_point [iblk0, idx0 t, rowOf]

theorem in0_1 (t : Fin cfg0.N) (y : S2048x1024.Idx) : iblk0 V c 1 t y = V c main_v0 (ix2 (y 0) (colOf0 _ (div_lt0 t) (y 1))) := by
  blk_point [iblk0, idx0 t, colOf0]

theorem emb0 (t : Fin cfg0.N) (y : S512x1024.Idx) : (win0_2.blk t).view.emb y = ix2 (rowOf _ (mod_lt0 t) (y 0)) (colOf0 _ (div_lt0 t) (y 1)) := by
  blk_ext [idx0 t, rowOf, colOf0]

theorem at0 (t : Fin cfg0.N) (y : S512x1024.Idx) : out0_2 (iblk0 V c 0 t) (iblk0 V c 1 t) y
    = prod0 (V c main_arg0) (V c main_v0) (ix2 (rowOf _ (mod_lt0 t) (y 0)) (colOf0 _ (div_lt0 t) (y 1))) := by
  rw [blk_y]
  simp only [prod0, in0_0, in0_1]
  rfl

/-- What the call leaves. -/
theorem arr0 : (dat0 V c).arrAt 2 cfg0.N = prod0 (V c main_arg0) (V c main_v0) := by
  refine (dat0 V c).arrAt_eq_of_covers 2 _ (by decide +kernel) fun t hf y => ?_
  rw [after0_2]
  exact (at0 V c t y).trans (congrArg _ (emb0 t y).symm)

theorem in1_0 (t : Fin cfg1.N) (y : S512x1024.Idx) : iblk1 V c 0 t y = V c main_arg2 (ix2 (rowOf _ (mod_lt1 t) (y 0)) (y 1)) := by
  blk_point [iblk1, idx1 t, rowOf]

theorem in1_1 (t : Fin cfg1.N) (y : S1024x1024.Idx) : iblk1 V c 1 t y = V c main_v0 (ix2 (colOf1 _ (div_lt1 t) (y 0)) (y 1)) := by
  blk_point [iblk1, idx1 t, colOf1]

theorem emb1 (t : Fin cfg1.N) (y : S512x1024.Idx) : (win1_2.blk t).view.emb y = ix2 (rowOf _ (mod_lt1 t) (y 0)) (colOf1 _ (div_lt1 t) (y 1)) := by
  blk_ext [idx1 t, rowOf, colOf1]

theorem at1 (t : Fin cfg1.N) (y : S512x1024.Idx) : out1_2 (iblk1 V c 0 t) (iblk1 V c 1 t) y
    = prod1 (V c main_arg2) (V c main_v0) (ix2 (rowOf _ (mod_lt1 t) (y 0)) (colOf1 _ (div_lt1 t) (y 1))) := by
  rw [blk_dx]
  simp only [prod1, in1_0, in1_1]
  rfl

/-- What the call leaves. -/
theorem arr1 : (dat1 V c).arrAt 2 cfg1.N = prod1 (V c main_arg2) (V c main_v0) := by
  refine (dat1 V c).arrAt_eq_of_covers 2 _ (by decide +kernel) fun t hf y => ?_
  rw [after1_2]
  exact (at1 V c t y).trans (congrArg _ (emb1 t y).symm)

end Arrays

/-! ## The host's weights, and the two sides -/

variable (m : (ℓ : Loc nD τ sig) → Buf (Elt Ideal) ℓ) (ρ : Dev nD → PrngReg) (c : Dev nD)

/-- The weights as the host hands them to the calls. -/
def wK (w : FVec Ideal S2048x1024 .f32) : FVec Ideal S2048x1024 .bf16 :=
  truncf .bf16 w bitsLt_bf16_f32

theorem wK_at (w) (i) : wK w i = w i := by
  pointwise [wK]

theorem val_w : V1 m ρ c main_v0 = wK (m ((c : Thread nD τ).loc main_arg1)) := by
  show StableHlo.after hostOps0 (W0 m ρ c) main_v0 = _
  after_results
  rfl

/-- The product is the reference's. -/
theorem final_y : (dat0 (V1 m ρ) c).arrAt 2 cfg0.N = yR (m ((c : Thread nD τ).loc main_arg0)) (m ((c : Thread nD τ).loc main_arg1)) := by
  refine (arr0 (V1 m ρ) c).trans ?_
  rw [val_w]
  funext i
  refine Eq.trans ?_ (yR_at _ _ i).symm
  exact Finset.sum_congr rfl fun k _ => congrArg₂ (· * ·) (congrFun (W1_of m ρ c main_arg0 (by decide)) _) (wK_at _ _)

/-- The gradient of `x` is the reference's. -/
theorem final_dx : (dat1 (V2 m ρ) c).arrAt 2 cfg1.N = dxR (m ((c : Thread nD τ).loc main_arg2)) (m ((c : Thread nD τ).loc main_arg1)) := by
  refine (arr1 (V2 m ρ) c).trans ?_
  have hw : V2 m ρ c main_v0 = wK (m ((c : Thread nD τ).loc main_arg1)) := (W2_of m ρ c main_v0 (by decide)).trans (val_w m ρ c)
  have hx : V2 m ρ c main_arg2 = m ((c : Thread nD τ).loc main_arg2) := (W2_of m ρ c main_arg2 (by decide)).trans (W1_of m ρ c main_arg2 (by decide))
  rw [hw, hx]
  funext i
  refine Eq.trans ?_ (dxR_at _ _ i).symm
  exact Finset.sum_congr rfl fun k _ => congrArg₂ (· * ·) rfl (wK_at _ _)

end Cert.Kernel13Ideal.Value
-- ==== Proof.Dw14.lean ====
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference14Ideal.Value

open Cert.Reference14Ideal Cert.Reference14Ideal.Gen

/-- The reference's gradient of the weights, as an array of its arguments. -/
def prodR (a0 : FVec Ideal S16384x2048 .bf16) (a1 : FVec Ideal S16384x1024 .bf16) : FVec Ideal S2048x1024 .bf16 :=
  truncf .bf16 (transpose S2048x1024 [1, 0] (Host.dotGeneral dot_S16384x1024_S16384x2048_S1024x2048_0_0_1_1_n_n none (extf .f32 a1 bitsLt_bf16_f32) (extf .f32 a0 bitsLt_bf16_f32)) transposes_S1024x2048_S2048x1024_1_0) bitsLt_bf16_f32

/-- An entry of it: a sum over all the rows. -/
theorem prodR_at (a0 a1) (j) : prodR a0 a1 j = ∑ k : Fin 16384, a1 (ix2 k (j 1)) * a0 (ix2 k (j 0)) := by
  pointwise [prodR]

end Cert.Reference14Ideal.Value

namespace Cert.Kernel14Ideal.Value

open Cert.Kernel14Ideal Cert.Kernel14Ideal.Gen
open Cert.Reference14Ideal.Value (prodR prodR_at)

/-- What the 2048 rows of one point add to a block of the product: `x0` transposed times `x1`. -/
def part (x0 : Vec Ideal S2048x1024 .bf16) (x1 : Vec Ideal S2048x1024 .bf16) : Vec Ideal S1024x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1024) : Fin 2048 := ⟨t.val / 8 * 1024 + a, by have : t.val < 16 := t.isLt; omega⟩

variable (m : (ℓ : Loc nD τ sig) → Buf (Elt Ideal) ℓ) (c : Dev nD) (t : Fin cfg0.N)

/-- The chunk of rows of the left factor. -/
theorem blk0 (y : S2048x1024.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1024x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

/-- Equal factors have equal products. -/
theorem same_term {a b a' b' : EReal} (ha : a = a') (hb : b = b') : a * b = b' * a' := by
  rw [ha, hb, mul_comm]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1024 + (y 0).val) hd
  · exact congrArg (ix2 · (y 1)) (Fin.ext (congrArg (· * 2048 + r.val) hs))

end Cert.Kernel14Ideal.Value
-- ==== Proof.Prod15.lean ====
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference15Ideal.Value

open Cert.Reference15Ideal Cert.Reference15Ideal.Gen

/-- The reference's product of the attention's input with its three weights side by side. -/
def prodR (a0 : FVec Ideal S16384x1024 .bf16) (a1 : FVec Ideal S1024x9216 .f32) : FVec Ideal S16384x9216 .bf16 :=
  truncf .bf16 (Host.dotGeneral dot_S16384x1024_S1024x9216_S16384x9216_1_0_0_1_n_n none (extf .f32 a0 bitsLt_bf16_f32) a1) bitsLt_bf16_f32

theorem prodR_at (a0 a1) (i) : prodR a0 a1 i = ∑ k : Fin 1024, a0 (ix2 (i 0) k) * a1 (ix2 k (i 1)) := by
  pointwise [prodR]

end Cert.Reference15Ideal.Value

namespace Cert.Kernel15Ideal.Value

open Cert.Kernel15Ideal Cert.Kernel15Ideal.Gen
open Cert.Reference15Ideal.Value (prodR prodR_at)

/-- One block: rows of the input times rows of the transposed weights. -/
theorem blk_y (x0 x1) (y) : out0_2 (F := Ideal) x0 x1 y = ∑ k : Fin 1024, x0 (ix2 (y 0) k) * x1 (ix2 (y 1) k) := by
  frame_out
  open_payloads
  pointwise []

/-- Row `a` of block `b` of rows. -/
abbrev rowOf (b : ℕ) (hb : b < 32) (a : Fin 512) : Fin 16384 := ⟨b * 512 + a, by omega⟩

/-- Column `a` of block `b` of columns. -/
abbrev colOf (b : ℕ) (hb : b < 8) (a : Fin 1152) : Fin 9216 := ⟨b * 1152 + a, by omega⟩

/-- Point `t` is the block of rows `t % 32` and the block of columns `t / 32`. -/
theorem idx : ∀ t : Fin cfg0.N, win0_0.index t = ![t.val % 32, 0] ∧ win0_1.index t = ![t.val / 32, 0] ∧ win0_2.index t = ![t.val % 32, t.val / 32] :=
  (by decide +kernel : ∀ t : Fin grid0.N, _)

theorem mod_lt (t : Fin cfg0.N) : t.val % 32 < 32 := Nat.mod_lt _ (by decide)
theorem div_lt (t : Fin cfg0.N) : t.val / 32 < 8 := by have : t.val < 256 := t.isLt; omega

/-- The weights as the host hands them to the call. -/
def wK (w : FVec Ideal S1024x9216 .f32) : FVec Ideal S9216x1024 .bf16 :=
  truncf .bf16 (transpose S9216x1024 [1, 0] w transposes_S1024x9216_S9216x1024_1_0) bitsLt_bf16_f32

theorem wK_at (w) (i) : wK w i = w (ix2 (i 1) (i 0)) := by
  pointwise [wK]

attribute [local irreducible] out0_2

variable (m : (ℓ : Loc nD τ sig) → Buf (Elt Ideal) ℓ) (c : Dev nD)

theorem val_w : V m c main_v1 = wK (m ((c : Thread nD τ).loc main_arg1)) := by
  show StableHlo.after hostOps0 (fun b => m (c, b)) main_v1 = _
  after_results
  rfl

theorem in_0 (t : Fin cfg0.N) (y : S512x1024.Idx) : iblk m c 0 t y = V m c main_arg0 (ix2 (rowOf _ (mod_lt t) (y 0)) (y 1)) := by
  blk_point [iblk, idx t, rowOf]

theorem in_1 (t : Fin cfg0.N) (y : S1152x1024.Idx) : iblk m c 1 t y = V m c main_v1 (ix2 (colOf _ (div_lt t) (y 0)) (y 1)) := by
  blk_point [iblk, idx t, colOf]

theorem emb (t : Fin cfg0.N) (y : S512x1152.Idx) : (win0_2.blk t).view.emb y = ix2 (rowOf _ (mod_lt t) (y 0)) (colOf _ (div_lt t) (y 1)) := by
  blk_ext [idx t, rowOf, colOf]

theorem at_y (t : Fin cfg0.N) (y : S512x1152.Idx) : out0_2 (iblk m c 0 t) (iblk m c 1 t) y
    = prodR (m ((c : Thread nD τ).loc main_arg0)) (m ((c : Thread nD τ).loc main_arg1)) (ix2 (rowOf _ (mod_lt t) (y 0)) (colOf _ (div_lt t) (y 1))) := by
  rw [blk_y]
  refine Eq.trans ?_ (prodR_at _ _ _).symm
  refine Finset.sum_congr rfl fun k _ => congrArg₂ (· * ·) ?_ ?_
  · exact (in_0 m c t _).trans (congrFun (V_main_arg0 m c) _)
  · exact (in_1 m c t _).trans ((congrFun (val_w m c) _).trans (wK_at _ _))

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  exact (at_y m c t y).trans (congrArg _ (emb t y).symm)

end Cert.Kernel15Ideal.Value
-- ==== Proof.Prod16.lean ====
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference16Ideal.Value

open Cert.Reference16Ideal Cert.Reference16Ideal.Gen

/-- The gradients of the three products, side by side. -/
def dys (a0 a1 a2 : FVec Ideal S16384x3072 .bf16) : FVec Ideal S16384x9216 .bf16 :=
  concatenate S16384x9216 1 [⟨S16384x3072, a0⟩, ⟨S16384x3072, a1⟩, ⟨S16384x3072, a2⟩] concatenates_S16384x3072_S16384x3072_S16384x3072_S16384x9216_d1

/-- The gradient of the attention's input. -/
def dxR (a0 a1 a2 : FVec Ideal S16384x3072 .bf16) (a3 : FVec Ideal S1024x9216 .f32) : FVec Ideal S16384x1024 .f32 :=
  Host.dotGeneral dot_S16384x9216_S1024x9216_S16384x1024_1_1_0_0_n_n none (extf .f32 (dys a0 a1 a2) bitsLt_bf16_f32) a3

theorem dxR_at (a0 a1 a2 a3) (i) : dxR a0 a1 a2 a3 i = ∑ k : Fin 9216, dys a0 a1 a2 (ix2 (i 0) k) * a3 (ix2 (i 1) k) := by
  pointwise [dxR]

/-- Off the joined axis nothing moves. -/
theorem side (r : Fin 16384) (k : Fin 3072) (q : Fin 9216) : ∀ b : Fin 2, b ≠ 1 → ((ix2 r k : S16384x3072.Idx) b).val = ((ix2 r q : S16384x9216.Idx) b).val := fun b hb => by
  match b with
  | 0 => rfl
  | 1 => exact absurd rfl hb

theorem dys_0 (a0 a1 a2) (r : Fin 16384) (k : Fin 3072) : dys a0 a1 a2 (ix2 r ⟨0 + k.val, by omega⟩) = a0 (ix2 r k) :=
  concatenate_apply_piece (t := S16384x9216) 1 [⟨S16384x3072, a0⟩, ⟨S16384x3072, a1⟩, ⟨S16384x3072, a2⟩] _ _ 0 (by show 0 < 3; omega) S16384x3072 a0 rfl rfl
    0 rfl (ix2 r k) (side r k _) rfl

theorem dys_1 (a0 a1 a2) (r : Fin 16384) (k : Fin 3072) : dys a0 a1 a2 (ix2 r ⟨3072 + k.val, by omega⟩) = a1 (ix2 r k) :=
  concatenate_apply_piece (t := S16384x9216) 1 [⟨S16384x3072, a0⟩, ⟨S16384x3072, a1⟩, ⟨S16384x3072, a2⟩] _ _ 1 (by show 1 < 3; omega) S16384x3072 a1 rfl rfl
    3072 rfl (ix2 r k) (side r k _) rfl

theorem dys_2 (a0 a1 a2) (r : Fin 16384) (k : Fin 3072) : dys a0 a1 a2 (ix2 r ⟨6144 + k.val, by omega⟩) = a2 (ix2 r k) :=
  concatenate_apply_piece (t := S16384x9216) 1 [⟨S16384x3072, a0⟩, ⟨S16384x3072, a1⟩, ⟨S16384x3072, a2⟩] _ _ 2 (by show 2 < 3; omega) S16384x3072 a2 rfl rfl
    6144 rfl (ix2 r k) (side r k _) rfl

end Cert.Reference16Ideal.Value

namespace Cert.Kernel16Ideal.Value

open Cert.Kernel16Ideal Cert.Kernel16Ideal.Gen
open Cert.Reference16Ideal.Value (dys dxR dxR_at dys_0 dys_1 dys_2)

/-- What one point adds to a block of the gradient: a chunk of each of the three products. -/
def part (x0 x1 x2 : Vec Ideal S512x1536 .bf16) (x3 x4 x5 : Vec Ideal S1536x1024 .bf16) : Vec Ideal S512x1024 .f32 := fun y =>
  ((∑ q : Fin 1536, x0 (ix2 (y 0) q) * x3 (ix2 q (y 1))) + ∑ q : Fin 1536, x1 (ix2 (y 0) q) * x4 (ix2 q (y 1)))
    + ∑ q : Fin 1536, x2 (ix2 (y 0) q) * x5 (ix2 q (y 1))

/-- The first point of a block leaves its own part. -/
theorem out_A (c : Dev nD) (t : Fin cfg0.N) (h0 h1) (x0 x1 x2 x3 x4 x5) (y) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3 x4 x5) y = part x0 x1 x2 x3 x4 x5 y := by
  frame_out
  open_payloads
  pointwise [part]

/-- The second adds its own part. -/
theorem out_B (c : Dev nD) (t : Fin cfg0.N) (h0 h1) (x0 x1 x2 x3 x4 x5 acc) (y) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3 x4 x5 acc) y = acc y + part x0 x1 x2 x3 x4 x5 y := by
  frame_out
  open_payloads
  pointwise [part]

/-- Point `t` is the block of rows `t / 2` and the chunk `t % 2` of each product. -/
theorem idx : ∀ t : Fin cfg0.N, win0_0.index t = ![t.val / 2, t.val % 2] ∧ win0_1.index t = ![t.val / 2, t.val % 2] ∧ win0_2.index t = ![t.val / 2, t.val % 2]
    ∧ win0_3.index t = ![t.val % 2, 0] ∧ win0_4.index t = ![t.val % 2, 0] ∧ win0_5.index t = ![t.val % 2, 0] ∧ win0_6.index t = ![t.val / 2, 0] :=
  (by decide +kernel : ∀ t : Fin grid0.N, _)

/-- Row `a` of the block of rows of a point. -/
abbrev rowOf (t : Fin cfg0.N) (a : Fin 512) : Fin 16384 := ⟨t.val / 2 * 512 + a, by have : t.val < 64 := t.isLt; omega⟩

/-- Position `q` of the chunk of a point. -/
abbrev chunkOf (t : Fin cfg0.N) (q : Fin 1536) : Fin 3072 := ⟨t.val % 2 * 1536 + q, by omega⟩

/-- A third of the weights, as the host hands it to the call. -/
def w0 (w : FVec Ideal S1024x9216 .f32) : FVec Ideal S3072x1024 .bf16 :=
  extractStridedSlice S3072x1024 ![0, 0] (truncf .bf16 (transpose S9216x1024 [1, 0] w transposes_S1024x9216_S9216x1024_1_0) bitsLt_bf16_f32) slices_S9216x1024_S3072x1024_0_0
def w1 (w : FVec Ideal S1024x9216 .f32) : FVec Ideal S3072x1024 .bf16 :=
  extractStridedSlice S3072x1024 ![3072, 0] (truncf .bf16 (transpose S9216x1024 [1, 0] w transposes_S1024x9216_S9216x1024_1_0) bitsLt_bf16_f32) slices_S9216x1024_S3072x1024_3072_0
def w2 (w : FVec Ideal S1024x9216 .f32) : FVec Ideal S3072x1024 .bf16 :=
  extractStridedSlice S3072x1024 ![6144, 0] (truncf .bf16 (transpose S9216x1024 [1, 0] w transposes_S1024x9216_S9216x1024_1_0) bitsLt_bf16_f32) slices_S9216x1024_S3072x1024_6144_0

theorem w0_at (w) (i : S3072x1024.Idx) : w0 w i = w (ix2 (i 1) ⟨0 + (i 0).val, by have := (i 0).isLt; change _ < 3072 at this; omega⟩) := by
  pointwise [w0]

theorem w1_at (w) (i : S3072x1024.Idx) : w1 w i = w (ix2 (i 1) ⟨3072 + (i 0).val, by have := (i 0).isLt; change _ < 3072 at this; omega⟩) := by
  pointwise [w1]

theorem w2_at (w) (i : S3072x1024.Idx) : w2 w i = w (ix2 (i 1) ⟨6144 + (i 0).val, by have := (i 0).isLt; change _ < 3072 at this; omega⟩) := by
  pointwise [w2]

variable (m : (ℓ : Loc nD τ sig) → Buf (Elt Ideal) ℓ) (c : Dev nD) (t : Fin cfg0.N)

theorem val_w0 : V m c main_v2 = w0 (m ((c : Thread nD τ).loc main_arg3)) := by
  show StableHlo.after hostOps0 (fun b => m (c, b)) main_v2 = _
  after_results
  rfl

theorem in_0 (y : S512x1536.Idx) : iblk m c 0 t y = m ((c : Thread nD τ).loc main_arg0) (ix2 (rowOf t (y 0)) (chunkOf t (y 1))) := by
  have h : iblk m c 0 t y = V m c main_arg0 (ix2 (rowOf t (y 0)) (chunkOf t (y 1))) := by blk_point [iblk, idx t, rowOf, chunkOf]
  exact h.trans (congrFun (V_main_arg0 m c) _)

theorem in_3 (y : S1536x1024.Idx) : iblk m c 3 t y = m ((c : Thread nD τ).loc main_arg3) (ix2 (y 1) ⟨0 + (chunkOf t (y 0)).val, by omega⟩) := by
  have h : iblk m c 3 t y = V m c main_v2 (ix2 (chunkOf t (y 0)) (y 1)) := by blk_point [iblk, idx t, chunkOf]
  exact h.trans ((congrFun (val_w0 m c) _).trans (w0_at _ _))

theorem val_w1 : V m c main_v3 = w1 (m ((c : Thread nD τ).loc main_arg3)) := by
  show StableHlo.after hostOps0 (fun b => m (c, b)) main_v3 = _
  after_results
  rfl

theorem in_1 (y : S512x1536.Idx) : iblk m c 1 t y = m ((c : Thread nD τ).loc main_arg1) (ix2 (rowOf t (y 0)) (chunkOf t (y 1))) := by
  have h : iblk m c 1 t y = V m c main_arg1 (ix2 (rowOf t (y 0)) (chunkOf t (y 1))) := by blk_point [iblk, idx t, rowOf, chunkOf]
  exact h.trans (congrFun (V_main_arg1 m c) _)

theorem in_4 (y : S1536x1024.Idx) : iblk m c 4 t y = m ((c : Thread nD τ).loc main_arg3) (ix2 (y 1) ⟨3072 + (chunkOf t (y 0)).val, by omega⟩) := by
  have h : iblk m c 4 t y = V m c main_v3 (ix2 (chunkOf t (y 0)) (y 1)) := by blk_point [iblk, idx t, chunkOf]
  exact h.trans ((congrFun (val_w1 m c) _).trans (w1_at _ _))

theorem val_w2 : V m c main_v4 = w2 (m ((c : Thread nD τ).loc main_arg3)) := by
  show StableHlo.after hostOps0 (fun b => m (c, b)) main_v4 = _
  after_results
  rfl

theorem in_2 (y : S512x1536.Idx) : iblk m c 2 t y = m ((c : Thread nD τ).loc main_arg2) (ix2 (rowOf t (y 0)) (chunkOf t (y 1))) := by
  have h : iblk m c 2 t y = V m c main_arg2 (ix2 (rowOf t (y 0)) (chunkOf t (y 1))) := by blk_point [iblk, idx t, rowOf, chunkOf]
  exact h.trans (congrFun (V_main_arg2 m c) _)

theorem in_5 (y : S1536x1024.Idx) : iblk m c 5 t y = m ((c : Thread nD τ).loc main_arg3) (ix2 (y 1) ⟨6144 + (chunkOf t (y 0)).val, by omega⟩) := by
  have h : iblk m c 5 t y = V m c main_v4 (ix2 (chunkOf t (y 0)) (y 1)) := by blk_point [iblk, idx t, chunkOf]
  exact h.trans ((congrFun (val_w2 m c) _).trans (w2_at _ _))

theorem emb (y : S512x1024.Idx) : (win0_6.blk t).view.emb y = ix2 (rowOf t (y 0)) (y 1) := by
  blk_ext [idx t, rowOf]

/-- A term of the reference's sum. -/
def term (r : Fin 16384) (j : Fin 1024) (k : Fin 9216) : EReal :=
  dys (m ((c : Thread nD τ).loc main_arg0)) (m ((c : Thread nD τ).loc main_arg1)) (m ((c : Thread nD τ).loc main_arg2)) (ix2 r k) * (m ((c : Thread nD τ).loc main_arg3)) (ix2 j k)

/-- A point's part is three chunks of the reference's sum. -/
theorem part_at (y) : part (iblk m c 0 t) (iblk m c 1 t) (iblk m c 2 t) (iblk m c 3 t) (iblk m c 4 t) (iblk m c 5 t) y
    = ((∑ q : Fin 1536, term m c (rowOf t (y 0)) (y 1) ⟨0 + (chunkOf t q).val, by omega⟩) + ∑ q : Fin 1536, term m c (rowOf t (y 0)) (y 1) ⟨3072 + (chunkOf t q).val, by omega⟩)
      + ∑ q : Fin 1536, term m c (rowOf t (y 0)) (y 1) ⟨6144 + (chunkOf t q).val, by omega⟩ := by
  refine congrArg₂ (· + ·) (congrArg₂ (· + ·) ?_ ?_) ?_
  · exact Finset.sum_congr rfl fun q _ => congrArg₂ (· * ·) ((in_0 m c t _).trans (dys_0 _ _ _ _ _).symm) (in_3 m c t _)
  · exact Finset.sum_congr rfl fun q _ => congrArg₂ (· * ·) ((in_1 m c t _).trans (dys_1 _ _ _ _ _).symm) (in_4 m c t _)
  · exact Finset.sum_congr rfl fun q _ => congrArg₂ (· * ·) ((in_2 m c t _).trans (dys_2 _ _ _ _ _).symm) (in_5 m c t _)

/-- Six chunks of 1536 positions are all of them. -/
theorem sum_chunks (f : Fin 9216 → EReal) : ∑ s : Fin 6, ∑ r : Fin 1536, f ⟨s.val * 1536 + r.val, by omega⟩ = ∑ k, f k := by
  rw [← (finProdFinEquiv (m := 6) (n := 1536)).sum_comp f, Fintype.sum_prod_type]
  refine Finset.sum_congr rfl fun s _ => Finset.sum_congr rfl fun r _ => congrArg f (Fin.ext ?_)
  show s.val * 1536 + r.val = r.val + 1536 * s.val
  omega

/-- The same sum of chunks at positions that are equal. -/
theorem chunk_eq (f : Fin 9216 → EReal) (g : Fin 1536 → Fin 9216) (s : ℕ) (hs : s < 6) (h : ∀ q, (g q).val = s * 1536 + q.val) :
    ∑ q, f (g q) = ∑ q : Fin 1536, f ⟨s * 1536 + q.val, by omega⟩ :=
  Finset.sum_congr rfl fun q _ => congrArg f (Fin.ext (h q))

/-- Six terms in another order. -/
theorem six (a b c d e f : EReal) : a + c + e + (b + d + f) = a + b + c + d + e + f := by
  abel

/-- The array the kernel leaves is the reference's. -/
theorem final_prod : (dats m 0 c).arrAt 6 (cfgs 0).N = dxR (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  rw [after0_6]
  have h1 : t.val % 2 = 1 := (flush0_6 t).mp hf
  have hN : t.val < 64 := t.isLt
  refine Eq.trans ?_ (congrArg _ (emb t y).symm)
  refine Eq.trans ?_ (dxR_at _ _ _ _ _).symm
  refine Eq.trans ?_ (sum_chunks (term m c (rowOf t (y 0)) (y 1)))
  have hA := outsAt0_A m c ⟨t.val - 1, by show _ < 64; omega⟩ (by dsimp only; omega) (by dsimp only; omega)
  rw [outsAt0_B m c t (by omega) h1, out_B, part_at]
  have hA' : outsAt0 m c (t.val - 1) (Nat.lt_of_le_of_lt (Nat.sub_le _ _) t.isLt) y = _ := (congrFun hA y).trans ((out_A c _ _ _ _ _ _ _ _ _ y).trans (part_at m c _ y))
  rw [hA']
  have hr : rowOf ⟨t.val - 1, by show _ < 64; omega⟩ (y 0) = rowOf t (y 0) := Fin.ext (by show (t.val - 1) / 2 * 512 + _ = t.val / 2 * 512 + _; omega)
  rw [hr]
  have e0 := chunk_eq (term m c (rowOf t (y 0)) (y 1)) (fun q => ⟨0 + (chunkOf ⟨t.val - 1, by show _ < 64; omega⟩ q).val, by omega⟩) 0 (by omega) (fun q => by show 0 + ((t.val - 1) % 2 * 1536 + q.val) = _; omega)
  have e1 := chunk_eq (term m c (rowOf t (y 0)) (y 1)) (fun q => ⟨0 + (chunkOf t q).val, by omega⟩) 1 (by omega) (fun q => by show 0 + (t.val % 2 * 1536 + q.val) = _; omega)
  have e2 := chunk_eq (term m c (rowOf t (y 0)) (y 1)) (fun q => ⟨3072 + (chunkOf ⟨t.val - 1, by show _ < 64; omega⟩ q).val, by omega⟩) 2 (by omega) (fun q => by show 3072 + ((t.val - 1) % 2 * 1536 + q.val) = _; omega)
  have e3 := chunk_eq (term m c (rowOf t (y 0)) (y 1)) (fun q => ⟨3072 + (chunkOf t q).val, by omega⟩) 3 (by omega) (fun q => by show 3072 + (t.val % 2 * 1536 + q.val) = _; omega)
  have e4 := chunk_eq (term m c (rowOf t (y 0)) (y 1)) (fun q => ⟨6144 + (chunkOf ⟨t.val - 1, by show _ < 64; omega⟩ q).val, by omega⟩) 4 (by omega) (fun q => by show 6144 + ((t.val - 1) % 2 * 1536 + q.val) = _; omega)
  have e5 := chunk_eq (term m c (rowOf t (y 0)) (y 1)) (fun q => ⟨6144 + (chunkOf t q).val, by omega⟩) 5 (by omega) (fun q => by show 6144 + (t.val % 2 * 1536 + q.val) = _; omega)
  rw [e0, e1, e2, e3, e4, e5, Fin.sum_univ_six]
  exact six _ _ _ _ _ _

end Cert.Kernel16Ideal.Value
-- ==== Proof.Dw17.lean ====
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference17Ideal.Value

open Cert.Reference17Ideal Cert.Reference17Ideal.Gen

/-- The reference's gradient of the weights, transposed, as an array of its arguments. -/
def prodR (a0 : FVec Ideal S16384x3072 .bf16) (a1 : FVec Ideal S16384x1024 .bf16) : FVec Ideal S3072x1024 .bf16 :=
  truncf .bf16 (transpose S3072x1024 [1, 0] (transpose S1024x3072 [1, 0] (Host.dotGeneral dot_S16384x3072_S16384x1024_S3072x1024_0_0_1_1_n_n none (extf .f32 a0 bitsLt_bf16_f32) (extf .f32 a1 bitsLt_bf16_f32)) transposes_S3072x1024_S1024x3072_1_0) transposes_S1024x3072_S3072x1024_1_0) bitsLt_bf16_f32

/-- An entry of it: a sum over all the rows. -/
theorem prodR_at (a0 a1) (j) : prodR a0 a1 j = ∑ k : Fin 16384, a0 (ix2 k (j 0)) * a1 (ix2 k (j 1)) := by
  pointwise [prodR]

end Cert.Reference17Ideal.Value

namespace Cert.Kernel17Ideal.Value

open Cert.Kernel17Ideal Cert.Kernel17Ideal.Gen
open Cert.Reference17Ideal.Value (prodR prodR_at)

/-- What the 2048 rows of one point add to a block of the product: `x0` transposed times `x1`. -/
def part (x0 : Vec Ideal S2048x1024 .bf16) (x1 : Vec Ideal S2048x1024 .bf16) : Vec Ideal S1024x1024 .f32 := fun y =>
  ∑ r : Fin 2048, x0 (ix2 r (y 0)) * x1 (ix2 r (y 1))

/-- The first point of a block leaves its own part in the accumulator. -/
theorem acc_A (c : Dev nD) (t : Fin cfg0.N) (h0 h1 h2) (x0 x1) (y) :
    (sout0_A_0 (F := Ideal) c (grid0.coords t) (ms0_0 t) (hs0_0 t) (ms0_1 t) (hs0_1 t) (ms0_2 t) (hs0_2 t) scM0_0 (Memref.isWhole_whole _)
      h0 h1 h2 x0 x1) y = part x0 x1 y := by
  frame_out
  open_payloads
  pointwise [part]

/-- A later point adds its own part. -/
theorem acc_B (c : Dev nD) (t : Fin cfg0.N) (h0 h1 h2) (x0 x1 acc) (y) :
    (sout0_B_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- So does the last point of a block. -/
theorem acc_C (c : Dev nD) (t : Fin cfg0.N) (h0 h1 h2) (x0 x1 acc) (y) :
    (sout0_C_0 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- And the last point writes the accumulator out. -/
theorem out_C (c : Dev nD) (t : Fin cfg0.N) (h0 h1 h2) (x0 x1 acc) (y) :
    (out0_C_2 (F := Ideal) c (grid0.coords t) (ms0_0 t) (hs0_0 t) (ms0_1 t) (hs0_1 t) (ms0_2 t) (hs0_2 t) scM0_0 (Memref.isWhole_whole _)
      h0 h1 h2 x0 x1 acc) y = acc y + part x0 x1 y := by
  frame_out
  open_payloads
  pointwise [part]
  exact congrArg (· + _) (congrFun (read_unread_whole cc0_scratch0 _ acc) y)

/-- Point `t` is block `t / 8` of the product and chunk `t % 8` of the rows. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the chunk of rows a point multiplies. -/
abbrev rowOf (t : Fin cfg0.N) (r : Fin 2048) : Fin 16384 := ⟨t.val % 8 * 2048 + r, by omega⟩

/-- Row `a` of the block of the product a point adds to. -/
abbrev blkRow (t : Fin cfg0.N) (a : Fin 1024) : Fin 3072 := ⟨t.val / 8 * 1024 + a, by have : t.val < 24 := t.isLt; omega⟩

variable (m : (ℓ : Loc nD τ sig) → Buf (Elt Ideal) ℓ) (c : Dev nD) (t : Fin cfg0.N)

/-- The chunk of rows of the left factor. -/
theorem blk0 (y : S2048x1024.Idx) : iblk m c 0 t y = m ((c : Thread nD τ).loc main_arg0) (ix2 (rowOf t (y 0)) (blkRow t (y 1))) := by
  blk_point [iblk, V, idx t, rowOf, blkRow]

/-- The chunk of rows of the right factor. -/
theorem blk1 (y : S2048x1024.Idx) : iblk m c 1 t y = m ((c : Thread nD τ).loc main_arg1) (ix2 (rowOf t (y 0)) (y 1)) := by
  blk_point [iblk, V, idx t, rowOf]

/-- Where a block of the product lies. -/
theorem emb2 (y : S1024x1024.Idx) : (win0_2.blk t).view.emb y = ix2 (blkRow t (y 0)) (y 1) := by
  blk_ext [idx t, blkRow]

/-- The accumulator starts at the first chunk's part. -/
theorem at_first (h : t.val % 8 = 0) (y) : (outsAt0 m c t.val t.isLt).2 y = part (iblk m c 0 t) (iblk m c 1 t) y := by
  rw [outsAt0_A m c t h (by omega) (by omega)]
  dsimp only
  rw [acc_A]

/-- Each later chunk adds its part. -/
theorem at_later (h : ¬t.val % 8 = 0) (y) : (outsAt0 m c t.val t.isLt).2 y
    = (outsAt0 m c (t.val - 1) (Nat.lt_of_le_of_lt (Nat.sub_le _ _) t.isLt)).2 y + part (iblk m c 0 t) (iblk m c 1 t) y := by
  by_cases h7 : t.val % 8 = 7
  · rw [outsAt0_C m c t h (by omega) h7]
    dsimp only
    rw [acc_C]
  · rw [outsAt0_B m c t h (by omega) h7]
    dsimp only
    rw [acc_B]

/-- The last chunk writes out what the accumulator then holds. -/
theorem at_last (h : t.val % 8 = 7) (y) : (outsAt0 m c t.val t.isLt).1 y = (outsAt0 m c t.val t.isLt).2 y := by
  rw [outsAt0_C m c t (by omega) (by omega) h]
  dsimp only
  rw [acc_C, out_C]

/-- Eight chunks of 2048 rows are all the rows. -/
theorem sum_chunks (f : Fin 16384 → EReal) : ∑ s : Fin 8, ∑ r : Fin 2048, f ⟨s.val * 2048 + r.val, by omega⟩ = ∑ k, f k := by
  rw [← (finProdFinEquiv (m := 8) (n := 2048)).sum_comp f, Fintype.sum_prod_type]
  refine Finset.sum_congr rfl fun s _ => Finset.sum_congr rfl fun r _ => congrArg f (Fin.ext ?_)
  show s.val * 2048 + r.val = r.val + 2048 * s.val
  omega

/-- Equal factors have equal products. -/
theorem same_term {a b a' b' : EReal} (ha : a = a') (hb : b = b') : a * b = a' * b' := by
  rw [ha, hb]

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  have h7 : t.val % 8 = 7 := (flush0_2 t).mp hf
  refine (at_last m c t h7 y).trans (Eq.trans ?_ (congrArg _ (emb2 t y).symm))
  refine (Pipeline.eq_sum_fin_of_reset_step_apply_of_flush (fun n h => (outsAt0 m c n h).2) 8 (fun _ => 0)
    (fun t => part (iblk m c 0 t) (iblk m c 1 t))
    (fun t h j => by rw [zero_add]; exact at_first m c t h j) (fun t h j => at_later m c t h j) t h7 y).trans ?_
  rw [zero_add]
  refine Eq.trans ?_ (prodR_at _ _ (ix2 (blkRow t (y 0)) (y 1))).symm
  refine Eq.trans ?_ (sum_chunks _)
  refine Finset.sum_congr rfl fun s _ => Finset.sum_congr rfl fun r _ => ?_
  have hs : (8 * (t.val / 8) + s.val) % 8 = s.val := by omega
  have hd : (8 * (t.val / 8) + s.val) / 8 = t.val / 8 := by omega
  refine same_term ((blk0 m c _ _).trans (congrArg _ ?_)) ((blk1 m c _ _).trans (congrArg _ ?_))
  · refine congrArg₂ ix2 (Fin.ext ?_) (Fin.ext ?_)
    · exact congrArg (· * 2048 + r.val) hs
    · exact congrArg (· * 1024 + (y 0).val) hd
  · exact congrArg (ix2 · (y 1)) (Fin.ext (congrArg (· * 2048 + r.val) hs))

end Cert.Kernel17Ideal.Value
-- ==== Proof.BlockSum.lean ====
module

public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BlockSum

/-- One where the two numbers agree and zero elsewhere, as the host computes it. -/
abbrev same (a b : ℕ) : EReal :=
  FloatOps.uitofp (F := Ideal) FTy.f32 (IntOp.cmpi CmpIPredicate.eq (IntOp.addi (BitVec.ofNat 32 a) 0#32) (BitVec.ofNat 32 b))

theorem cmp_same : ∀ a b : Fin 8, IntOp.cmpi CmpIPredicate.eq (IntOp.addi (BitVec.ofNat 32 a.val) 0#32) (BitVec.ofNat 32 b.val) = if a = b then 1#1 else 0#1 := by
  decide

theorem same_self {a : ℕ} (h : a < 8) : same a a = 1 := by
  have e := cmp_same ⟨a, h⟩ ⟨a, h⟩
  rw [if_pos rfl] at e
  show FloatOps.uitofp (F := Ideal) FTy.f32 _ = _
  rw [e]
  show ((((1#1 : BitVec 1).toNat : ℝ) : EReal)) = 1
  simp

theorem same_ne {a b : ℕ} (ha : a < 8) (hb : b < 8) (h : a ≠ b) : same a b = 0 := by
  have e := cmp_same ⟨a, ha⟩ ⟨b, hb⟩
  rw [if_neg (fun h' => h (congrArg Fin.val h'))] at e
  show FloatOps.uitofp (F := Ideal) FTy.f32 _ = _
  rw [e]
  show ((((0#1 : BitVec 1).toNat : ℝ) : EReal)) = 0
  simp

/-- A sum whose terms vanish off one block of `p` is the sum over that block. -/
theorem sum_one_block {n p : ℕ} (hp : 0 < p) (g : ℕ) (hg : g * p + p ≤ n) (F : Fin n → EReal) (h0 : ∀ k : Fin n, k.val / p ≠ g → F k = 0) :
    ∑ k, F k = ∑ h : Fin p, F ⟨g * p + h, by omega⟩ := by
  refine (Finset.sum_of_injOn (fun h : Fin p => (⟨g * p + h, by omega⟩ : Fin n)) ?_ ?_ ?_ ?_).symm
  · intro a _ b _ e
    have e' : g * p + a.val = g * p + b.val := congrArg Fin.val e
    exact Fin.ext (by omega)
  · intro _ _
    exact Finset.mem_coe.mpr (Finset.mem_univ _)
  · intro k _ hk
    refine h0 k fun e => hk ⟨⟨k.val % p, Nat.mod_lt _ hp⟩, Finset.mem_coe.mpr (Finset.mem_univ _), Fin.ext ?_⟩
    show g * p + k.val % p = k.val
    rw [← e, Nat.mul_comm]
    exact Nat.div_add_mod _ _
  · intro _ _
    rfl

end Cert.BlockSum
-- ==== Proof.Bd18.lean ====
module

public import proofs.«01_k».proof.Proof.Gen.Kernel18Ideal.Value
public import proofs.«01_k».proof.Proof.Gen.Reference18Ideal.Run
public import proofs.«01_k».proof.Proof.BlockSum
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference18Ideal.Value

open Cert.Reference18Ideal Cert.Reference18Ideal.Gen

/-- The input's groups of 16 times the groups' weights. -/
def prodR (a0 : FVec Ideal S16384x1024 .f32) (a1 : FVec Ideal S64x16x64 .f32) : FVec Ideal S16384x4096 .f32 :=
  shapeCast _ (transpose S16384x64x64 [2, 0, 1] (Host.dotGeneral dot_S64x64x16_S16384x64x16_S64x64x16384_2_2_1_0_0_1 none (transpose S64x64x16 [0, 2, 1] a1 transposes_S64x16x64_S64x64x16_0_2_1) (shapeCast _ a0 shapeCasts_S16384x1024_S16384x64x16)) transposes_S64x64x16384_S16384x64x64_2_0_1) shapeCasts_S16384x64x64_S16384x4096

theorem prodR_at (a0 : FVec Ideal S16384x1024 .f32) (a1 : FVec Ideal S64x16x64 .f32) (i) : prodR a0 a1 i = (∑ k : Fin 16, a1 (ix3 (⟨(i 1 : ℕ) / 64, by have := (i 1).isLt; simp at this; omega⟩ : Fin 64) k (⟨(i 1 : ℕ) % 64, Nat.mod_lt _ (by decide)⟩ : Fin 64)) * a0 (ix2 (i 0) (⟨(i 1 : ℕ) / 64 * 16 + k, by have := (i 1).isLt; simp at this; omega⟩ : Fin 1024))) := by
  pointwise [prodR]

end Cert.Reference18Ideal.Value

namespace Cert.Kernel18Ideal.Value

open Cert.Kernel18Ideal Cert.Kernel18Ideal.Gen
open Cert.BlockSum
open Cert.Reference18Ideal.Value (prodR prodR_at)

/-- The groups' weights laid along the diagonals of eight blocks, as the host hands them to the call. -/
def wK (w : FVec Ideal S64x16x64 .f32) : FVec Ideal S8x128x512 .f32 :=
  shapeCast _ (mulf (broadcastInDim S8x8x16x8x64 ![0, 1, 2, 3, 4] bcast_S8x8x16x1x64_S8x8x16x8x64_0_1_2_3_4 (broadcastInDim S8x8x16x1x64 ![0, 1, 2, 4] bcast_S8x8x16x64_S8x8x16x1x64_0_1_2_4 (shapeCast _ w shapeCasts_S64x16x64_S8x8x16x64)))
    (broadcastInDim S8x8x16x8x64 ![0, 1, 2, 3, 4] bcast_S1x8x1x8x1_S8x8x16x8x64_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))))) shapeCasts_S8x8x16x8x64_S8x128x512

theorem wK_at (w : FVec Ideal S64x16x64 .f32) (i) : wK w i = w (ix3 (⟨(i 0 : ℕ) * 8 + ((i 1 : ℕ) / 16), by have h0 := (i 0).isLt; have h1 := (i 1).isLt; simp at h0 h1; omega⟩ : Fin 64) (⟨(i 1 : ℕ) % 16, Nat.mod_lt _ (by decide)⟩ : Fin 16) (⟨(i 2 : ℕ) % 64, Nat.mod_lt _ (by decide)⟩ : Fin 64)) * same ((i 1 : ℕ) / 16) ((i 2 : ℕ) / 64) := by
  pointwise [wK]

/-- The block of eight groups a column of the result belongs to. -/
abbrev blkOf (n : Fin 4096) : Fin 8 := ⟨n / 512, by omega⟩

/-- Its place in that block. -/
abbrev inBlk (n : Fin 4096) : Fin 512 := ⟨n % 512, Nat.mod_lt _ (by decide)⟩

/-- Column `k` of block `b` of the input. -/
abbrev xCol (b : Fin 8) (k : Fin 128) : Fin 1024 := ⟨b * 128 + k, by omega⟩

set_option maxHeartbeats 1600000 in
/-- One block of the result: in each block of columns, the input's block times the weights'. -/
theorem blk_y (x0 x1) (y : S256x4096.Idx) : out0_2 (F := Ideal) x0 x1 y = (∑ k : Fin 128, x0 (ix2 (y 0) (xCol (blkOf (y 1)) k)) * x1 (ix3 (blkOf (y 1)) k (inBlk (y 1)))) := by
  frame_out
  canon_tiles x h
  all_goals (open_payloads; pointwise []; blk_point [])

/-- A block's sum is the sum over the one group the column belongs to: the weights off the diagonal are zero. -/
theorem block_sum (x : FVec Ideal S16384x1024 .f32) (w : FVec Ideal S64x16x64 .f32) (r : Fin 16384) (n : Fin 4096) :
    ∑ k : Fin 128, x (ix2 r (xCol (blkOf n) k)) * wK w (ix3 (blkOf n) k (inBlk n)) = ∑ k : Fin 16, w (ix3 (⟨(n : ℕ) / 64, by omega⟩ : Fin 64) k (⟨(n : ℕ) % 64, Nat.mod_lt _ (by decide)⟩ : Fin 64)) * x (ix2 r (⟨(n : ℕ) / 64 * 16 + k, by omega⟩ : Fin 1024)) := by
  refine (sum_one_block (p := 16) (by decide) ((n : ℕ) % 512 / 64) (by omega) _ fun k hk => ?_).trans ?_
  · rw [wK_at]
    have e : same ((k : ℕ) / 16) ((n : ℕ) % 512 / 64) = 0 := same_ne (by omega) (by omega) hk
    refine (congrArg (x _ * ·) ((congrArg (w _ * ·) e).trans (mul_zero _))).trans (mul_zero _)
  · refine Finset.sum_congr rfl fun k _ => ?_
    rw [wK_at]
    refine ((mul_comm _ _).trans <| congrArg₂ (· * ·) ?_ ?_)
    · have e : same (((n : ℕ) % 512 / 64 * 16 + k) / 16) ((n : ℕ) % 512 / 64) = 1 := by
        rw [show ((n : ℕ) % 512 / 64 * 16 + k) / 16 = (n : ℕ) % 512 / 64 by omega]
        exact same_self (by omega)
      refine ((congrArg (w _ * ·) e).trans (mul_one _)).trans (congrArg w ?_)
      funext a; apply Fin.ext
      match a with
      | ⟨0, _⟩ => show (n : ℕ) / 512 * 8 + ((n : ℕ) % 512 / 64 * 16 + k) / 16 = (n : ℕ) / 64; omega
      | ⟨1, _⟩ => show ((n : ℕ) % 512 / 64 * 16 + k) % 16 = k; omega
      | ⟨2, _⟩ => show (n : ℕ) % 512 % 64 = (n : ℕ) % 64; omega
    · exact congrArg (fun j => x (ix2 r j)) (Fin.ext (by
        show (n : ℕ) / 512 * 128 + ((n : ℕ) % 512 / 64 * 16 + k) = (n : ℕ) / 64 * 16 + k
        omega))

/-- The same, from the blocks that a point reads. -/
theorem part (xb : Vec Ideal S256x1024 .f32) (wb : Vec Ideal S8x128x512 .f32) (x : FVec Ideal S16384x1024 .f32) (w : FVec Ideal S64x16x64 .f32) (r : Fin 16384)
    (y : S256x4096.Idx) (hx : ∀ z : Fin 1024, xb (ix2 (y 0) z) = x (ix2 r z)) (hw : ∀ z, wb z = wK w z) :
    ∑ k : Fin 128, xb (ix2 (y 0) (xCol (blkOf (y 1)) k)) * wb (ix3 (blkOf (y 1)) k (inBlk (y 1))) = ∑ k : Fin 16, w (ix3 (⟨(y 1 : ℕ) / 64, by have := (y 1).isLt; simp at this; omega⟩ : Fin 64) k (⟨(y 1 : ℕ) % 64, Nat.mod_lt _ (by decide)⟩ : Fin 64)) * x (ix2 r (⟨(y 1 : ℕ) / 64 * 16 + k, by have := (y 1).isLt; simp at this; omega⟩ : Fin 1024)) :=
  (Finset.sum_congr rfl fun k _ => congrArg₂ (· * ·) (hx _) (hw _)).trans (block_sum x w r (y 1))

/-- Row `a` of block `b` of rows. -/
abbrev rowOf (b : ℕ) (hb : b < 64) (a : Fin 256) : Fin 16384 := ⟨b * 256 + a, by omega⟩

/-- Every window's block at every point. -/
theorem idx : ∀ t : Fin cfg0.N, win0_0.index t = ![t.val, 0] ∧ win0_1.index t = ![0, 0, 0] ∧ win0_2.index t = ![t.val, 0] :=
  (by decide +kernel : ∀ t : Fin grid0.N, _)

theorem t_lt (t : Fin cfg0.N) : t.val < 64 := t.isLt

attribute [local irreducible] out0_2

variable (m : (ℓ : Loc nD τ sig) → Buf (Elt Ideal) ℓ) (c : Dev nD)

theorem val_w0 : V m c main_v12 = wK (m ((c : Thread nD τ).loc main_arg1)) := by
  show StableHlo.after hostOps0 (fun b => m (c, b)) main_v12 = _
  after_results
  rfl

theorem in_0 (t : Fin cfg0.N) (y : S256x1024.Idx) : iblk m c 0 t y = V m c main_arg0 (ix2 (rowOf _ (t_lt t) (y 0)) (y 1)) := by
  blk_point [iblk, idx t, rowOf]

theorem in_1 (t : Fin cfg0.N) (y : S8x128x512.Idx) : iblk m c 1 t y = V m c main_v12 y := by
  blk_point [iblk, idx t]

theorem emb (t : Fin cfg0.N) (y : S256x4096.Idx) : (win0_2.blk t).view.emb y = ix2 (rowOf _ (t_lt t) (y 0)) (y 1) := by
  blk_ext [idx t, rowOf]

theorem at_y (t : Fin cfg0.N) (y : S256x4096.Idx) : out0_2 (iblk m c 0 t) (iblk m c 1 t) y
    = prodR (m ((c : Thread nD τ).loc main_arg0)) (m ((c : Thread nD τ).loc main_arg1)) (ix2 (rowOf _ (t_lt t) (y 0)) (y 1)) := by
  rw [blk_y]
  refine Eq.trans ?_ (prodR_at _ _ _).symm
  exact (part _ _ _ _ _ y (fun z => (in_0 m c t _).trans (congrFun (V_main_arg0 m c) _)) (fun z => (in_1 m c t _).trans (congrFun (val_w0 m c) _)))

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  exact (at_y m c t y).trans (congrArg _ (emb t y).symm)

end Cert.Kernel18Ideal.Value
-- ==== Proof.Finite19.lean ====
module

public import proofs.«01_k».proof.Proof.FfnFinite
public import proofs.«01_k».proof.Proof.Gen.Pre_finite19
public import Idealize.ShloMosaic.Lib.ReduceAll
public import Idealize.ShloMosaic.Lib.KernelVsHost
public import Idealize.ShloMosaic.Lib.Pipeline.ValueKit

@[expose] public section

set_option maxRecDepth 16384

noncomputable section

open Idealize.ShloMosaic

namespace Cert.Pre_finite19

open Cert.Pre_finite19.Gen
open Cert.Pre_finite (IsReal isReal_of_cmp)

instance : Subsingleton S_.Idx := ⟨fun a b => funext fun k => k.elim0⟩

/-- A conjunction of bits is set when both are. -/
theorem andi_split {x y : IVec S_ 1} {i} (h : andi x y i = 1#1) : x i = 1#1 ∧ y i = 1#1 := by
  have h' : x i &&& y i = 1#1 := h
  revert h'
  generalize x i = p
  generalize y i = q
  revert p q
  decide

/-- The condition the claim takes says that every entry of the imaginary parts is a real number. -/
theorem finite_args {a0 a1 : FVec Ideal S16384x4096 .f32} {a2 a3 : FVec Ideal S64x16x64 .f32}
    (h : fn (F := Ideal) a0 a1 a2 a3 = fun _ => 1#1) : (∀ i, IsReal (a1 i)) ∧ ∀ i, IsReal (a3 i) := by
  have h := congrFun h (Shape.Idx.first h_S_)
  simp only [fn] at h
  obtain ⟨h0, h1⟩ := andi_split h
  exact ⟨fun i => isReal_of_cmp _ (Host.reduce_andi_all _ _ _ _ _ h0 i), fun i => isReal_of_cmp _ (Host.reduce_andi_all _ _ _ _ _ h1 i)⟩

end Cert.Pre_finite19
-- ==== Proof.Bd19.lean ====
module

public import proofs.«01_k».proof.Proof.Gen.Kernel19Ideal.Value
public import proofs.«01_k».proof.Proof.Gen.Reference19Ideal.Run
public import proofs.«01_k».proof.Proof.BlockSum
public import proofs.«01_k».proof.Proof.Finite19
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference19Ideal.Value

open Cert.Reference19Ideal Cert.Reference19Ideal.Gen

/-- The state's groups of 64, real part and imaginary part, times the groups' weights. -/
def prodR (a0 : FVec Ideal S16384x4096 .f32) (a1 : FVec Ideal S16384x4096 .f32) (a2 : FVec Ideal S64x16x64 .f32) (a3 : FVec Ideal S64x16x64 .f32) : FVec Ideal S16384x1024 .f32 :=
  subf (shapeCast _ (transpose S16384x64x16 [2, 0, 1] (Host.dotGeneral dot_S64x16x64_S16384x64x64_S64x16x16384_2_2_1_0_0_1 none a2 (shapeCast _ a0 shapeCasts_S16384x4096_S16384x64x64)) transposes_S64x16x16384_S16384x64x16_2_0_1) shapeCasts_S16384x64x16_S16384x1024) (shapeCast _ (transpose S16384x64x16 [2, 0, 1] (Host.dotGeneral dot_S64x16x64_S16384x64x64_S64x16x16384_2_2_1_0_0_1 none a3 (shapeCast _ a1 shapeCasts_S16384x4096_S16384x64x64)) transposes_S64x16x16384_S16384x64x16_2_0_1) shapeCasts_S16384x64x16_S16384x1024)

theorem prodR_at (a0 : FVec Ideal S16384x4096 .f32) (a1 : FVec Ideal S16384x4096 .f32) (a2 : FVec Ideal S64x16x64 .f32) (a3 : FVec Ideal S64x16x64 .f32) (i) : prodR a0 a1 a2 a3 i = (∑ k : Fin 64, a2 (ix3 (⟨(i 1 : ℕ) / 16, by have := (i 1).isLt; simp at this; omega⟩ : Fin 64) (⟨(i 1 : ℕ) % 16, Nat.mod_lt _ (by decide)⟩ : Fin 16) k) * a0 (ix2 (i 0) (⟨(i 1 : ℕ) / 16 * 64 + k, by have := (i 1).isLt; simp at this; omega⟩ : Fin 4096))) - (∑ k : Fin 64, a3 (ix3 (⟨(i 1 : ℕ) / 16, by have := (i 1).isLt; simp at this; omega⟩ : Fin 64) (⟨(i 1 : ℕ) % 16, Nat.mod_lt _ (by decide)⟩ : Fin 16) k) * a1 (ix2 (i 0) (⟨(i 1 : ℕ) / 16 * 64 + k, by have := (i 1).isLt; simp at this; omega⟩ : Fin 4096))) := by
  pointwise [prodR]

end Cert.Reference19Ideal.Value

namespace Cert.Kernel19Ideal.Value

open Cert.Kernel19Ideal Cert.Kernel19Ideal.Gen
open Cert.BlockSum
open Cert.Pre_finite (IsReal)
open Cert.Reference19Ideal.Value (prodR prodR_at)

/-- The groups' weights laid along the diagonals of eight blocks, as the host hands them to the call. -/
def wK (w : FVec Ideal S64x16x64 .f32) : FVec Ideal S8x512x128 .f32 :=
  shapeCast _ (mulf (broadcastInDim S8x8x64x8x16 ![0, 1, 2, 3, 4] bcast_S8x8x64x1x16_S8x8x64x8x16_0_1_2_3_4 (broadcastInDim S8x8x64x1x16 ![0, 1, 2, 4] bcast_S8x8x64x16_S8x8x64x1x16_0_1_2_4 (transpose S8x8x64x16 [0, 1, 3, 2] (shapeCast _ w shapeCasts_S64x16x64_S8x8x16x64) transposes_S8x8x16x64_S8x8x64x16_0_1_3_2)))
    (broadcastInDim S8x8x64x8x16 ![0, 1, 2, 3, 4] bcast_S1x8x1x8x1_S8x8x64x8x16_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))))) shapeCasts_S8x8x64x8x16_S8x512x128

theorem wK_at (w : FVec Ideal S64x16x64 .f32) (i) : wK w i = w (ix3 (⟨(i 0 : ℕ) * 8 + ((i 1 : ℕ) / 64), by have h0 := (i 0).isLt; have h1 := (i 1).isLt; simp at h0 h1; omega⟩ : Fin 64) (⟨(i 2 : ℕ) % 16, Nat.mod_lt _ (by decide)⟩ : Fin 16) (⟨(i 1 : ℕ) % 64, Nat.mod_lt _ (by decide)⟩ : Fin 64)) * same ((i 1 : ℕ) / 64) ((i 2 : ℕ) / 16) := by
  pointwise [wK]

/-- The block of eight groups a column of the result belongs to. -/
abbrev blkOf (n : Fin 1024) : Fin 8 := ⟨n / 128, by omega⟩

/-- Its place in that block. -/
abbrev inBlk (n : Fin 1024) : Fin 128 := ⟨n % 128, Nat.mod_lt _ (by decide)⟩

/-- Column `k` of block `b` of the input. -/
abbrev xCol (b : Fin 8) (k : Fin 512) : Fin 4096 := ⟨b * 512 + k, by omega⟩

set_option maxHeartbeats 1600000 in
/-- One block of the result: in each block of columns, the input's block times the weights'. -/
theorem blk_y (x0 x1 x2 x3) (y : S256x1024.Idx) : out0_4 (F := Ideal) x0 x1 x2 x3 y = (∑ k : Fin 512, x0 (ix2 (y 0) (xCol (blkOf (y 1)) k)) * x2 (ix3 (blkOf (y 1)) k (inBlk (y 1)))) + (∑ k : Fin 512, x1 (ix2 (y 0) (xCol (blkOf (y 1)) k)) * x3 (ix3 (blkOf (y 1)) k (inBlk (y 1)))) := by
  frame_out
  canon_tiles x h
  all_goals (open_payloads; pointwise []; blk_point [])

/-- A block's sum is the sum over the one group the column belongs to: the weights off the diagonal are zero. -/
theorem block_sum (x : FVec Ideal S16384x4096 .f32) (w : FVec Ideal S64x16x64 .f32) (r : Fin 16384) (n : Fin 1024) :
    ∑ k : Fin 512, x (ix2 r (xCol (blkOf n) k)) * wK w (ix3 (blkOf n) k (inBlk n)) = ∑ k : Fin 64, w (ix3 (⟨(n : ℕ) / 16, by omega⟩ : Fin 64) (⟨(n : ℕ) % 16, Nat.mod_lt _ (by decide)⟩ : Fin 16) k) * x (ix2 r (⟨(n : ℕ) / 16 * 64 + k, by omega⟩ : Fin 4096)) := by
  refine (sum_one_block (p := 64) (by decide) ((n : ℕ) % 128 / 16) (by omega) _ fun k hk => ?_).trans ?_
  · rw [wK_at]
    have e : same ((k : ℕ) / 64) ((n : ℕ) % 128 / 16) = 0 := same_ne (by omega) (by omega) hk
    refine (congrArg (x _ * ·) ((congrArg (w _ * ·) e).trans (mul_zero _))).trans (mul_zero _)
  · refine Finset.sum_congr rfl fun k _ => ?_
    rw [wK_at]
    refine ((mul_comm _ _).trans <| congrArg₂ (· * ·) ?_ ?_)
    · have e : same (((n : ℕ) % 128 / 16 * 64 + k) / 64) ((n : ℕ) % 128 / 16) = 1 := by
        rw [show ((n : ℕ) % 128 / 16 * 64 + k) / 64 = (n : ℕ) % 128 / 16 by omega]
        exact same_self (by omega)
      refine ((congrArg (w _ * ·) e).trans (mul_one _)).trans (congrArg w ?_)
      funext a; apply Fin.ext
      match a with
      | ⟨0, _⟩ => show (n : ℕ) / 128 * 8 + ((n : ℕ) % 128 / 16 * 64 + k) / 64 = (n : ℕ) / 16; omega
      | ⟨1, _⟩ => show (n : ℕ) % 128 % 16 = (n : ℕ) % 16; omega
      | ⟨2, _⟩ => show ((n : ℕ) % 128 / 16 * 64 + k) % 64 = k; omega
    · exact congrArg (fun j => x (ix2 r j)) (Fin.ext (by
        show (n : ℕ) / 128 * 512 + ((n : ℕ) % 128 / 16 * 64 + k) = (n : ℕ) / 16 * 64 + k
        omega))

/-- The same, from the blocks that a point reads. -/
theorem part (xb : Vec Ideal S256x4096 .f32) (wb : Vec Ideal S8x512x128 .f32) (x : FVec Ideal S16384x4096 .f32) (w : FVec Ideal S64x16x64 .f32) (r : Fin 16384)
    (y : S256x1024.Idx) (hx : ∀ z : Fin 4096, xb (ix2 (y 0) z) = x (ix2 r z)) (hw : ∀ z, wb z = wK w z) :
    ∑ k : Fin 512, xb (ix2 (y 0) (xCol (blkOf (y 1)) k)) * wb (ix3 (blkOf (y 1)) k (inBlk (y 1))) = ∑ k : Fin 64, w (ix3 (⟨(y 1 : ℕ) / 16, by have := (y 1).isLt; simp at this; omega⟩ : Fin 64) (⟨(y 1 : ℕ) % 16, Nat.mod_lt _ (by decide)⟩ : Fin 16) k) * x (ix2 r (⟨(y 1 : ℕ) / 16 * 64 + k, by have := (y 1).isLt; simp at this; omega⟩ : Fin 4096)) :=
  (Finset.sum_congr rfl fun k _ => congrArg₂ (· * ·) (hx _) (hw _)).trans (block_sum x w r (y 1))

/-- Row `a` of block `b` of rows. -/
abbrev rowOf (b : ℕ) (hb : b < 64) (a : Fin 256) : Fin 16384 := ⟨b * 256 + a, by omega⟩

/-- Every window's block at every point. -/
theorem idx : ∀ t : Fin cfg0.N, win0_0.index t = ![t.val, 0] ∧ win0_1.index t = ![t.val, 0] ∧ win0_2.index t = ![0, 0, 0] ∧ win0_3.index t = ![0, 0, 0] ∧ win0_4.index t = ![t.val, 0] :=
  (by decide +kernel : ∀ t : Fin grid0.N, _)

/-- A sum of real numbers is the same among the extended ones. -/
theorem real_sum {n : ℕ} (r : Fin n → ℝ) : ∑ k, (r k : EReal) = ((∑ k, r k : ℝ) : EReal) := by
  suffices h : ∀ s : Finset (Fin n), ∑ k ∈ s, (r k : EReal) = ((∑ k ∈ s, r k : ℝ) : EReal) from h _
  intro s
  induction s using Finset.induction_on with
  | empty => simp
  | insert a s ha ih => rw [Finset.sum_insert ha, Finset.sum_insert ha, ih, EReal.coe_add]

/-- A sum of real products with the one factor negated is the sum negated. -/
theorem neg_sum {n : ℕ} (f g : Fin n → EReal) (hf : ∀ k, IsReal (f k)) (hg : ∀ k, IsReal (g k)) : ∑ k, -f k * g k = -∑ k, f k * g k := by
  choose a ha using hf
  choose b hb using hg
  simp only [ha, hb, ← EReal.coe_neg, ← EReal.coe_mul, real_sum, neg_mul, Finset.sum_neg_distrib]

theorem t_lt (t : Fin cfg0.N) : t.val < 64 := t.isLt

attribute [local irreducible] out0_4

variable (m : (ℓ : Loc nD τ sig) → Buf (Elt Ideal) ℓ) (c : Dev nD)

theorem val_w0 : V m c main_v13 = wK (m ((c : Thread nD τ).loc main_arg2)) := by
  show StableHlo.after hostOps0 (fun b => m (c, b)) main_v13 = _
  after_results
  rfl

theorem val_w1 : V m c main_v28 = wK (Host.negf (F := Ideal) (s := S64x16x64) (φ := .f32) (m ((c : Thread nD τ).loc main_arg3))) := by
  show StableHlo.after hostOps0 (fun b => m (c, b)) main_v28 = _
  after_results
  rfl

theorem in_0 (t : Fin cfg0.N) (y : S256x4096.Idx) : iblk m c 0 t y = V m c main_arg0 (ix2 (rowOf _ (t_lt t) (y 0)) (y 1)) := by
  blk_point [iblk, idx t, rowOf]

theorem in_1 (t : Fin cfg0.N) (y : S256x4096.Idx) : iblk m c 1 t y = V m c main_arg1 (ix2 (rowOf _ (t_lt t) (y 0)) (y 1)) := by
  blk_point [iblk, idx t, rowOf]

theorem in_2 (t : Fin cfg0.N) (y : S8x512x128.Idx) : iblk m c 2 t y = V m c main_v13 y := by
  blk_point [iblk, idx t]

theorem in_3 (t : Fin cfg0.N) (y : S8x512x128.Idx) : iblk m c 3 t y = V m c main_v28 y := by
  blk_point [iblk, idx t]

theorem emb (t : Fin cfg0.N) (y : S256x1024.Idx) : (win0_4.blk t).view.emb y = ix2 (rowOf _ (t_lt t) (y 0)) (y 1) := by
  blk_ext [idx t, rowOf]

theorem at_y (h1 : ∀ i, IsReal ((m ((c : Thread nD τ).loc main_arg1)) i)) (h3 : ∀ i, IsReal ((m ((c : Thread nD τ).loc main_arg3)) i)) (t : Fin cfg0.N) (y : S256x1024.Idx) : out0_4 (iblk m c 0 t) (iblk m c 1 t) (iblk m c 2 t) (iblk m c 3 t) y
    = prodR (m ((c : Thread nD τ).loc main_arg0)) (m ((c : Thread nD τ).loc main_arg1)) (m ((c : Thread nD τ).loc main_arg2)) (m ((c : Thread nD τ).loc main_arg3)) (ix2 (rowOf _ (t_lt t) (y 0)) (y 1)) := by
  rw [blk_y]
  refine Eq.trans ?_ (prodR_at _ _ _ _ _).symm
  exact (congrArg₂ (· + ·) (part _ _ _ _ _ y (fun z => (in_0 m c t _).trans (congrFun (V_main_arg0 m c) _)) (fun z => (in_2 m c t _).trans (congrFun (val_w0 m c) _))) ((part _ _ _ _ _ y (fun z => (in_1 m c t _).trans (congrFun (V_main_arg1 m c) _)) (fun z => (in_3 m c t _).trans (congrFun (val_w1 m c) _))).trans (
    (neg_sum _ _ (fun _ => h3 _) fun _ => h1 _)))).trans (sub_eq_add_neg _ _).symm

/-- The array the kernel leaves is the reference's. -/
theorem final_prod (h1 : ∀ i, IsReal ((m ((c : Thread nD τ).loc main_arg1)) i)) (h3 : ∀ i, IsReal ((m ((c : Thread nD τ).loc main_arg3)) i)) : (dats m 0 c).arrAt 4 (cfgs 0).N = prodR (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  exact (at_y m c h1 h3 t y).trans (congrArg _ (emb t y).symm)

end Cert.Kernel19Ideal.Value
-- ==== Proof.Bd20.lean ====
module

public import proofs.«01_k».proof.Proof.Gen.Kernel20Ideal.Value
public import proofs.«01_k».proof.Proof.Gen.Reference20Ideal.Run
public import proofs.«01_k».proof.Proof.BlockSum
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference20Ideal.Value

open Cert.Reference20Ideal Cert.Reference20Ideal.Gen

/-- The gradient of the state: groups of 16 of the incoming gradient times the groups' weights. -/
def prodR (a0 : FVec Ideal S16384x1024 .f32) (a1 : FVec Ideal S64x16x64 .f32) : FVec Ideal S16384x4096 .f32 :=
  shapeCast _ (transpose S16384x64x64 [1, 0, 2] (Host.dotGeneral dot_S64x16x16384_S64x16x64_S64x16384x64_1_1_2_2_0_0 none (transpose S64x16x16384 [1, 2, 0] (shapeCast _ a0 shapeCasts_S16384x1024_S16384x64x16) transposes_S16384x64x16_S64x16x16384_1_2_0) a1) transposes_S64x16384x64_S16384x64x64_1_0_2) shapeCasts_S16384x64x64_S16384x4096

theorem prodR_at (a0 : FVec Ideal S16384x1024 .f32) (a1 : FVec Ideal S64x16x64 .f32) (i) : prodR a0 a1 i = (∑ k : Fin 16, a0 (ix2 (i 0) (⟨(i 1 : ℕ) / 64 * 16 + k, by have := (i 1).isLt; simp at this; omega⟩ : Fin 1024)) * a1 (ix3 (⟨(i 1 : ℕ) / 64, by have := (i 1).isLt; simp at this; omega⟩ : Fin 64) k (⟨(i 1 : ℕ) % 64, Nat.mod_lt _ (by decide)⟩ : Fin 64))) := by
  pointwise [prodR]

end Cert.Reference20Ideal.Value

namespace Cert.Kernel20Ideal.Value

open Cert.Kernel20Ideal Cert.Kernel20Ideal.Gen
open Cert.BlockSum
open Cert.Reference20Ideal.Value (prodR prodR_at)

/-- The groups' weights laid along the diagonals of eight blocks, as the host hands them to the call. -/
def wK (w : FVec Ideal S64x16x64 .f32) : FVec Ideal S8x128x512 .f32 :=
  transpose S8x128x512 [0, 2, 1] (shapeCast _ (mulf (broadcastInDim S8x8x64x8x16 ![0, 1, 2, 3, 4] bcast_S8x8x64x1x16_S8x8x64x8x16_0_1_2_3_4 (broadcastInDim S8x8x64x1x16 ![0, 1, 2, 4] bcast_S8x8x64x16_S8x8x64x1x16_0_1_2_4 (transpose S8x8x64x16 [0, 1, 3, 2] (shapeCast _ w shapeCasts_S64x16x64_S8x8x16x64) transposes_S8x8x16x64_S8x8x64x16_0_1_3_2)))
    (broadcastInDim S8x8x64x8x16 ![0, 1, 2, 3, 4] bcast_S1x8x1x8x1_S8x8x64x8x16_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))))) shapeCasts_S8x8x64x8x16_S8x512x128) transposes_S8x512x128_S8x128x512_0_2_1

theorem wK_at (w : FVec Ideal S64x16x64 .f32) (i) : wK w i = w (ix3 (⟨(i 0 : ℕ) * 8 + ((i 2 : ℕ) / 64), by have h0 := (i 0).isLt; have h1 := (i 2).isLt; simp at h0 h1; omega⟩ : Fin 64) (⟨(i 1 : ℕ) % 16, Nat.mod_lt _ (by decide)⟩ : Fin 16) (⟨(i 2 : ℕ) % 64, Nat.mod_lt _ (by decide)⟩ : Fin 64)) * same ((i 2 : ℕ) / 64) ((i 1 : ℕ) / 16) := by
  pointwise [wK]

/-- The block of eight groups a column of the result belongs to. -/
abbrev blkOf (n : Fin 4096) : Fin 8 := ⟨n / 512, by omega⟩

/-- Its place in that block. -/
abbrev inBlk (n : Fin 4096) : Fin 512 := ⟨n % 512, Nat.mod_lt _ (by decide)⟩

/-- Column `k` of block `b` of the input. -/
abbrev xCol (b : Fin 8) (k : Fin 128) : Fin 1024 := ⟨b * 128 + k, by omega⟩

set_option maxHeartbeats 1600000 in
/-- One block of the result: in each block of columns, the input's block times the weights'. -/
theorem blk_y (x0 x1) (y : S256x4096.Idx) : out0_2 (F := Ideal) x0 x1 y = (∑ k : Fin 128, x0 (ix2 (y 0) (xCol (blkOf (y 1)) k)) * x1 (ix3 (blkOf (y 1)) k (inBlk (y 1)))) := by
  frame_out
  canon_tiles x h
  all_goals (open_payloads; pointwise []; blk_point [])

/-- A block's sum is the sum over the one group the column belongs to: the weights off the diagonal are zero. -/
theorem block_sum (x : FVec Ideal S16384x1024 .f32) (w : FVec Ideal S64x16x64 .f32) (r : Fin 16384) (n : Fin 4096) :
    ∑ k : Fin 128, x (ix2 r (xCol (blkOf n) k)) * wK w (ix3 (blkOf n) k (inBlk n)) = ∑ k : Fin 16, x (ix2 r (⟨(n : ℕ) / 64 * 16 + k, by omega⟩ : Fin 1024)) * w (ix3 (⟨(n : ℕ) / 64, by omega⟩ : Fin 64) k (⟨(n : ℕ) % 64, Nat.mod_lt _ (by decide)⟩ : Fin 64)) := by
  refine (sum_one_block (p := 16) (by decide) ((n : ℕ) % 512 / 64) (by omega) _ fun k hk => ?_).trans ?_
  · rw [wK_at]
    have e : same ((n : ℕ) % 512 / 64) ((k : ℕ) / 16) = 0 := same_ne (by omega) (by omega) (Ne.symm hk)
    refine (congrArg (x _ * ·) ((congrArg (w _ * ·) e).trans (mul_zero _))).trans (mul_zero _)
  · refine Finset.sum_congr rfl fun k _ => ?_
    rw [wK_at]
    refine (congrArg₂ (· * ·) ?_ ?_)
    · exact congrArg (fun j => x (ix2 r j)) (Fin.ext (by
        show (n : ℕ) / 512 * 128 + ((n : ℕ) % 512 / 64 * 16 + k) = (n : ℕ) / 64 * 16 + k
        omega))
    · have e : same ((n : ℕ) % 512 / 64) (((n : ℕ) % 512 / 64 * 16 + k) / 16) = 1 := by
        rw [show ((n : ℕ) % 512 / 64 * 16 + k) / 16 = (n : ℕ) % 512 / 64 by omega]
        exact same_self (by omega)
      refine ((congrArg (w _ * ·) e).trans (mul_one _)).trans (congrArg w ?_)
      funext a; apply Fin.ext
      match a with
      | ⟨0, _⟩ => show (n : ℕ) / 512 * 8 + (n : ℕ) % 512 / 64 = (n : ℕ) / 64; omega
      | ⟨1, _⟩ => show ((n : ℕ) % 512 / 64 * 16 + k) % 16 = k; omega
      | ⟨2, _⟩ => show (n : ℕ) % 512 % 64 = (n : ℕ) % 64; omega

/-- The same, from the blocks that a point reads. -/
theorem part (xb : Vec Ideal S256x1024 .f32) (wb : Vec Ideal S8x128x512 .f32) (x : FVec Ideal S16384x1024 .f32) (w : FVec Ideal S64x16x64 .f32) (r : Fin 16384)
    (y : S256x4096.Idx) (hx : ∀ z : Fin 1024, xb (ix2 (y 0) z) = x (ix2 r z)) (hw : ∀ z, wb z = wK w z) :
    ∑ k : Fin 128, xb (ix2 (y 0) (xCol (blkOf (y 1)) k)) * wb (ix3 (blkOf (y 1)) k (inBlk (y 1))) = ∑ k : Fin 16, x (ix2 r (⟨(y 1 : ℕ) / 64 * 16 + k, by have := (y 1).isLt; simp at this; omega⟩ : Fin 1024)) * w (ix3 (⟨(y 1 : ℕ) / 64, by have := (y 1).isLt; simp at this; omega⟩ : Fin 64) k (⟨(y 1 : ℕ) % 64, Nat.mod_lt _ (by decide)⟩ : Fin 64)) :=
  (Finset.sum_congr rfl fun k _ => congrArg₂ (· * ·) (hx _) (hw _)).trans (block_sum x w r (y 1))

/-- Row `a` of block `b` of rows. -/
abbrev rowOf (b : ℕ) (hb : b < 64) (a : Fin 256) : Fin 16384 := ⟨b * 256 + a, by omega⟩

/-- Every window's block at every point. -/
theorem idx : ∀ t : Fin cfg0.N, win0_0.index t = ![t.val, 0] ∧ win0_1.index t = ![0, 0, 0] ∧ win0_2.index t = ![t.val, 0] :=
  (by decide +kernel : ∀ t : Fin grid0.N, _)

theorem t_lt (t : Fin cfg0.N) : t.val < 64 := t.isLt

attribute [local irreducible] out0_2

variable (m : (ℓ : Loc nD τ sig) → Buf (Elt Ideal) ℓ) (c : Dev nD)

theorem val_w0 : V m c main_v14 = wK (m ((c : Thread nD τ).loc main_arg1)) := by
  show StableHlo.after hostOps0 (fun b => m (c, b)) main_v14 = _
  after_results
  rfl

theorem in_0 (t : Fin cfg0.N) (y : S256x1024.Idx) : iblk m c 0 t y = V m c main_arg0 (ix2 (rowOf _ (t_lt t) (y 0)) (y 1)) := by
  blk_point [iblk, idx t, rowOf]

theorem in_1 (t : Fin cfg0.N) (y : S8x128x512.Idx) : iblk m c 1 t y = V m c main_v14 y := by
  blk_point [iblk, idx t]

theorem emb (t : Fin cfg0.N) (y : S256x4096.Idx) : (win0_2.blk t).view.emb y = ix2 (rowOf _ (t_lt t) (y 0)) (y 1) := by
  blk_ext [idx t, rowOf]

theorem at_y (t : Fin cfg0.N) (y : S256x4096.Idx) : out0_2 (iblk m c 0 t) (iblk m c 1 t) y
    = prodR (m ((c : Thread nD τ).loc main_arg0)) (m ((c : Thread nD τ).loc main_arg1)) (ix2 (rowOf _ (t_lt t) (y 0)) (y 1)) := by
  rw [blk_y]
  refine Eq.trans ?_ (prodR_at _ _ _).symm
  exact (part _ _ _ _ _ y (fun z => (in_0 m c t _).trans (congrFun (V_main_arg0 m c) _)) (fun z => (in_1 m c t _).trans (congrFun (val_w0 m c) _)))

/-- The array the kernel leaves is the reference's. -/
theorem final_prod : (dats m 0 c).arrAt 2 (cfgs 0).N = prodR (m ((c : Thread nD τ).loc main_arg0)) (m ((c : Thread nD τ).loc main_arg1)) := by
  refine (dats m 0 c).arrAt_eq_of_covers 2 _ (by decide +kernel) fun t hf y => ?_
  rw [after0_2]
  exact (at_y m c t y).trans (congrArg _ (emb t y).symm)

end Cert.Kernel20Ideal.Value
-- ==== Proof.Bw21.lean ====
module

public import proofs.«01_k».proof.Proof.Gen.Kernel21Ideal.Frame
public import proofs.«01_k».proof.Proof.Gen.Reference21Ideal.Run
public import proofs.«01_k».proof.Proof.BlockSum
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference21Ideal.Value

open Cert.Reference21Ideal Cert.Reference21Ideal.Gen

/-- The gradient of the groups' weights: groups of 64 of the state times groups of 16 of the incoming gradient, summed over the rows. -/
def prodR (a0 : FVec Ideal S16384x4096 .f32) (a1 : FVec Ideal S16384x1024 .f32) : FVec Ideal S64x16x64 .f32 :=
  Host.dotGeneral dot_S64x16x16384_S16384x64x64_S64x16x64_2_0_1_2_0_1 none (transpose S64x16x16384 [1, 2, 0] (shapeCast _ a1 shapeCasts_S16384x1024_S16384x64x16) transposes_S16384x64x16_S64x16x16384_1_2_0) (shapeCast _ a0 shapeCasts_S16384x4096_S16384x64x64)

theorem prodR_at (a0 : FVec Ideal S16384x4096 .f32) (a1 : FVec Ideal S16384x1024 .f32) (i) : prodR a0 a1 i = ∑ k : Fin 16384, a1 (ix2 k (⟨(i 0 : ℕ) * 16 + (i 1 : ℕ), by have h0 := (i 0).isLt; have h1 := (i 1).isLt; have h2 := (i 2).isLt; simp at h0 h1 h2; omega⟩ : Fin 1024)) * a0 (ix2 k (⟨(i 0 : ℕ) * 64 + (i 2 : ℕ), by have h0 := (i 0).isLt; have h1 := (i 1).isLt; have h2 := (i 2).isLt; simp at h0 h1 h2; omega⟩ : Fin 4096)) := by
  pointwise [prodR]

end Cert.Reference21Ideal.Value

namespace Cert.Kernel21Ideal.Value

open Cert.Kernel21Ideal Cert.Kernel21Ideal.Gen
open Cert.BlockSum
open Cert.Reference21Ideal.Value (prodR prodR_at)

/-- Column `k` of block `b` of the left factor. -/
abbrev xCol (b : Fin 8) (k : Fin 512) : Fin 4096 := ⟨b * 512 + k, by omega⟩

/-- Column `k` of block `b` of the right factor. -/
abbrev yCol (b : Fin 8) (k : Fin 128) : Fin 1024 := ⟨b * 128 + k, by omega⟩

/-- What the 512 rows of one point add: in each of the eight blocks, the left factor transposed times the right one. -/
def part (x0 : Vec Ideal S512x4096 .f32) (x1 : Vec Ideal S512x1024 .f32) : Vec Ideal S8x512x128 .f32 := fun y =>
  ∑ r : Fin 512, x0 (ix2 r (xCol (y 0) (y 1))) * x1 (ix2 r (yCol (y 0) (y 2)))

set_option maxHeartbeats 3200000 in
/-- The first point leaves its own part in the blocks. -/
theorem blk_A (c : Dev nD) (t : Fin cfg0.N) (h0 h1 h2 h3 h4 h5 h6 h7 h8 h9 h10 h11 h12 h13 h14 h15) (x0 x1) (y : S8x512x128.Idx) :
    (out0_A_2 (F := Ideal) c (grid0.coords t) (ms0_0 t) (hs0_0 t) (ms0_1 t) (hs0_1 t) (ms0_2 t) (hs0_2 t) h0 h1 h2 h3 h4 h5 h6 h7 h8 h9 h10 h11 h12 h13 h14 h15 x0 x1) y = part x0 x1 y := by
  frame_out
  canon_tiles x h
  all_goals (open_payloads; pointwise [part]; blk_point [])

set_option maxHeartbeats 3200000 in
/-- A later point adds its own part. -/
theorem blk_B (c : Dev nD) (t : Fin cfg0.N) (h0 h1 h2 h3 h4 h5 h6 h7 h8 h9 h10 h11 h12 h13 h14 h15) (x0 x1 xo) (y : S8x512x128.Idx) :
    (out0_B_2 (F := Ideal) c (grid0.coords t) (ms0_0 t) (hs0_0 t) (ms0_1 t) (hs0_1 t) (ms0_2 t) (hs0_2 t) h0 h1 h2 h3 h4 h5 h6 h7 h8 h9 h10 h11 h12 h13 h14 h15 x0 x1 xo) y = xo y + part x0 x1 y := by
  frame_out
  canon_tiles x h
  all_goals (open_payloads; pointwise [part]; blk_point [])

/-- Point `t` reads chunk `t` of the rows, and there is one block of the result. -/
theorem idx : ∀ t : Fin cfg0.N, win0_0.index t = ![t.val, 0] ∧ win0_1.index t = ![t.val, 0] ∧ win0_2.index t = ![0, 0, 0] :=
  (by decide +kernel : ∀ t : Fin grid0.N, _)

theorem t_lt (t : Fin cfg0.N) : t.val < 32 := t.isLt

/-- Row `r` of chunk `s` of the rows. -/
abbrev rowOf (s : ℕ) (hs : s < 32) (r : Fin 512) : Fin 16384 := ⟨s * 512 + r, by omega⟩

variable (m : (ℓ : Loc nD τ sig) → Buf (Elt Ideal) ℓ) (c : Dev nD)

theorem blk0 (t : Fin cfg0.N) (y : S512x4096.Idx) : iblk m c 0 t y = m ((c : Thread nD τ).loc main_arg0) (ix2 (rowOf _ (t_lt t) (y 0)) (y 1)) := by
  blk_point [iblk, V, idx t, rowOf]

theorem blk1 (t : Fin cfg0.N) (y : S512x1024.Idx) : iblk m c 1 t y = m ((c : Thread nD τ).loc main_arg1) (ix2 (rowOf _ (t_lt t) (y 0)) (y 1)) := by
  blk_point [iblk, V, idx t, rowOf]

theorem emb (t : Fin cfg0.N) (y : S8x512x128.Idx) : (win0_2.blk t).view.emb y = y := by
  blk_ext [idx t]

/-- The blocks start at the first chunk's part. -/
theorem at_first (t : Fin cfg0.N) (h : t.val % 32 = 0) (y) : outsAt0 m c t.val t.isLt y = part (iblk m c 0 t) (iblk m c 1 t) y := by
  have := t_lt t
  have h1 : ¬1 ≤ t.val := by omega
  rw [outsAt0_A m c t h h1 h h1 h h1 h h1 h h1 h h1 h h1 h h1, blk_A]

/-- Each later chunk adds its part. -/
theorem at_later (t : Fin cfg0.N) (h : ¬t.val % 32 = 0) (y) : outsAt0 m c t.val t.isLt y
    = outsAt0 m c (t.val - 1) (Nat.lt_of_le_of_lt (Nat.sub_le _ _) t.isLt) y + part (iblk m c 0 t) (iblk m c 1 t) y := by
  have h1 : 1 ≤ t.val := by omega
  rw [outsAt0_B m c t h h1 h h1 h h1 h h1 h h1 h h1 h h1 h h1, blk_B]

/-- Thirty-two chunks of 512 rows are all the rows. -/
theorem sum_chunks (f : Fin 16384 → EReal) : ∑ s : Fin 32, ∑ r : Fin 512, f ⟨s.val * 512 + r.val, by omega⟩ = ∑ k, f k := by
  rw [← (finProdFinEquiv (m := 32) (n := 512)).sum_comp f, Fintype.sum_prod_type]
  refine Finset.sum_congr rfl fun s _ => Finset.sum_congr rfl fun r _ => congrArg f (Fin.ext ?_)
  show s.val * 512 + r.val = r.val + 512 * s.val
  omega

/-- The products of all the blocks' columns, summed over all the rows. -/
def blocks (a0 : FVec Ideal S16384x4096 .f32) (a1 : FVec Ideal S16384x1024 .f32) : FVec Ideal S8x512x128 .f32 := fun y =>
  ∑ k : Fin 16384, a0 (ix2 k (xCol (y 0) (y 1))) * a1 (ix2 k (yCol (y 0) (y 2)))

/-- One chunk's part, from the arrays. -/
theorem part_rows (x0 : Vec Ideal S512x4096 .f32) (x1 : Vec Ideal S512x1024 .f32) (a0 : FVec Ideal S16384x4096 .f32) (a1 : FVec Ideal S16384x1024 .f32) (s : Fin 32) (y : S8x512x128.Idx)
    (hx : ∀ z, x0 z = a0 (ix2 (rowOf s.val s.isLt (z 0)) (z 1))) (hy : ∀ z, x1 z = a1 (ix2 (rowOf s.val s.isLt (z 0)) (z 1))) :
    part x0 x1 y = ∑ r : Fin 512, a0 (ix2 (⟨s.val * 512 + r.val, by omega⟩ : Fin 16384) (xCol (y 0) (y 1))) * a1 (ix2 (⟨s.val * 512 + r.val, by omega⟩ : Fin 16384) (yCol (y 0) (y 2))) :=
  Finset.sum_congr rfl fun r _ => congrArg₂ (· * ·) (hx _) (hy _)

/-- The array the region leaves. -/
theorem region : (dats m 0 c).arrAt 2 (cfgs 0).N = blocks (m ((c : Thread nD τ).loc main_arg0)) (m ((c : Thread nD τ).loc main_arg1)) := by
  refine (dats m 0 c).arrAt_eq_of_covers 2 _ (by decide +kernel) fun t hf y => ?_
  rw [after0_2]
  have h31 : t.val % 32 = 31 := (flush0_2 t).mp hf
  refine Eq.trans ?_ (congrArg _ (emb t y).symm)
  refine (Pipeline.eq_sum_fin_of_reset_step_apply_of_flush (fun n h => outsAt0 m c n h) 32 (fun _ => 0)
    (fun t => part (iblk m c 0 t) (iblk m c 1 t))
    (fun t h j => by rw [zero_add]; exact at_first m c t h j) (fun t h j => at_later m c t h j) t h31 y).trans ?_
  rw [zero_add]
  refine Eq.trans ?_ (sum_chunks _)
  have ht := t_lt t
  refine Finset.sum_congr rfl fun s _ => part_rows _ _ _ _ s y (fun z => ?_) (fun z => ?_)
  · exact (blk0 m c _ z).trans (congrArg (fun r => m ((c : Thread nD τ).loc main_arg0) (ix2 r (z 1))) (Fin.ext (by
      show (32 * (t.val / 32) + s.val) * 512 + (z 0).val = s.val * 512 + (z 0).val
      omega)))
  · exact (blk1 m c _ z).trans (congrArg (fun r => m ((c : Thread nD τ).loc main_arg1) (ix2 r (z 1))) (Fin.ext (by
      show (32 * (t.val / 32) + s.val) * 512 + (z 0).val = s.val * 512 + (z 0).val
      omega)))

/-- The groups' own products, taken from the diagonals of the eight blocks, as the host does it. -/
def diag (e : FVec Ideal S8x512x128 .f32) : FVec Ideal S64x16x64 .f32 :=
  shapeCast _ (transpose S8x8x16x64 [0, 1, 3, 2] (Host.reduceAdd (mulf (shapeCast _ e shapeCasts_S8x512x128_S8x8x64x8x16)
    (broadcastInDim S8x8x64x8x16 ![0, 1, 2, 3, 4] bcast_S1x8x1x8x1_S8x8x64x8x16_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1))))))
    (constant (F := Ideal) S_ .f32 0x00000000#32) reducesTo_S8x8x64x8x16_S8x8x64x16_d3 h_S_) transposes_S8x8x64x16_S8x8x16x64_0_1_3_2) shapeCasts_S8x8x16x64_S64x16x64

theorem diag_sum (e : FVec Ideal S8x512x128 .f32) (i) : diag e i = ∑ s : Fin 8, e (ix3 (⟨(i 0 : ℕ) / 8, by have h0 := (i 0).isLt; have h1 := (i 1).isLt; have h2 := (i 2).isLt; simp at h0 h1 h2; omega⟩ : Fin 8) (⟨(i 0 : ℕ) % 8 * 64 + (i 2 : ℕ), by have h0 := (i 0).isLt; have h1 := (i 1).isLt; have h2 := (i 2).isLt; simp at h0 h1 h2; omega⟩ : Fin 512) (⟨s * 16 + (i 1 : ℕ), by have h1 := (i 1).isLt; simp at h1; omega⟩ : Fin 128)) * same ((i 0 : ℕ) % 8) s := by
  pointwise [diag]

/-- Only the group's own block survives. -/
theorem diag_at (e : FVec Ideal S8x512x128 .f32) (i) : diag e i = e (ix3 (⟨(i 0 : ℕ) / 8, by have h0 := (i 0).isLt; have h1 := (i 1).isLt; have h2 := (i 2).isLt; simp at h0 h1 h2; omega⟩ : Fin 8) (⟨(i 0 : ℕ) % 8 * 64 + (i 2 : ℕ), by have h0 := (i 0).isLt; have h1 := (i 1).isLt; have h2 := (i 2).isLt; simp at h0 h1 h2; omega⟩ : Fin 512) (⟨(i 0 : ℕ) % 8 * 16 + (i 1 : ℕ), by have h0 := (i 0).isLt; have h1 := (i 1).isLt; have h2 := (i 2).isLt; simp at h0 h1 h2; omega⟩ : Fin 128)) := by
  rw [diag_sum]
  refine (Finset.sum_eq_single (⟨(i 0 : ℕ) % 8, Nat.mod_lt _ (by decide)⟩ : Fin 8) (fun s _ hs => ?_) fun h => absurd (Finset.mem_univ _) h).trans ?_
  · have hne : (i 0 : ℕ) % 8 ≠ s.val := fun h => hs (Fin.ext h.symm)
    exact (congrArg (e _ * ·) (same_ne (Nat.mod_lt _ (by decide)) s.isLt hne)).trans (mul_zero _)
  · exact (congrArg (e _ * ·) (same_self (Nat.mod_lt _ (by decide)))).trans (mul_one _)

/-- Equal places of two arrays have equal products. -/
theorem same_term {a b a' b' : EReal} (ha : a = a') (hb : b = b') : a * b = b' * a' := by
  rw [ha, hb, mul_comm]

/-- The diagonals of the blocks are the reference's gradient. -/
theorem diag_blocks (a0 : FVec Ideal S16384x4096 .f32) (a1 : FVec Ideal S16384x1024 .f32) : diag (blocks a0 a1) = prodR a0 a1 := by
  funext i
  have h0 : (i 0 : ℕ) < 64 := (i 0).isLt
  rw [diag_at, prodR_at]
  refine Finset.sum_congr rfl fun k _ => same_term (congrArg (fun j => a0 (ix2 k j)) (Fin.ext ?_)) (congrArg (fun j => a1 (ix2 k j)) (Fin.ext ?_))
  · show (i 0 : ℕ) / 8 * 512 + ((i 0 : ℕ) % 8 * 64 + (i 2 : ℕ)) = (i 0 : ℕ) * 64 + (i 2 : ℕ)
    omega
  · show (i 0 : ℕ) / 8 * 128 + ((i 0 : ℕ) % 8 * 16 + (i 1 : ℕ)) = (i 0 : ℕ) * 16 + (i 1 : ℕ)
    omega

/-- The host's lines after the region leave the diagonals of the region's array. -/
theorem tail_eq : Pipeline.afterTail₀ cfgs (dats m) 0 (V0 m) [hostOps1] c main_v13 = diag ((dats m 0 c).arrAt 2 (cfgs 0).N) := by
  show StableHlo.after hostOps1 (Pipeline.withArrays (cfgs 0).spec c (V0 m c) fun w => (dats m 0 c).arrAt w (cfgs 0).N) (Proc.devRef .tc main_v13) = _
  after_results
  exact congrArg diag (Pipeline.withArrays_arr (cfgs 0).spec (by decide) c (V0 m c) (fun w => (dats m 0 c).arrAt w (cfgs 0).N) 2)

/-- The run leaves the reference's gradient and keeps the arguments. -/
theorem run (ρ : Dev nD → PrngReg) : θ_run defs (onTc (τ := τ) (main (F := Ideal))) ⟨m, fun _ => 0, ρ⟩ (fun r => ∀ c : Dev nD,
      r.2.mem ((c.tc : Thread nD τ).loc main_v13) = prodR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v13 (Pipeline.mem_restRefs_of main_v13 (by decide) (by decide))).trans
        ((tail_eq m c).trans ((congrArg diag (region m c)).trans (diag_blocks _ _))), h.2 c⟩)
    (θ_run_and (run_main m ρ) (unchanged m ρ))

end Cert.Kernel21Ideal.Value
-- ==== Proof.Bd22.lean ====
module

public import proofs.«01_k».proof.Proof.Gen.Kernel22Ideal.Value
public import proofs.«01_k».proof.Proof.Gen.Reference22Ideal.Run
public import proofs.«01_k».proof.Proof.BlockSum
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference22Ideal.Value

open Cert.Reference22Ideal Cert.Reference22Ideal.Gen

/-- The gradient of the input: groups of 64 of the state's gradient times the groups' weights, and the part that comes from the input itself. -/
def prodR (a0 : FVec Ideal S16384x4096 .f32) (a1 : FVec Ideal S16384x4096 .f32) (a2 : FVec Ideal S64x16x64 .f32) (a3 : FVec Ideal S64x16x64 .f32) (a4 : FVec Ideal S16384x1024 .f32) : FVec Ideal S16384x1024 .bf16 :=
  truncf .bf16 (addf (addf a4 (shapeCast _ (transpose S16384x64x16 [1, 0, 2] (Host.dotGeneral dot_S64x64x16384_S64x64x16_S64x16384x16_1_1_2_2_0_0 none (transpose S64x64x16384 [1, 2, 0] (shapeCast _ a1 shapeCasts_S16384x4096_S16384x64x64) transposes_S16384x64x64_S64x64x16384_1_2_0) (transpose S64x64x16 [0, 2, 1] a3 transposes_S64x16x64_S64x64x16_0_2_1)) transposes_S64x16384x16_S16384x64x16_1_0_2) shapeCasts_S16384x64x16_S16384x1024)) (shapeCast _ (transpose S16384x64x16 [1, 0, 2] (Host.dotGeneral dot_S64x64x16384_S64x64x16_S64x16384x16_1_1_2_2_0_0 none (transpose S64x64x16384 [1, 2, 0] (shapeCast _ a0 shapeCasts_S16384x4096_S16384x64x64) transposes_S16384x64x64_S64x64x16384_1_2_0) (transpose S64x64x16 [0, 2, 1] a2 transposes_S64x16x64_S64x64x16_0_2_1)) transposes_S64x16384x16_S16384x64x16_1_0_2) shapeCasts_S16384x64x16_S16384x1024)) bitsLt_bf16_f32

theorem prodR_at (a0 : FVec Ideal S16384x4096 .f32) (a1 : FVec Ideal S16384x4096 .f32) (a2 : FVec Ideal S64x16x64 .f32) (a3 : FVec Ideal S64x16x64 .f32) (a4 : FVec Ideal S16384x1024 .f32) (i) : prodR a0 a1 a2 a3 a4 i = a4 i + (∑ k : Fin 64, a1 (ix2 (i 0) (⟨(i 1 : ℕ) / 16 * 64 + k, by have := (i 1).isLt; simp at this; omega⟩ : Fin 4096)) * a3 (ix3 (⟨(i 1 : ℕ) / 16, by have := (i 1).isLt; simp at this; omega⟩ : Fin 64) (⟨(i 1 : ℕ) % 16, Nat.mod_lt _ (by decide)⟩ : Fin 16) k)) + (∑ k : Fin 64, a0 (ix2 (i 0) (⟨(i 1 : ℕ) / 16 * 64 + k, by have := (i 1).isLt; simp at this; omega⟩ : Fin 4096)) * a2 (ix3 (⟨(i 1 : ℕ) / 16, by have := (i 1).isLt; simp at this; omega⟩ : Fin 64) (⟨(i 1 : ℕ) % 16, Nat.mod_lt _ (by decide)⟩ : Fin 16) k)) := by
  pointwise [prodR]

end Cert.Reference22Ideal.Value

namespace Cert.Kernel22Ideal.Value

open Cert.Kernel22Ideal Cert.Kernel22Ideal.Gen
open Cert.BlockSum
open Cert.Reference22Ideal.Value (prodR prodR_at)

/-- The groups' weights laid along the diagonals of eight blocks, as the host hands them to the call. -/
def wK (w : FVec Ideal S64x16x64 .f32) : FVec Ideal S8x512x128 .f32 :=
  transpose S8x512x128 [0, 2, 1] (shapeCast _ (mulf (broadcastInDim S8x8x16x8x64 ![0, 1, 2, 3, 4] bcast_S8x8x16x1x64_S8x8x16x8x64_0_1_2_3_4 (broadcastInDim S8x8x16x1x64 ![0, 1, 2, 4] bcast_S8x8x16x64_S8x8x16x1x64_0_1_2_4 (shapeCast _ w shapeCasts_S64x16x64_S8x8x16x64)))
    (broadcastInDim S8x8x16x8x64 ![0, 1, 2, 3, 4] bcast_S1x8x1x8x1_S8x8x16x8x64_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))))) shapeCasts_S8x8x16x8x64_S8x128x512) transposes_S8x128x512_S8x512x128_0_2_1

theorem wK_at (w : FVec Ideal S64x16x64 .f32) (i) : wK w i = w (ix3 (⟨(i 0 : ℕ) * 8 + ((i 2 : ℕ) / 16), by have h0 := (i 0).isLt; have h1 := (i 2).isLt; simp at h0 h1; omega⟩ : Fin 64) (⟨(i 2 : ℕ) % 16, Nat.mod_lt _ (by decide)⟩ : Fin 16) (⟨(i 1 : ℕ) % 64, Nat.mod_lt _ (by decide)⟩ : Fin 64)) * same ((i 2 : ℕ) / 16) ((i 1 : ℕ) / 64) := by
  pointwise [wK]

/-- The block of eight groups a column of the result belongs to. -/
abbrev blkOf (n : Fin 1024) : Fin 8 := ⟨n / 128, by omega⟩

/-- Its place in that block. -/
abbrev inBlk (n : Fin 1024) : Fin 128 := ⟨n % 128, Nat.mod_lt _ (by decide)⟩

/-- Column `k` of block `b` of the input. -/
abbrev xCol (b : Fin 8) (k : Fin 512) : Fin 4096 := ⟨b * 512 + k, by omega⟩

set_option maxHeartbeats 1600000 in
/-- One block of the result: in each block of columns, the input's block times the weights'. -/
theorem blk_y (x0 x1 x2 x3 x4) (y : S256x1024.Idx) : out0_5 (F := Ideal) x0 x1 x2 x3 x4 y = (∑ k : Fin 512, x0 (ix2 (y 0) (xCol (blkOf (y 1)) k)) * x2 (ix3 (blkOf (y 1)) k (inBlk (y 1)))) + (∑ k : Fin 512, x1 (ix2 (y 0) (xCol (blkOf (y 1)) k)) * x3 (ix3 (blkOf (y 1)) k (inBlk (y 1)))) + x4 y := by
  frame_out
  canon_tiles x h
  all_goals (open_payloads; pointwise []; blk_point [])

/-- A block's sum is the sum over the one group the column belongs to: the weights off the diagonal are zero. -/
theorem block_sum (x : FVec Ideal S16384x4096 .f32) (w : FVec Ideal S64x16x64 .f32) (r : Fin 16384) (n : Fin 1024) :
    ∑ k : Fin 512, x (ix2 r (xCol (blkOf n) k)) * wK w (ix3 (blkOf n) k (inBlk n)) = ∑ k : Fin 64, x (ix2 r (⟨(n : ℕ) / 16 * 64 + k, by omega⟩ : Fin 4096)) * w (ix3 (⟨(n : ℕ) / 16, by omega⟩ : Fin 64) (⟨(n : ℕ) % 16, Nat.mod_lt _ (by decide)⟩ : Fin 16) k) := by
  refine (sum_one_block (p := 64) (by decide) ((n : ℕ) % 128 / 16) (by omega) _ fun k hk => ?_).trans ?_
  · rw [wK_at]
    have e : same ((n : ℕ) % 128 / 16) ((k : ℕ) / 64) = 0 := same_ne (by omega) (by omega) (Ne.symm hk)
    refine (congrArg (x _ * ·) ((congrArg (w _ * ·) e).trans (mul_zero _))).trans (mul_zero _)
  · refine Finset.sum_congr rfl fun k _ => ?_
    rw [wK_at]
    refine (congrArg₂ (· * ·) ?_ ?_)
    · exact congrArg (fun j => x (ix2 r j)) (Fin.ext (by
        show (n : ℕ) / 128 * 512 + ((n : ℕ) % 128 / 16 * 64 + k) = (n : ℕ) / 16 * 64 + k
        omega))
    · have e : same ((n : ℕ) % 128 / 16) (((n : ℕ) % 128 / 16 * 64 + k) / 64) = 1 := by
        rw [show ((n : ℕ) % 128 / 16 * 64 + k) / 64 = (n : ℕ) % 128 / 16 by omega]
        exact same_self (by omega)
      refine ((congrArg (w _ * ·) e).trans (mul_one _)).trans (congrArg w ?_)
      funext a; apply Fin.ext
      match a with
      | ⟨0, _⟩ => show (n : ℕ) / 128 * 8 + (n : ℕ) % 128 / 16 = (n : ℕ) / 16; omega
      | ⟨1, _⟩ => show (n : ℕ) % 128 % 16 = (n : ℕ) % 16; omega
      | ⟨2, _⟩ => show ((n : ℕ) % 128 / 16 * 64 + k) % 64 = k; omega

/-- The same, from the blocks that a point reads. -/
theorem part (xb : Vec Ideal S256x4096 .f32) (wb : Vec Ideal S8x512x128 .f32) (x : FVec Ideal S16384x4096 .f32) (w : FVec Ideal S64x16x64 .f32) (r : Fin 16384)
    (y : S256x1024.Idx) (hx : ∀ z : Fin 4096, xb (ix2 (y 0) z) = x (ix2 r z)) (hw : ∀ z, wb z = wK w z) :
    ∑ k : Fin 512, xb (ix2 (y 0) (xCol (blkOf (y 1)) k)) * wb (ix3 (blkOf (y 1)) k (inBlk (y 1))) = ∑ k : Fin 64, x (ix2 r (⟨(y 1 : ℕ) / 16 * 64 + k, by have := (y 1).isLt; simp at this; omega⟩ : Fin 4096)) * w (ix3 (⟨(y 1 : ℕ) / 16, by have := (y 1).isLt; simp at this; omega⟩ : Fin 64) (⟨(y 1 : ℕ) % 16, Nat.mod_lt _ (by decide)⟩ : Fin 16) k) :=
  (Finset.sum_congr rfl fun k _ => congrArg₂ (· * ·) (hx _) (hw _)).trans (block_sum x w r (y 1))

/-- Row `a` of block `b` of rows. -/
abbrev rowOf (b : ℕ) (hb : b < 64) (a : Fin 256) : Fin 16384 := ⟨b * 256 + a, by omega⟩

/-- Every window's block at every point. -/
theorem idx : ∀ t : Fin cfg0.N, win0_0.index t = ![t.val, 0] ∧ win0_1.index t = ![t.val, 0] ∧ win0_2.index t = ![0, 0, 0] ∧ win0_3.index t = ![0, 0, 0] ∧ win0_4.index t = ![t.val, 0] ∧ win0_5.index t = ![t.val, 0] :=
  (by decide +kernel : ∀ t : Fin grid0.N, _)

theorem three (a b d : EReal) : a + b + d = d + b + a := by
  rw [add_comm a b, add_comm _ d, add_assoc]

theorem t_lt (t : Fin cfg0.N) : t.val < 64 := t.isLt

attribute [local irreducible] out0_5

variable (m : (ℓ : Loc nD τ sig) → Buf (Elt Ideal) ℓ) (c : Dev nD)

theorem val_w0 : V m c main_v13 = wK (m ((c : Thread nD τ).loc main_arg2)) := by
  show StableHlo.after hostOps0 (fun b => m (c, b)) main_v13 = _
  after_results
  rfl

theorem val_w1 : V m c main_v27 = wK (m ((c : Thread nD τ).loc main_arg3)) := by
  show StableHlo.after hostOps0 (fun b => m (c, b)) main_v27 = _
  after_results
  rfl

theorem in_0 (t : Fin cfg0.N) (y : S256x4096.Idx) : iblk m c 0 t y = V m c main_arg0 (ix2 (rowOf _ (t_lt t) (y 0)) (y 1)) := by
  blk_point [iblk, idx t, rowOf]

theorem in_1 (t : Fin cfg0.N) (y : S256x4096.Idx) : iblk m c 1 t y = V m c main_arg1 (ix2 (rowOf _ (t_lt t) (y 0)) (y 1)) := by
  blk_point [iblk, idx t, rowOf]

theorem in_2 (t : Fin cfg0.N) (y : S8x512x128.Idx) : iblk m c 2 t y = V m c main_v13 y := by
  blk_point [iblk, idx t]

theorem in_3 (t : Fin cfg0.N) (y : S8x512x128.Idx) : iblk m c 3 t y = V m c main_v27 y := by
  blk_point [iblk, idx t]

theorem in_4 (t : Fin cfg0.N) (y : S256x1024.Idx) : iblk m c 4 t y = V m c main_arg4 (ix2 (rowOf _ (t_lt t) (y 0)) (y 1)) := by
  blk_point [iblk, idx t, rowOf]

theorem emb (t : Fin cfg0.N) (y : S256x1024.Idx) : (win0_5.blk t).view.emb y = ix2 (rowOf _ (t_lt t) (y 0)) (y 1) := by
  blk_ext [idx t, rowOf]

theorem at_y (t : Fin cfg0.N) (y : S256x1024.Idx) : out0_5 (iblk m c 0 t) (iblk m c 1 t) (iblk m c 2 t) (iblk m c 3 t) (iblk m c 4 t) y
    = prodR (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf _ (t_lt t) (y 0)) (y 1)) := by
  rw [blk_y]
  refine Eq.trans ?_ (prodR_at _ _ _ _ _ _).symm
  exact ((congrArg₂ (· + ·) (congrArg₂ (· + ·) (part _ _ _ _ _ y (fun z => (in_0 m c t _).trans (congrFun (V_main_arg0 m c) _)) (fun z => (in_2 m c t _).trans (congrFun (val_w0 m c) _))) (part _ _ _ _ _ y (fun z => (in_1 m c t _).trans (congrFun (V_main_arg1 m c) _)) (fun z => (in_3 m c t _).trans (congrFun (val_w1 m c) _))))
    ((in_4 m c t y).trans (congrFun (V_main_arg4 m c) _))).trans (three _ _ _))

/-- The array the kernel leaves is the reference's. -/
theorem final_prod : (dats m 0 c).arrAt 5 (cfgs 0).N = prodR (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5]
  exact (at_y m c t y).trans (congrArg _ (emb t y).symm)

end Cert.Kernel22Ideal.Value
-- ==== Proof.Bw23.lean ====
module

public import proofs.«01_k».proof.Proof.Gen.Kernel23Ideal.Frame
public import proofs.«01_k».proof.Proof.Gen.Reference23Ideal.Run
public import proofs.«01_k».proof.Proof.BlockSum
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference23Ideal.Value

open Cert.Reference23Ideal Cert.Reference23Ideal.Gen

/-- The gradient of the groups' weights: groups of 16 of the input times groups of 64 of the incoming gradient, summed over the rows. -/
def prodR (a0 : FVec Ideal S16384x1024 .f32) (a1 : FVec Ideal S16384x4096 .f32) : FVec Ideal S64x16x64 .f32 :=
  transpose S64x16x64 [0, 2, 1] (Host.dotGeneral dot_S64x64x16384_S16384x64x16_S64x64x16_2_0_1_2_0_1 none (transpose S64x64x16384 [1, 2, 0] (shapeCast _ a1 shapeCasts_S16384x4096_S16384x64x64) transposes_S16384x64x64_S64x64x16384_1_2_0) (shapeCast _ a0 shapeCasts_S16384x1024_S16384x64x16)) transposes_S64x64x16_S64x16x64_0_2_1

theorem prodR_at (a0 : FVec Ideal S16384x1024 .f32) (a1 : FVec Ideal S16384x4096 .f32) (i) : prodR a0 a1 i = ∑ k : Fin 16384, a1 (ix2 k (⟨(i 0 : ℕ) * 64 + (i 2 : ℕ), by have h0 := (i 0).isLt; have h1 := (i 1).isLt; have h2 := (i 2).isLt; simp at h0 h1 h2; omega⟩ : Fin 4096)) * a0 (ix2 k (⟨(i 0 : ℕ) * 16 + (i 1 : ℕ), by have h0 := (i 0).isLt; have h1 := (i 1).isLt; have h2 := (i 2).isLt; simp at h0 h1 h2; omega⟩ : Fin 1024)) := by
  pointwise [prodR]

end Cert.Reference23Ideal.Value

namespace Cert.Kernel23Ideal.Value

open Cert.Kernel23Ideal Cert.Kernel23Ideal.Gen
open Cert.BlockSum
open Cert.Reference23Ideal.Value (prodR prodR_at)

/-- Column `k` of block `b` of the left factor. -/
abbrev xCol (b : Fin 8) (k : Fin 128) : Fin 1024 := ⟨b * 128 + k, by omega⟩

/-- Column `k` of block `b` of the right factor. -/
abbrev yCol (b : Fin 8) (k : Fin 512) : Fin 4096 := ⟨b * 512 + k, by omega⟩

/-- What the 512 rows of one point add: in each of the eight blocks, the left factor transposed times the right one. -/
def part (x0 : Vec Ideal S512x1024 .f32) (x1 : Vec Ideal S512x4096 .f32) : Vec Ideal S8x128x512 .f32 := fun y =>
  ∑ r : Fin 512, x0 (ix2 r (xCol (y 0) (y 1))) * x1 (ix2 r (yCol (y 0) (y 2)))

set_option maxHeartbeats 3200000 in
/-- The first point leaves its own part in the blocks. -/
theorem blk_A (c : Dev nD) (t : Fin cfg0.N) (h0 h1 h2 h3 h4 h5 h6 h7 h8 h9 h10 h11 h12 h13 h14 h15) (x0 x1) (y : S8x128x512.Idx) :
    (out0_A_2 (F := Ideal) c (grid0.coords t) (ms0_0 t) (hs0_0 t) (ms0_1 t) (hs0_1 t) (ms0_2 t) (hs0_2 t) h0 h1 h2 h3 h4 h5 h6 h7 h8 h9 h10 h11 h12 h13 h14 h15 x0 x1) y = part x0 x1 y := by
  frame_out
  canon_tiles x h
  all_goals (open_payloads; pointwise [part]; blk_point [])

set_option maxHeartbeats 3200000 in
/-- A later point adds its own part. -/
theorem blk_B (c : Dev nD) (t : Fin cfg0.N) (h0 h1 h2 h3 h4 h5 h6 h7 h8 h9 h10 h11 h12 h13 h14 h15) (x0 x1 xo) (y : S8x128x512.Idx) :
    (out0_B_2 (F := Ideal) c (grid0.coords t) (ms0_0 t) (hs0_0 t) (ms0_1 t) (hs0_1 t) (ms0_2 t) (hs0_2 t) h0 h1 h2 h3 h4 h5 h6 h7 h8 h9 h10 h11 h12 h13 h14 h15 x0 x1 xo) y = xo y + part x0 x1 y := by
  frame_out
  canon_tiles x h
  all_goals (open_payloads; pointwise [part]; blk_point [])

/-- Point `t` reads chunk `t` of the rows, and there is one block of the result. -/
theorem idx : ∀ t : Fin cfg0.N, win0_0.index t = ![t.val, 0] ∧ win0_1.index t = ![t.val, 0] ∧ win0_2.index t = ![0, 0, 0] :=
  (by decide +kernel : ∀ t : Fin grid0.N, _)

theorem t_lt (t : Fin cfg0.N) : t.val < 32 := t.isLt

/-- Row `r` of chunk `s` of the rows. -/
abbrev rowOf (s : ℕ) (hs : s < 32) (r : Fin 512) : Fin 16384 := ⟨s * 512 + r, by omega⟩

variable (m : (ℓ : Loc nD τ sig) → Buf (Elt Ideal) ℓ) (c : Dev nD)

theorem blk0 (t : Fin cfg0.N) (y : S512x1024.Idx) : iblk m c 0 t y = m ((c : Thread nD τ).loc main_arg0) (ix2 (rowOf _ (t_lt t) (y 0)) (y 1)) := by
  blk_point [iblk, V, idx t, rowOf]

theorem blk1 (t : Fin cfg0.N) (y : S512x4096.Idx) : iblk m c 1 t y = m ((c : Thread nD τ).loc main_arg1) (ix2 (rowOf _ (t_lt t) (y 0)) (y 1)) := by
  blk_point [iblk, V, idx t, rowOf]

theorem emb (t : Fin cfg0.N) (y : S8x128x512.Idx) : (win0_2.blk t).view.emb y = y := by
  blk_ext [idx t]

/-- The blocks start at the first chunk's part. -/
theorem at_first (t : Fin cfg0.N) (h : t.val % 32 = 0) (y) : outsAt0 m c t.val t.isLt y = part (iblk m c 0 t) (iblk m c 1 t) y := by
  have := t_lt t
  have h1 : ¬1 ≤ t.val := by omega
  rw [outsAt0_A m c t h h1 h h1 h h1 h h1 h h1 h h1 h h1 h h1, blk_A]

/-- Each later chunk adds its part. -/
theorem at_later (t : Fin cfg0.N) (h : ¬t.val % 32 = 0) (y) : outsAt0 m c t.val t.isLt y
    = outsAt0 m c (t.val - 1) (Nat.lt_of_le_of_lt (Nat.sub_le _ _) t.isLt) y + part (iblk m c 0 t) (iblk m c 1 t) y := by
  have h1 : 1 ≤ t.val := by omega
  rw [outsAt0_B m c t h h1 h h1 h h1 h h1 h h1 h h1 h h1 h h1, blk_B]

/-- Thirty-two chunks of 512 rows are all the rows. -/
theorem sum_chunks (f : Fin 16384 → EReal) : ∑ s : Fin 32, ∑ r : Fin 512, f ⟨s.val * 512 + r.val, by omega⟩ = ∑ k, f k := by
  rw [← (finProdFinEquiv (m := 32) (n := 512)).sum_comp f, Fintype.sum_prod_type]
  refine Finset.sum_congr rfl fun s _ => Finset.sum_congr rfl fun r _ => congrArg f (Fin.ext ?_)
  show s.val * 512 + r.val = r.val + 512 * s.val
  omega

/-- The products of all the blocks' columns, summed over all the rows. -/
def blocks (a0 : FVec Ideal S16384x1024 .f32) (a1 : FVec Ideal S16384x4096 .f32) : FVec Ideal S8x128x512 .f32 := fun y =>
  ∑ k : Fin 16384, a0 (ix2 k (xCol (y 0) (y 1))) * a1 (ix2 k (yCol (y 0) (y 2)))

/-- One chunk's part, from the arrays. -/
theorem part_rows (x0 : Vec Ideal S512x1024 .f32) (x1 : Vec Ideal S512x4096 .f32) (a0 : FVec Ideal S16384x1024 .f32) (a1 : FVec Ideal S16384x4096 .f32) (s : Fin 32) (y : S8x128x512.Idx)
    (hx : ∀ z, x0 z = a0 (ix2 (rowOf s.val s.isLt (z 0)) (z 1))) (hy : ∀ z, x1 z = a1 (ix2 (rowOf s.val s.isLt (z 0)) (z 1))) :
    part x0 x1 y = ∑ r : Fin 512, a0 (ix2 (⟨s.val * 512 + r.val, by omega⟩ : Fin 16384) (xCol (y 0) (y 1))) * a1 (ix2 (⟨s.val * 512 + r.val, by omega⟩ : Fin 16384) (yCol (y 0) (y 2))) :=
  Finset.sum_congr rfl fun r _ => congrArg₂ (· * ·) (hx _) (hy _)

/-- The array the region leaves. -/
theorem region : (dats m 0 c).arrAt 2 (cfgs 0).N = blocks (m ((c : Thread nD τ).loc main_arg0)) (m ((c : Thread nD τ).loc main_arg1)) := by
  refine (dats m 0 c).arrAt_eq_of_covers 2 _ (by decide +kernel) fun t hf y => ?_
  rw [after0_2]
  have h31 : t.val % 32 = 31 := (flush0_2 t).mp hf
  refine Eq.trans ?_ (congrArg _ (emb t y).symm)
  refine (Pipeline.eq_sum_fin_of_reset_step_apply_of_flush (fun n h => outsAt0 m c n h) 32 (fun _ => 0)
    (fun t => part (iblk m c 0 t) (iblk m c 1 t))
    (fun t h j => by rw [zero_add]; exact at_first m c t h j) (fun t h j => at_later m c t h j) t h31 y).trans ?_
  rw [zero_add]
  refine Eq.trans ?_ (sum_chunks _)
  have ht := t_lt t
  refine Finset.sum_congr rfl fun s _ => part_rows _ _ _ _ s y (fun z => ?_) (fun z => ?_)
  · exact (blk0 m c _ z).trans (congrArg (fun r => m ((c : Thread nD τ).loc main_arg0) (ix2 r (z 1))) (Fin.ext (by
      show (32 * (t.val / 32) + s.val) * 512 + (z 0).val = s.val * 512 + (z 0).val
      omega)))
  · exact (blk1 m c _ z).trans (congrArg (fun r => m ((c : Thread nD τ).loc main_arg1) (ix2 r (z 1))) (Fin.ext (by
      show (32 * (t.val / 32) + s.val) * 512 + (z 0).val = s.val * 512 + (z 0).val
      omega)))

/-- The groups' own products, taken from the diagonals of the eight blocks, as the host does it. -/
def diag (e : FVec Ideal S8x128x512 .f32) : FVec Ideal S64x16x64 .f32 :=
  shapeCast _ (Host.reduceAdd (mulf (shapeCast _ e shapeCasts_S8x128x512_S8x8x16x8x64)
    (broadcastInDim S8x8x16x8x64 ![0, 1, 2, 3, 4] bcast_S1x8x1x8x1_S8x8x16x8x64_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1))))))
    (constant (F := Ideal) S_ .f32 0x00000000#32) reducesTo_S8x8x16x8x64_S8x8x16x64_d3 h_S_) shapeCasts_S8x8x16x64_S64x16x64

theorem diag_sum (e : FVec Ideal S8x128x512 .f32) (i) : diag e i = ∑ s : Fin 8, e (ix3 (⟨(i 0 : ℕ) / 8, by have h0 := (i 0).isLt; have h1 := (i 1).isLt; have h2 := (i 2).isLt; simp at h0 h1 h2; omega⟩ : Fin 8) (⟨(i 0 : ℕ) % 8 * 16 + (i 1 : ℕ), by have h0 := (i 0).isLt; have h1 := (i 1).isLt; have h2 := (i 2).isLt; simp at h0 h1 h2; omega⟩ : Fin 128) (⟨s * 64 + (i 2 : ℕ), by have h1 := (i 2).isLt; simp at h1; omega⟩ : Fin 512)) * same ((i 0 : ℕ) % 8) s := by
  pointwise [diag]

/-- Only the group's own block survives. -/
theorem diag_at (e : FVec Ideal S8x128x512 .f32) (i) : diag e i = e (ix3 (⟨(i 0 : ℕ) / 8, by have h0 := (i 0).isLt; have h1 := (i 1).isLt; have h2 := (i 2).isLt; simp at h0 h1 h2; omega⟩ : Fin 8) (⟨(i 0 : ℕ) % 8 * 16 + (i 1 : ℕ), by have h0 := (i 0).isLt; have h1 := (i 1).isLt; have h2 := (i 2).isLt; simp at h0 h1 h2; omega⟩ : Fin 128) (⟨(i 0 : ℕ) % 8 * 64 + (i 2 : ℕ), by have h0 := (i 0).isLt; have h1 := (i 1).isLt; have h2 := (i 2).isLt; simp at h0 h1 h2; omega⟩ : Fin 512)) := by
  rw [diag_sum]
  refine (Finset.sum_eq_single (⟨(i 0 : ℕ) % 8, Nat.mod_lt _ (by decide)⟩ : Fin 8) (fun s _ hs => ?_) fun h => absurd (Finset.mem_univ _) h).trans ?_
  · have hne : (i 0 : ℕ) % 8 ≠ s.val := fun h => hs (Fin.ext h.symm)
    exact (congrArg (e _ * ·) (same_ne (Nat.mod_lt _ (by decide)) s.isLt hne)).trans (mul_zero _)
  · exact (congrArg (e _ * ·) (same_self (Nat.mod_lt _ (by decide)))).trans (mul_one _)

/-- Equal places of two arrays have equal products. -/
theorem same_term {a b a' b' : EReal} (ha : a = a') (hb : b = b') : a * b = b' * a' := by
  rw [ha, hb, mul_comm]

/-- The diagonals of the blocks are the reference's gradient. -/
theorem diag_blocks (a0 : FVec Ideal S16384x1024 .f32) (a1 : FVec Ideal S16384x4096 .f32) : diag (blocks a0 a1) = prodR a0 a1 := by
  funext i
  have h0 : (i 0 : ℕ) < 64 := (i 0).isLt
  rw [diag_at, prodR_at]
  refine Finset.sum_congr rfl fun k _ => same_term (congrArg (fun j => a0 (ix2 k j)) (Fin.ext ?_)) (congrArg (fun j => a1 (ix2 k j)) (Fin.ext ?_))
  · show (i 0 : ℕ) / 8 * 128 + ((i 0 : ℕ) % 8 * 16 + (i 1 : ℕ)) = (i 0 : ℕ) * 16 + (i 1 : ℕ)
    omega
  · show (i 0 : ℕ) / 8 * 512 + ((i 0 : ℕ) % 8 * 64 + (i 2 : ℕ)) = (i 0 : ℕ) * 64 + (i 2 : ℕ)
    omega

/-- The host's lines after the region leave the diagonals of the region's array. -/
theorem tail_eq : Pipeline.afterTail₀ cfgs (dats m) 0 (V0 m) [hostOps1] c main_v12 = diag ((dats m 0 c).arrAt 2 (cfgs 0).N) := by
  show StableHlo.after hostOps1 (Pipeline.withArrays (cfgs 0).spec c (V0 m c) fun w => (dats m 0 c).arrAt w (cfgs 0).N) (Proc.devRef .tc main_v12) = _
  after_results
  exact congrArg diag (Pipeline.withArrays_arr (cfgs 0).spec (by decide) c (V0 m c) (fun w => (dats m 0 c).arrAt w (cfgs 0).N) 2)

/-- The run leaves the reference's gradient and keeps the arguments. -/
theorem run (ρ : Dev nD → PrngReg) : θ_run defs (onTc (τ := τ) (main (F := Ideal))) ⟨m, fun _ => 0, ρ⟩ (fun r => ∀ c : Dev nD,
      r.2.mem ((c.tc : Thread nD τ).loc main_v12) = prodR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v12 (Pipeline.mem_restRefs_of main_v12 (by decide) (by decide))).trans
        ((tail_eq m c).trans ((congrArg diag (region m c)).trans (diag_blocks _ _))), h.2 c⟩)
    (θ_run_and (run_main m ρ) (unchanged m ρ))

end Cert.Kernel23Ideal.Value
-- ==== Proof.Gate24.lean ====
module

public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference24Ideal.Value

open Cert.Reference24Ideal Cert.Reference24Ideal.Gen

/-- The reference's gated array. -/
def prodR (a0 : FVec Ideal S16384x2048 .f32) (a1 : FVec Ideal S16384x2048 .bf16) (a2 : FVec Ideal S8x128x128 .f32) (a3 : FVec Ideal S8x128 .f32) : FVec Ideal S16384x2048 .bf16 :=
  truncf .bf16 (mulf a0 (shapeCast _ (addf (transpose S128x128x8x256 [1, 3, 0, 2] (Host.dotGeneral dot_S128x128x8x256_S8x128x128_S8x128x256x128_1_2_03_1_2_0 none (shapeCast _ (extf .f32 a1 bitsLt_bf16_f32) shapeCasts_S16384x2048_S128x128x8x256) (mulf a2 (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x128x256x128_S128x128x8x256_1_3_0_2) (broadcastInDim S128x128x8x256 ![0, 1, 2, 3] bcast_S1x128x8x1_S128x128x8x256_0_1_2_3 (broadcastInDim S1x128x8x1 ![1, 2] bcast_S128x8_S1x128x8x1_1_2 (transpose S128x8 [1, 0] a3 transposes_S8x128_S128x8_1_0)))) shapeCasts_S128x128x8x256_S16384x2048)) bitsLt_bf16_f32

end Cert.Reference24Ideal.Value

namespace Cert.Kernel24Ideal.Value

open Cert.Kernel24Ideal Cert.Kernel24Ideal.Gen
open Cert.Reference24Ideal.Value (prodR)

/-- `a` where column `k` of the lower triangle is not past row `r`, and zero elsewhere. -/
abbrev tri (r k : ℕ) (a : EReal) : EReal :=
  Scalar.select (IntOp.cmpi CmpIPredicate.sge (BitVec.ofNat 32 r) (BitVec.ofNat 32 k)) a (0 : EReal)

/-- The head a column of the block belongs to: eight heads of 256 columns. -/
abbrev headOf (y : S128x2048.Idx) : Fin 8 := ⟨(y 1 : ℕ) / 256, by have := (y 1).isLt; simp at this; omega⟩

/-- Row `t` of chunk `n`. -/
abbrev rowOf (n t : Fin 128) : Fin 16384 := ⟨n * 128 + t, by omega⟩

/-- One block: `u` times the gate, which is the masked weights of the column's head over the block's rows of `v`, and the bias. -/
def usB (x0 : Vec Ideal S128x2048 .f32) (x1 : Vec Ideal S128x2048 .bf16) (x2 : Vec Ideal S8x128x128 .f32)
    (x3 : Vec Ideal S8x128x1 .f32) : Vec Ideal S128x2048 .bf16 := fun y =>
  x0 y * ((∑ k : Fin 128, tri (y 0) k (x2 (ix3 (headOf y) (y 0) k) * x1 (ix2 k (y 1)))) + x3 (ix3 (headOf y) (y 0) 0))

set_option maxHeartbeats 1600000 in
theorem blk_y (x0 x1 x2 x3) (y : S128x2048.Idx) : out0_4 (F := Ideal) x0 x1 x2 x3 y = usB x0 x1 x2 x3 y := by
  frame_out
  canon_tiles x h
  all_goals (open_payloads; pointwise [usB]; simp only [tri, h0]; blk_point [])

/-- Every window's block at every point. -/
theorem idx : ∀ t : Fin cfg0.N, win0_0.index t = ![t.val, 0] ∧ win0_1.index t = ![t.val, 0] ∧ win0_2.index t = ![0, 0, 0]
    ∧ win0_3.index t = ![0, 0, 0] ∧ win0_4.index t = ![t.val, 0] :=
  (by decide +kernel : ∀ t : Fin grid0.N, _)

variable (m : (ℓ : Loc nD τ sig) → Buf (Elt Ideal) ℓ) (c : Dev nD)

/-- A block of `u`. -/
theorem blk0 (t : Fin cfg0.N) (y : S128x2048.Idx) : iblk m c 0 t y = m ((c : Thread nD τ).loc main_arg0) (ix2 (rowOf t (y 0)) (y 1)) := by
  blk_point [iblk, V, idx t, rowOf]

/-- A block of `v`. -/
theorem blk1 (t : Fin cfg0.N) (y : S128x2048.Idx) : iblk m c 1 t y = m ((c : Thread nD τ).loc main_arg1) (ix2 (rowOf t (y 0)) (y 1)) := by
  blk_point [iblk, V, idx t, rowOf]

/-- The weights, the same at every point. -/
theorem blk2 (t : Fin cfg0.N) (y : S8x128x128.Idx) : iblk m c 2 t y = m ((c : Thread nD τ).loc main_arg2) y := by
  blk_point [iblk, V, idx t]

/-- The bias, the same at every point. -/
theorem blk3 (t : Fin cfg0.N) (y : S8x128x1.Idx) : iblk m c 3 t y = m ((c : Thread nD τ).loc main_arg3) (ix2 (y 0) (y 1)) := by
  blk_point [iblk, V, idx t]

theorem emb (t : Fin cfg0.N) (y : S128x2048.Idx) : (win0_4.blk t).view.emb y = ix2 (rowOf t (y 0)) (y 1) := by
  blk_ext [idx t, rowOf]

theorem addi_zero (x : BitVec 32) : IntOp.addi x 0#32 = x := BitVec.add_zero x

theorem row_mod (n a : Fin 128) : (n.val * 128 + a.val) % 128 = a.val := by omega

theorem row_div (n a : Fin 128) : (n.val * 128 + a.val) / 128 = n.val := by omega

theorem comm_us {n : ℕ} (p : Fin n → BitVec 1) (a b : Fin n → EReal) (x z : EReal) :
    x * (∑ s, Scalar.select (p s) (a s * b s) 0 + z) = x * (∑ s, Scalar.select (p s) (b s * a s) 0 + z) := by
  simp only [mul_comm]

theorem at_y (t : Fin cfg0.N) (y : S128x2048.Idx) : usB (iblk m c 0 t) (iblk m c 1 t) (iblk m c 2 t) (iblk m c 3 t) y
    = prodR (m ((c : Thread nD τ).loc main_arg0)) (m ((c : Thread nD τ).loc main_arg1)) (m ((c : Thread nD τ).loc main_arg2)) (m ((c : Thread nD τ).loc main_arg3)) (ix2 (rowOf t (y 0)) (y 1)) := by
  pointwise [usB, prodR]
  simp only [addi_zero, blk0, blk1, blk2, blk3, row_mod t (y 0), row_div t (y 0), tri, headOf]
  exact comm_us (fun x : Fin 128 => _) (fun x => _) (fun x => _) _ _

/-- The array the kernel leaves is the reference's. -/
theorem final_prod : (dats m 0 c).arrAt 4 (cfgs 0).N = prodR (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  exact (blk_y _ _ _ _ y).trans ((at_y m c t y).trans (congrArg _ (emb t y).symm))

end Cert.Kernel24Ideal.Value
-- ==== Proof.Rows25.lean ====
module

public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference25Ideal.Value

open Cert.Reference25Ideal Cert.Reference25Ideal.Gen

/-- The reference's gradient number 0, one row for each row of the input. -/
def rowR0 (a0 : FVec Ideal S16384x1024 .f32) (a1 : FVec Ideal S16384x1024 .f32) (a2 : FVec Ideal S1x1024 .f32) (a3 : FVec Ideal S16384x1024 .f32) : FVec Ideal S16384x1024 .f32 :=
  mulf a3 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf a1 (broadcastInDim S16384x1024 ![0, 1] bcast_S1x1024_S16384x1024_0_1 a2))))))

/-- The reference's gradient number 1, one row for each row of the input. -/
def rowR1 (a0 : FVec Ideal S16384x1024 .f32) (a1 : FVec Ideal S16384x1024 .f32) (a2 : FVec Ideal S1x1024 .f32) (a3 : FVec Ideal S16384x1024 .f32) : FVec Ideal S16384x1024 .bf16 :=
  truncf .bf16 (mulf (mulf a0 a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf a1 (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf a1 (broadcastInDim S16384x1024 ![0, 1] bcast_S1x1024_S16384x1024_0_1 a2))))))))) bitsLt_bf16_f32

/-- What each row adds to the reference's gradient number 2. -/
def termR2 (a0 : FVec Ideal S16384x1024 .f32) (a1 : FVec Ideal S16384x1024 .f32) (a2 : FVec Ideal S1x1024 .f32) (a3 : FVec Ideal S16384x1024 .f32) : FVec Ideal S16384x1024 .f32 :=
  (mulf (mulf a0 a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf a1 (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf a1 (broadcastInDim S16384x1024 ![0, 1] bcast_S1x1024_S16384x1024_0_1 a2)))))))))

/-- The reference's gradient number 2: the sum over the rows. -/
def sumR2 (a0 : FVec Ideal S16384x1024 .f32) (a1 : FVec Ideal S16384x1024 .f32) (a2 : FVec Ideal S1x1024 .f32) (a3 : FVec Ideal S16384x1024 .f32) : FVec Ideal S1x1024 .f32 :=
  shapeCast _ (Host.reduceAdd (termR2 a0 a1 a2 a3) (constant S_ .f32 0x00000000#32) reducesTo_S16384x1024_S1024_d0 h_S_) shapeCasts_S1024_S1x1024

/-- An entry of it. -/
theorem sumR2_at (a0 : FVec Ideal S16384x1024 .f32) (a1 : FVec Ideal S16384x1024 .f32) (a2 : FVec Ideal S1x1024 .f32) (a3 : FVec Ideal S16384x1024 .f32) (j) : sumR2 a0 a1 a2 a3 j = ∑ r : Fin 16384, termR2 a0 a1 a2 a3 (ix2 r (j 1)) := by
  pointwise [sumR2]

end Cert.Reference25Ideal.Value

namespace Cert.Kernel25Ideal.Value

open Cert.Kernel25Ideal Cert.Kernel25Ideal.Gen
open Cert.Reference25Ideal.Value

/-- Row `a` of the 256 rows of a point. -/
abbrev rowOf (t : Fin cfg0.N) (a : Fin 256) : Fin 16384 := ⟨t.val * 256 + a, by have : t.val < 64 := t.isLt; omega⟩

/-- At the first point: the rows written are the reference's. -/
theorem row0_A (c : Dev nD) (t : Fin cfg0.N) (h0 h1) (x0 : Vec Ideal S256x1024 .f32) (x1 : Vec Ideal S256x1024 .f32) (x2 : Vec Ideal S1x1024 .f32) (x3 : Vec Ideal S256x1024 .f32) (a0 : FVec Ideal S16384x1024 .f32) (a1 : FVec Ideal S16384x1024 .f32) (a2 : FVec Ideal S1x1024 .f32) (a3 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (y) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3) y = rowR0 a0 a1 a2 a3 (ix2 (rowOf t (y 0)) (y 1)) := by
  frame_out
  open_payloads
  pointwise [rowR0]
  simp only [e0, e1, e2, e3, Ideal.logistic]
  try rfl

/-- At a later point: the rows written are the reference's. -/
theorem row0_B (c : Dev nD) (t : Fin cfg0.N) (h0 h1) (x0 : Vec Ideal S256x1024 .f32) (x1 : Vec Ideal S256x1024 .f32) (x2 : Vec Ideal S1x1024 .f32) (x3 : Vec Ideal S256x1024 .f32) (p2 : Vec Ideal S1x1024 .f32) (a0 : FVec Ideal S16384x1024 .f32) (a1 : FVec Ideal S16384x1024 .f32) (a2 : FVec Ideal S1x1024 .f32) (a3 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (y) :
    (out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3 p2) y = rowR0 a0 a1 a2 a3 (ix2 (rowOf t (y 0)) (y 1)) := by
  frame_out
  open_payloads
  pointwise [rowR0]
  simp only [e0, e1, e2, e3, Ideal.logistic]
  try rfl

/-- At the first point: the rows written are the reference's. -/
theorem row1_A (c : Dev nD) (t : Fin cfg0.N) (h0 h1) (x0 : Vec Ideal S256x1024 .f32) (x1 : Vec Ideal S256x1024 .f32) (x2 : Vec Ideal S1x1024 .f32) (x3 : Vec Ideal S256x1024 .f32) (a0 : FVec Ideal S16384x1024 .f32) (a1 : FVec Ideal S16384x1024 .f32) (a2 : FVec Ideal S1x1024 .f32) (a3 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (y) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3) y = rowR1 a0 a1 a2 a3 (ix2 (rowOf t (y 0)) (y 1)) := by
  frame_out
  open_payloads
  pointwise [rowR1]
  simp only [e0, e1, e2, e3, Ideal.logistic]
  try rfl

/-- At a later point: the rows written are the reference's. -/
theorem row1_B (c : Dev nD) (t : Fin cfg0.N) (h0 h1) (x0 : Vec Ideal S256x1024 .f32) (x1 : Vec Ideal S256x1024 .f32) (x2 : Vec Ideal S1x1024 .f32) (x3 : Vec Ideal S256x1024 .f32) (p2 : Vec Ideal S1x1024 .f32) (a0 : FVec Ideal S16384x1024 .f32) (a1 : FVec Ideal S16384x1024 .f32) (a2 : FVec Ideal S1x1024 .f32) (a3 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (y) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3 p2) y = rowR1 a0 a1 a2 a3 (ix2 (rowOf t (y 0)) (y 1)) := by
  frame_out
  open_payloads
  pointwise [rowR1]
  simp only [e0, e1, e2, e3, Ideal.logistic]
  try rfl

/-- At the first point: the sum over its rows. -/
theorem sum2_A (c : Dev nD) (t : Fin cfg0.N) (h0 h1) (x0 : Vec Ideal S256x1024 .f32) (x1 : Vec Ideal S256x1024 .f32) (x2 : Vec Ideal S1x1024 .f32) (x3 : Vec Ideal S256x1024 .f32) (a0 : FVec Ideal S16384x1024 .f32) (a1 : FVec Ideal S16384x1024 .f32) (a2 : FVec Ideal S1x1024 .f32) (a3 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (y) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3) y = ∑ r : Fin 256, termR2 a0 a1 a2 a3 (ix2 (rowOf t r) (y 1)) := by
  frame_out
  open_payloads
  pointwise [termR2]
  simp only [e0, e1, e2, e3, Ideal.logistic]
  try rfl

/-- At a later point: the sum over its rows. -/
theorem sum2_B (c : Dev nD) (t : Fin cfg0.N) (h0 h1) (x0 : Vec Ideal S256x1024 .f32) (x1 : Vec Ideal S256x1024 .f32) (x2 : Vec Ideal S1x1024 .f32) (x3 : Vec Ideal S256x1024 .f32) (p2 : Vec Ideal S1x1024 .f32) (a0 : FVec Ideal S16384x1024 .f32) (a1 : FVec Ideal S16384x1024 .f32) (a2 : FVec Ideal S1x1024 .f32) (a3 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (y) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 x0 x1 x2 x3 p2) y = p2 y + ∑ r : Fin 256, termR2 a0 a1 a2 a3 (ix2 (rowOf t r) (y 1)) := by
  frame_out
  open_payloads
  pointwise [termR2]
  simp only [e0, e1, e2, e3, Ideal.logistic]
  try rfl

/-- Point `t` takes rows `256 t` to `256 t + 255`, and the parameters whole. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] :=
  (by decide +kernel : ∀ t : Fin grid0.N, _)

attribute [local irreducible] out0_A_4 out0_A_5 out0_A_6 out0_B_4 out0_B_5 out0_B_6 rowR0 rowR1 termR2

variable (m : (ℓ : Loc nD τ sig) → Buf (Elt Ideal) ℓ) (c : Dev nD) (t : Fin cfg0.N)

/-- The rows of argument 0 a point takes. -/
theorem blk0 (y : S256x1024.Idx) : iblk m c 0 t y = m ((c : Thread nD τ).loc main_arg0) (ix2 (rowOf t (y 0)) (y 1)) := by
  blk_point [iblk, V, idx t, rowOf]

/-- The rows of argument 1 a point takes. -/
theorem blk1 (y : S256x1024.Idx) : iblk m c 1 t y = m ((c : Thread nD τ).loc main_arg1) (ix2 (rowOf t (y 0)) (y 1)) := by
  blk_point [iblk, V, idx t, rowOf]

/-- Argument 2, whole at each point. -/
theorem blk2 (y : S1x1024.Idx) : iblk m c 2 t y = m ((c : Thread nD τ).loc main_arg2) y := by
  blk_point [iblk, V, idx t]

/-- The rows of argument 3 a point takes. -/
theorem blk3 (y : S256x1024.Idx) : iblk m c 3 t y = m ((c : Thread nD τ).loc main_arg3) (ix2 (rowOf t (y 0)) (y 1)) := by
  blk_point [iblk, V, idx t, rowOf]

/-- Sixty-four chunks of 256 rows are all the rows. -/
theorem sum_chunks (f : Fin 16384 → EReal) : ∑ s : Fin 64, ∑ r : Fin 256, f ⟨s.val * 256 + r.val, by omega⟩ = ∑ k, f k := by
  rw [← (finProdFinEquiv (m := 64) (n := 256)).sum_comp f, Fintype.sum_prod_type]
  refine Finset.sum_congr rfl fun s _ => Finset.sum_congr rfl fun r _ => congrArg f (Fin.ext ?_)
  show s.val * 256 + r.val = r.val + 256 * s.val
  omega

/-- Where the rows of result 0 lie. -/
theorem emb4 (y : S256x1024.Idx) : (win0_4.blk t).view.emb y = ix2 (rowOf t (y 0)) (y 1) := by
  blk_ext [idx t, rowOf]

/-- The rows a point leaves in result 0. -/
theorem at4 (y : S256x1024.Idx) : (outsAt0 m c t.val t.isLt).1 y = rowR0 (m ((c : Thread nD τ).loc main_arg0)) (m ((c : Thread nD τ).loc main_arg1)) (m ((c : Thread nD τ).loc main_arg2)) (m ((c : Thread nD τ).loc main_arg3)) (ix2 (rowOf t (y 0)) (y 1)) := by
  have : t.val < 64 := t.isLt
  by_cases h : t.val % 64 = 0
  · rw [outsAt0_A m c t (by omega) (by omega)]
    dsimp only
    exact row0_A c t _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y
  · rw [outsAt0_B m c t (by omega) (by omega)]
    dsimp only
    exact row0_B c t _ _ (iblk m c 0 t) (iblk m c 1 t) (iblk m c 2 t) (iblk m c 3 t) _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 0 of the call is the reference's. -/
theorem final4 : (dats m 0 c).arrAt 4 (cfgs 0).N = rowR0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  exact (at4 m c t y).trans (congrArg _ (emb4 t y).symm)

/-- Where the rows of result 1 lie. -/
theorem emb5 (y : S256x1024.Idx) : (win0_5.blk t).view.emb y = ix2 (rowOf t (y 0)) (y 1) := by
  blk_ext [idx t, rowOf]

/-- The rows a point leaves in result 1. -/
theorem at5 (y : S256x1024.Idx) : (outsAt0 m c t.val t.isLt).2.1 y = rowR1 (m ((c : Thread nD τ).loc main_arg0)) (m ((c : Thread nD τ).loc main_arg1)) (m ((c : Thread nD τ).loc main_arg2)) (m ((c : Thread nD τ).loc main_arg3)) (ix2 (rowOf t (y 0)) (y 1)) := by
  have : t.val < 64 := t.isLt
  by_cases h : t.val % 64 = 0
  · rw [outsAt0_A m c t (by omega) (by omega)]
    dsimp only
    exact row1_A c t _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y
  · rw [outsAt0_B m c t (by omega) (by omega)]
    dsimp only
    exact row1_B c t _ _ (iblk m c 0 t) (iblk m c 1 t) (iblk m c 2 t) (iblk m c 3 t) _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 1 of the call is the reference's. -/
theorem final5 : (dats m 0 c).arrAt 5 (cfgs 0).N = rowR1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  rw [after0_5]
  exact (at5 m c t y).trans (congrArg _ (emb5 t y).symm)

/-- Result 2 is one block. -/
theorem emb6 (y : S1x1024.Idx) : (win0_6.blk t).view.emb y = ix2 0 (y 1) := by
  blk_ext [idx t]

/-- The first point starts the sum of result 2. -/
theorem first6 (h : t.val % 64 = 0) (y : S1x1024.Idx) : (outsAt0 m c t.val t.isLt).2.2 y = ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_A m c t (by omega) (by omega)]
  dsimp only
  exact sum2_A c t _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Each later point adds to it. -/
theorem later6 (h : ¬t.val % 64 = 0) (y : S1x1024.Idx) : (outsAt0 m c t.val t.isLt).2.2 y
    = (outsAt0 m c (t.val - 1) (Nat.lt_of_le_of_lt (Nat.sub_le _ _) t.isLt)).2.2 y + ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_B m c t (by omega) (by omega)]
  dsimp only
  exact sum2_B c t _ _ (iblk m c 0 t) (iblk m c 1 t) (iblk m c 2 t) (iblk m c 3 t) _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 2 of the call is the reference's. -/
theorem final6 : (dats m 0 c).arrAt 6 (cfgs 0).N = sumR2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  rw [after0_6]
  have h63 : t.val % 64 = 63 := (flush0_6 t).mp hf
  refine Eq.trans ?_ (congrArg _ (emb6 t y).symm)
  refine (Pipeline.eq_sum_fin_of_reset_step_apply_of_flush (fun n h => (outsAt0 m c n h).2.2) 64 (fun _ => 0)
    (fun t y => ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)))
    (fun t h j => by rw [zero_add]; exact first6 m c t h j) (fun t h j => later6 m c t h j) t h63 y).trans ?_
  rw [zero_add]
  refine Eq.trans ?_ (sumR2_at _ _ _ _ (ix2 0 (y 1))).symm
  refine Eq.trans ?_ (sum_chunks _)
  refine Finset.sum_congr rfl fun s _ => Finset.sum_congr rfl fun r _ => ?_
  have ht : t.val < 64 := t.isLt
  exact congrArg (fun k => termR2 (m ((c : Thread nD τ).loc main_arg0)) (m ((c : Thread nD τ).loc main_arg1)) (m ((c : Thread nD τ).loc main_arg2)) (m ((c : Thread nD τ).loc main_arg3)) (ix2 k (y 1))) (Fin.ext (congrArg (· * 256 + r.val) (show 64 * (t.val / 64) + s.val = s.val by omega)))

end Cert.Kernel25Ideal.Value
-- ==== Proof.Rows26.lean ====
module

public import proofs.«01_k».proof.Proof.Gen.Kernel26Ideal.Value
public import proofs.«01_k».proof.Proof.Gen.Reference26Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference26Ideal.Value

open Cert.Reference26Ideal Cert.Reference26Ideal.Gen

/-- The reference's gradient number 0, one row for each row of the input. -/
def rowR0 (a0 : FVec Ideal S16384x1024 .f32) (a1 : FVec Ideal S16384x1024 .f32) (a2 : FVec Ideal S1x1024 .f32) (a3 : FVec Ideal S16384x1024 .f32) (a4 : FVec Ideal S16384x1024 .f32) : FVec Ideal S16384x1024 .f32 :=
  addf (addf (mulf (addf a3 a4) (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))) (mulf (broadcastInDim S16384x1024 ![] bcast_S_S16384x1024 (constant S_ .f32 0x3F4C422A#32)) (mulf (mulf (broadcastInDim S16384x1024 ![] bcast_S_S16384x1024 (constant S_ .f32 0x3F000000#32)) (mulf (addf a0 (mulf (broadcastInDim S16384x1024 ![0, 1] bcast_S1x1024_S16384x1024_0_1 a2) a1)) (addf a3 a4))) (mulf (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))) (subf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))))) (mulf (mulf (broadcastInDim S16384x1024 ![] bcast_S_S16384x1024 (constant S_ .f32 0x3D372713#32)) (mulf (broadcastInDim S16384x1024 ![] bcast_S_S16384x1024 (constant S_ .f32 0x3F4C422A#32)) (mulf (mulf (broadcastInDim S16384x1024 ![] bcast_S_S16384x1024 (constant S_ .f32 0x3F000000#32)) (mulf (addf a0 (mulf (broadcastInDim S16384x1024 ![0, 1] bcast_S1x1024_S16384x1024_0_1 a2) a1)) (addf a3 a4))) (mulf (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))) (subf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))))) (mulf (broadcastInDim S16384x1024 ![] bcast_S_S16384x1024 (constant S_ .f32 0x40400000#32)) (mulf (addf a0 (mulf (broadcastInDim S16384x1024 ![0, 1] bcast_S1x1024_S16384x1024_0_1 a2) a1)) (addf a0 (mulf (broadcastInDim S16384x1024 ![0, 1] bcast_S1x1024_S16384x1024_0_1 a2) a1)))))

/-- The reference's gradient number 1, one row for each row of the input. -/
def rowR1 (a0 : FVec Ideal S16384x1024 .f32) (a1 : FVec Ideal S16384x1024 .f32) (a2 : FVec Ideal S1x1024 .f32) (a3 : FVec Ideal S16384x1024 .f32) (a4 : FVec Ideal S16384x1024 .f32) : FVec Ideal S16384x1024 .f32 :=
  mulf (broadcastInDim S16384x1024 ![0, 1] bcast_S1x1024_S16384x1024_0_1 a2) (addf (addf (mulf (addf a3 a4) (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))) (mulf (broadcastInDim S16384x1024 ![] bcast_S_S16384x1024 (constant S_ .f32 0x3F4C422A#32)) (mulf (mulf (broadcastInDim S16384x1024 ![] bcast_S_S16384x1024 (constant S_ .f32 0x3F000000#32)) (mulf (addf a0 (mulf (broadcastInDim S16384x1024 ![0, 1] bcast_S1x1024_S16384x1024_0_1 a2) a1)) (addf a3 a4))) (mulf (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))) (subf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))))) (mulf (mulf (broadcastInDim S16384x1024 ![] bcast_S_S16384x1024 (constant S_ .f32 0x3D372713#32)) (mulf (broadcastInDim S16384x1024 ![] bcast_S_S16384x1024 (constant S_ .f32 0x3F4C422A#32)) (mulf (mulf (broadcastInDim S16384x1024 ![] bcast_S_S16384x1024 (constant S_ .f32 0x3F000000#32)) (mulf (addf a0 (mulf (broadcastInDim S16384x1024 ![0, 1] bcast_S1x1024_S16384x1024_0_1 a2) a1)) (addf a3 a4))) (mulf (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))) (subf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))))) (mulf (broadcastInDim S16384x1024 ![] bcast_S_S16384x1024 (constant S_ .f32 0x40400000#32)) (mulf (addf a0 (mulf (broadcastInDim S16384x1024 ![0, 1] bcast_S1x1024_S16384x1024_0_1 a2) a1)) (addf a0 (mulf (broadcastInDim S16384x1024 ![0, 1] bcast_S1x1024_S16384x1024_0_1 a2) a1))))))

/-- What each row adds to the reference's gradient number 2. -/
def termR2 (a0 : FVec Ideal S16384x1024 .f32) (a1 : FVec Ideal S16384x1024 .f32) (a2 : FVec Ideal S1x1024 .f32) (a3 : FVec Ideal S16384x1024 .f32) (a4 : FVec Ideal S16384x1024 .f32) : FVec Ideal S16384x1024 .f32 :=
  (mulf (addf (addf (mulf (addf a3 a4) (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))) (mulf (broadcastInDim S16384x1024 ![] bcast_S_S16384x1024 (constant S_ .f32 0x3F4C422A#32)) (mulf (mulf (broadcastInDim S16384x1024 ![] bcast_S_S16384x1024 (constant S_ .f32 0x3F000000#32)) (mulf (addf a0 (mulf (broadcastInDim S16384x1024 ![0, 1] bcast_S1x1024_S16384x1024_0_1 a2) a1)) (addf a3 a4))) (mulf (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))) (subf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))))) (mulf (mulf (broadcastInDim S16384x1024 ![] bcast_S_S16384x1024 (constant S_ .f32 0x3D372713#32)) (mulf (broadcastInDim S16384x1024 ![] bcast_S_S16384x1024 (constant S_ .f32 0x3F4C422A#32)) (mulf (mulf (broadcastInDim S16384x1024 ![] bcast_S_S16384x1024 (constant S_ .f32 0x3F000000#32)) (mulf (addf a0 (mulf (broadcastInDim S16384x1024 ![0, 1] bcast_S1x1024_S16384x1024_0_1 a2) a1)) (addf a3 a4))) (mulf (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))) (subf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 a2) a1)) (mulf (broadcastInDim S16384x1024 ![] bcast_S_S16384x1024 (constant S_ .f32 0x3D372713#32)) (mulf (mulf (addf a0 (mulf (broadcastInDim S16384x1024 ![0, 1] bcast_S1x1024_S16384x1024_0_1 a2) a1)) (addf a0 (mulf (broadcastInDim S16384x1024 ![0, 1] bcast_S1x1024_S16384x1024_0_1 a2) a1))) (addf a0 (mulf (broadcastInDim S16384x1024 ![0, 1] bcast_S1x1024_S16384x1024_0_1 a2) a1)))))))))))) (mulf (broadcastInDim S16384x1024 ![] bcast_S_S16384x1024 (constant S_ .f32 0x40400000#32)) (mulf (addf a0 (mulf (broadcastInDim S16384x1024 ![0, 1] bcast_S1x1024_S16384x1024_0_1 a2) a1)) (addf a0 (mulf (broadcastInDim S16384x1024 ![0, 1] bcast_S1x1024_S16384x1024_0_1 a2) a1)))))) a1)

/-- The reference's gradient number 2: the sum over the rows. -/
def sumR2 (a0 : FVec Ideal S16384x1024 .f32) (a1 : FVec Ideal S16384x1024 .f32) (a2 : FVec Ideal S1x1024 .f32) (a3 : FVec Ideal S16384x1024 .f32) (a4 : FVec Ideal S16384x1024 .f32) : FVec Ideal S1x1024 .f32 :=
  shapeCast _ (Host.reduceAdd (termR2 a0 a1 a2 a3 a4) (constant S_ .f32 0x00000000#32) reducesTo_S16384x1024_S1024_d0 h_S_) shapeCasts_S1024_S1x1024

/-- An entry of it. -/
theorem sumR2_at (a0 : FVec Ideal S16384x1024 .f32) (a1 : FVec Ideal S16384x1024 .f32) (a2 : FVec Ideal S1x1024 .f32) (a3 : FVec Ideal S16384x1024 .f32) (a4 : FVec Ideal S16384x1024 .f32) (j) : sumR2 a0 a1 a2 a3 a4 j = ∑ r : Fin 16384, termR2 a0 a1 a2 a3 a4 (ix2 r (j 1)) := by
  pointwise [sumR2]

end Cert.Reference26Ideal.Value

namespace Cert.Kernel26Ideal.Value

open Cert.Kernel26Ideal Cert.Kernel26Ideal.Gen
open Cert.Reference26Ideal.Value

/-- Row `a` of the 256 rows of a point. -/
abbrev rowOf (t : Fin cfg0.N) (a : Fin 256) : Fin 16384 := ⟨t.val * 256 + a, by have : t.val < 64 := t.isLt; omega⟩

/-- At the first point: the rows written are the reference's. -/
theorem row0_A (c : Dev nD) (t : Fin cfg0.N) (h0 h1) (x0 : Vec Ideal S256x1024 .f32) (x1 : Vec Ideal S256x1024 .f32) (x2 : Vec Ideal S1x1024 .f32) (x3 : Vec Ideal S256x1024 .f32) (x4 : Vec Ideal S256x1024 .f32) (a0 : FVec Ideal S16384x1024 .f32) (a1 : FVec Ideal S16384x1024 .f32) (a2 : FVec Ideal S1x1024 .f32) (a3 : FVec Ideal S16384x1024 .f32) (a4 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (e4 : ∀ y, x4 y = a4 (ix2 (rowOf t (y 0)) (y 1))) (y) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      h0 h1 x0 x1 x2 x3 x4) y = rowR0 a0 a1 a2 a3 a4 (ix2 (rowOf t (y 0)) (y 1)) := by
  frame_out
  open_payloads
  pointwise [rowR0]
  simp only [e0, e1, e2, e3, e4, mul_assoc]
  try rfl

/-- At a later point: the rows written are the reference's. -/
theorem row0_B (c : Dev nD) (t : Fin cfg0.N) (h0 h1) (x0 : Vec Ideal S256x1024 .f32) (x1 : Vec Ideal S256x1024 .f32) (x2 : Vec Ideal S1x1024 .f32) (x3 : Vec Ideal S256x1024 .f32) (x4 : Vec Ideal S256x1024 .f32) (p2 : Vec Ideal S1x1024 .f32) (a0 : FVec Ideal S16384x1024 .f32) (a1 : FVec Ideal S16384x1024 .f32) (a2 : FVec Ideal S1x1024 .f32) (a3 : FVec Ideal S16384x1024 .f32) (a4 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (e4 : ∀ y, x4 y = a4 (ix2 (rowOf t (y 0)) (y 1))) (y) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      h0 h1 x0 x1 x2 x3 x4 p2) y = rowR0 a0 a1 a2 a3 a4 (ix2 (rowOf t (y 0)) (y 1)) := by
  frame_out
  open_payloads
  pointwise [rowR0]
  simp only [e0, e1, e2, e3, e4, mul_assoc]
  try rfl

/-- At the first point: the rows written are the reference's. -/
theorem row1_A (c : Dev nD) (t : Fin cfg0.N) (h0 h1) (x0 : Vec Ideal S256x1024 .f32) (x1 : Vec Ideal S256x1024 .f32) (x2 : Vec Ideal S1x1024 .f32) (x3 : Vec Ideal S256x1024 .f32) (x4 : Vec Ideal S256x1024 .f32) (a0 : FVec Ideal S16384x1024 .f32) (a1 : FVec Ideal S16384x1024 .f32) (a2 : FVec Ideal S1x1024 .f32) (a3 : FVec Ideal S16384x1024 .f32) (a4 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (e4 : ∀ y, x4 y = a4 (ix2 (rowOf t (y 0)) (y 1))) (y) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      h0 h1 x0 x1 x2 x3 x4) y = rowR1 a0 a1 a2 a3 a4 (ix2 (rowOf t (y 0)) (y 1)) := by
  frame_out
  open_payloads
  pointwise [rowR1]
  simp only [e0, e1, e2, e3, e4, mul_assoc]
  try rfl

/-- At a later point: the rows written are the reference's. -/
theorem row1_B (c : Dev nD) (t : Fin cfg0.N) (h0 h1) (x0 : Vec Ideal S256x1024 .f32) (x1 : Vec Ideal S256x1024 .f32) (x2 : Vec Ideal S1x1024 .f32) (x3 : Vec Ideal S256x1024 .f32) (x4 : Vec Ideal S256x1024 .f32) (p2 : Vec Ideal S1x1024 .f32) (a0 : FVec Ideal S16384x1024 .f32) (a1 : FVec Ideal S16384x1024 .f32) (a2 : FVec Ideal S1x1024 .f32) (a3 : FVec Ideal S16384x1024 .f32) (a4 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (e4 : ∀ y, x4 y = a4 (ix2 (rowOf t (y 0)) (y 1))) (y) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      h0 h1 x0 x1 x2 x3 x4 p2) y = rowR1 a0 a1 a2 a3 a4 (ix2 (rowOf t (y 0)) (y 1)) := by
  frame_out
  open_payloads
  pointwise [rowR1]
  simp only [e0, e1, e2, e3, e4, mul_assoc]
  try rfl

/-- At the first point: the sum over its rows. -/
theorem sum2_A (c : Dev nD) (t : Fin cfg0.N) (h0 h1) (x0 : Vec Ideal S256x1024 .f32) (x1 : Vec Ideal S256x1024 .f32) (x2 : Vec Ideal S1x1024 .f32) (x3 : Vec Ideal S256x1024 .f32) (x4 : Vec Ideal S256x1024 .f32) (a0 : FVec Ideal S16384x1024 .f32) (a1 : FVec Ideal S16384x1024 .f32) (a2 : FVec Ideal S1x1024 .f32) (a3 : FVec Ideal S16384x1024 .f32) (a4 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (e4 : ∀ y, x4 y = a4 (ix2 (rowOf t (y 0)) (y 1))) (y) :
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      h0 h1 x0 x1 x2 x3 x4) y = ∑ r : Fin 256, termR2 a0 a1 a2 a3 a4 (ix2 (rowOf t r) (y 1)) := by
  frame_out
  open_payloads
  pointwise [termR2]
  simp only [e0, e1, e2, e3, e4, mul_assoc]
  try rfl

/-- At a later point: the sum over its rows. -/
theorem sum2_B (c : Dev nD) (t : Fin cfg0.N) (h0 h1) (x0 : Vec Ideal S256x1024 .f32) (x1 : Vec Ideal S256x1024 .f32) (x2 : Vec Ideal S1x1024 .f32) (x3 : Vec Ideal S256x1024 .f32) (x4 : Vec Ideal S256x1024 .f32) (p2 : Vec Ideal S1x1024 .f32) (a0 : FVec Ideal S16384x1024 .f32) (a1 : FVec Ideal S16384x1024 .f32) (a2 : FVec Ideal S1x1024 .f32) (a3 : FVec Ideal S16384x1024 .f32) (a4 : FVec Ideal S16384x1024 .f32) (e0 : ∀ y, x0 y = a0 (ix2 (rowOf t (y 0)) (y 1))) (e1 : ∀ y, x1 y = a1 (ix2 (rowOf t (y 0)) (y 1))) (e2 : ∀ y, x2 y = a2 y) (e3 : ∀ y, x3 y = a3 (ix2 (rowOf t (y 0)) (y 1))) (e4 : ∀ y, x4 y = a4 (ix2 (rowOf t (y 0)) (y 1))) (y) :
    (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      h0 h1 x0 x1 x2 x3 x4 p2) y = p2 y + ∑ r : Fin 256, termR2 a0 a1 a2 a3 a4 (ix2 (rowOf t r) (y 1)) := by
  frame_out
  open_payloads
  pointwise [termR2]
  simp only [e0, e1, e2, e3, e4, mul_assoc]
  try rfl

/-- Point `t` takes rows `256 t` to `256 t + 255`, and the parameters whole. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

attribute [local irreducible] out0_A_5 out0_A_6 out0_A_7 out0_B_5 out0_B_6 out0_B_7 rowR0 rowR1 termR2

variable (m : (ℓ : Loc nD τ sig) → Buf (Elt Ideal) ℓ) (c : Dev nD) (t : Fin cfg0.N)

/-- The rows of argument 0 a point takes. -/
theorem blk0 (y : S256x1024.Idx) : iblk m c 0 t y = m ((c : Thread nD τ).loc main_arg0) (ix2 (rowOf t (y 0)) (y 1)) := by
  blk_point [iblk, V, idx t, rowOf]

/-- The rows of argument 1 a point takes. -/
theorem blk1 (y : S256x1024.Idx) : iblk m c 1 t y = m ((c : Thread nD τ).loc main_arg1) (ix2 (rowOf t (y 0)) (y 1)) := by
  blk_point [iblk, V, idx t, rowOf]

/-- Argument 2, whole at each point. -/
theorem blk2 (y : S1x1024.Idx) : iblk m c 2 t y = m ((c : Thread nD τ).loc main_arg2) y := by
  blk_point [iblk, V, idx t]

/-- The rows of argument 3 a point takes. -/
theorem blk3 (y : S256x1024.Idx) : iblk m c 3 t y = m ((c : Thread nD τ).loc main_arg3) (ix2 (rowOf t (y 0)) (y 1)) := by
  blk_point [iblk, V, idx t, rowOf]

/-- The rows of argument 4 a point takes. -/
theorem blk4 (y : S256x1024.Idx) : iblk m c 4 t y = m ((c : Thread nD τ).loc main_arg4) (ix2 (rowOf t (y 0)) (y 1)) := by
  blk_point [iblk, V, idx t, rowOf]

/-- Sixty-four chunks of 256 rows are all the rows. -/
theorem sum_chunks (f : Fin 16384 → EReal) : ∑ s : Fin 64, ∑ r : Fin 256, f ⟨s.val * 256 + r.val, by omega⟩ = ∑ k, f k := by
  rw [← (finProdFinEquiv (m := 64) (n := 256)).sum_comp f, Fintype.sum_prod_type]
  refine Finset.sum_congr rfl fun s _ => Finset.sum_congr rfl fun r _ => congrArg f (Fin.ext ?_)
  show s.val * 256 + r.val = r.val + 256 * s.val
  omega

/-- Where the rows of result 0 lie. -/
theorem emb5 (y : S256x1024.Idx) : (win0_5.blk t).view.emb y = ix2 (rowOf t (y 0)) (y 1) := by
  blk_ext [idx t, rowOf]

/-- The rows a point leaves in result 0. -/
theorem at5 (y : S256x1024.Idx) : (outsAt0 m c t.val t.isLt).1 y = rowR0 (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t (y 0)) (y 1)) := by
  have : t.val < 64 := t.isLt
  by_cases h : t.val % 64 = 0
  · rw [outsAt0_A m c t (by omega) (by omega)]
    dsimp only
    exact row0_A c t _ _ (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (m ((c : Thread nD τ).loc main_arg4)) (blk0 m c t) (blk1 m c t) (blk2 m c t) (blk3 m c t) (blk4 m c t) y
  · rw [outsAt0_B m c t (by omega) (by omega)]
    dsimp only
    exact row0_B c t _ _ (iblk m c 0 t) (iblk m c 1 t) (iblk m c 2 t) (iblk m c 3 t) (iblk m c 4 t) _ (m ((c : Thread nD τ).loc main_arg0)) (m ((c : Thread nD τ).loc main_arg1)) (m ((c : Thread nD τ).loc main_arg2)) (m ((c : Thread nD τ).loc main_arg3)) (m ((c : Thread nD τ).loc main_arg4)) (blk0 m c t) (blk1 m c t) (blk2 m c t) (blk3 m c t) (blk4 m c t) y

/-- Result 0 of the call is the reference's. -/
theorem final5 : (dats m 0 c).arrAt 5 (cfgs 0).N = rowR0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5]
  exact (at5 m c t y).trans (congrArg _ (emb5 t y).symm)

/-- Where the rows of result 1 lie. -/
theorem emb6 (y : S256x1024.Idx) : (win0_6.blk t).view.emb y = ix2 (rowOf t (y 0)) (y 1) := by
  blk_ext [idx t, rowOf]

/-- The rows a point leaves in result 1. -/
theorem at6 (y : S256x1024.Idx) : (outsAt0 m c t.val t.isLt).2.1 y = rowR1 (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t (y 0)) (y 1)) := by
  have : t.val < 64 := t.isLt
  by_cases h : t.val % 64 = 0
  · rw [outsAt0_A m c t (by omega) (by omega)]
    dsimp only
    exact row1_A c t _ _ (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (m ((c : Thread nD τ).loc main_arg4)) (blk0 m c t) (blk1 m c t) (blk2 m c t) (blk3 m c t) (blk4 m c t) y
  · rw [outsAt0_B m c t (by omega) (by omega)]
    dsimp only
    exact row1_B c t _ _ (iblk m c 0 t) (iblk m c 1 t) (iblk m c 2 t) (iblk m c 3 t) (iblk m c 4 t) _ (m ((c : Thread nD τ).loc main_arg0)) (m ((c : Thread nD τ).loc main_arg1)) (m ((c : Thread nD τ).loc main_arg2)) (m ((c : Thread nD τ).loc main_arg3)) (m ((c : Thread nD τ).loc main_arg4)) (blk0 m c t) (blk1 m c t) (blk2 m c t) (blk3 m c t) (blk4 m c t) y

/-- Result 1 of the call is the reference's. -/
theorem final6 : (dats m 0 c).arrAt 6 (cfgs 0).N = rowR1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6]
  exact (at6 m c t y).trans (congrArg _ (emb6 t y).symm)

/-- Result 2 is one block. -/
theorem emb7 (y : S1x1024.Idx) : (win0_7.blk t).view.emb y = ix2 0 (y 1) := by
  blk_ext [idx t]

/-- The first point starts the sum of result 2. -/
theorem first7 (h : t.val % 64 = 0) (y : S1x1024.Idx) : (outsAt0 m c t.val t.isLt).2.2 y = ∑ r : Fin 256, termR2 (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t r) (y 1)) := by
  have : t.val < 64 := t.isLt
  rw [outsAt0_A m c t (by omega) (by omega)]
  dsimp only
  exact sum2_A c t _ _ (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (m ((c : Thread nD τ).loc main_arg4)) (blk0 m c t) (blk1 m c t) (blk2 m c t) (blk3 m c t) (blk4 m c t) y

/-- Each later point adds to it. -/
theorem later7 (h : ¬t.val % 64 = 0) (y : S1x1024.Idx) : (outsAt0 m c t.val t.isLt).2.2 y
    = (outsAt0 m c (t.val - 1) (Nat.lt_of_le_of_lt (Nat.sub_le _ _) t.isLt)).2.2 y + ∑ r : Fin 256, termR2 (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t r) (y 1)) := by
  have : t.val < 64 := t.isLt
  rw [outsAt0_B m c t (by omega) (by omega)]
  dsimp only
  exact sum2_B c t _ _ (iblk m c 0 t) (iblk m c 1 t) (iblk m c 2 t) (iblk m c 3 t) (iblk m c 4 t) _ (m ((c : Thread nD τ).loc main_arg0)) (m ((c : Thread nD τ).loc main_arg1)) (m ((c : Thread nD τ).loc main_arg2)) (m ((c : Thread nD τ).loc main_arg3)) (m ((c : Thread nD τ).loc main_arg4)) (blk0 m c t) (blk1 m c t) (blk2 m c t) (blk3 m c t) (blk4 m c t) y

/-- Result 2 of the call is the reference's. -/
theorem final7 : (dats m 0 c).arrAt 7 (cfgs 0).N = sumR2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  rw [after0_7]
  have h63 : t.val % 64 = 63 := (flush0_7 t).mp hf
  refine Eq.trans ?_ (congrArg _ (emb7 t y).symm)
  refine (Pipeline.eq_sum_fin_of_reset_step_apply_of_flush (fun n h => (outsAt0 m c n h).2.2) 64 (fun _ => 0)
    (fun t y => ∑ r : Fin 256, termR2 (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t r) (y 1)))
    (fun t h j => by rw [zero_add]; exact first7 m c t h j) (fun t h j => later7 m c t h j) t h63 y).trans ?_
  rw [zero_add]
  refine Eq.trans ?_ (sumR2_at _ _ _ _ _ (ix2 0 (y 1))).symm
  refine Eq.trans ?_ (sum_chunks _)
  refine Finset.sum_congr rfl fun s _ => Finset.sum_congr rfl fun r _ => ?_
  have ht : t.val < 64 := t.isLt
  exact congrArg (fun k => termR2 (m ((c : Thread nD τ).loc main_arg0)) (m ((c : Thread nD τ).loc main_arg1)) (m ((c : Thread nD τ).loc main_arg2)) (m ((c : Thread nD τ).loc main_arg3)) (m ((c : Thread nD τ).loc main_arg4)) (ix2 k (y 1))) (Fin.ext (congrArg (· * 256 + r.val) (show 64 * (t.val / 64) + s.val = s.val by omega)))

end Cert.Kernel26Ideal.Value
-- ==== Proof.Rows27.lean ====
module

public import proofs.«01_k».proof.Proof.Gen.Kernel27Ideal.Value
public import proofs.«01_k».proof.Proof.Gen.Reference27Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference27Ideal.Value

open Cert.Reference27Ideal Cert.Reference27Ideal.Gen

/-- The reference's gradient number 0, one row for each row of the input. -/
def rowR0 (a0 : FVec Ideal S16384x2048 .f32) (a1 : FVec Ideal S1x2048 .f32) (a2 : FVec Ideal S16384x1024 .f32) : FVec Ideal S16384x2048 .bf16 :=
  truncf .bf16 (concatenate S16384x2048 1 [⟨S16384x1024, (mulf a2 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (addf a0 (broadcastInDim S16384x2048 ![0, 1] bcast_S1x2048_S16384x2048_0_1 a1)) slices_S16384x2048_S16384x1024_0_1024))))))⟩, ⟨S16384x1024, (mulf (mulf (extractStridedSlice S16384x1024 ![0, 0] (addf a0 (broadcastInDim S16384x2048 ![0, 1] bcast_S1x2048_S16384x2048_0_1 a1)) slices_S16384x2048_S16384x1024_0_0) a2) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (addf a0 (broadcastInDim S16384x2048 ![0, 1] bcast_S1x2048_S16384x2048_0_1 a1)) slices_S16384x2048_S16384x1024_0_1024))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (addf a0 (broadcastInDim S16384x2048 ![0, 1] bcast_S1x2048_S16384x2048_0_1 a1)) slices_S16384x2048_S16384x1024_0_1024))))))))⟩] concatenates_S16384x1024_S16384x1024_S16384x2048_d1) bitsLt_bf16_f32

/-- What each row adds to the reference's gradient number 1. -/
def termR1 (a0 : FVec Ideal S16384x2048 .f32) (a1 : FVec Ideal S1x2048 .f32) (a2 : FVec Ideal S16384x1024 .f32) : FVec Ideal S16384x2048 .f32 :=
  (concatenate S16384x2048 1 [⟨S16384x1024, (mulf a2 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (addf a0 (broadcastInDim S16384x2048 ![0, 1] bcast_S1x2048_S16384x2048_0_1 a1)) slices_S16384x2048_S16384x1024_0_1024))))))⟩, ⟨S16384x1024, (mulf (mulf (extractStridedSlice S16384x1024 ![0, 0] (addf a0 (broadcastInDim S16384x2048 ![0, 1] bcast_S1x2048_S16384x2048_0_1 a1)) slices_S16384x2048_S16384x1024_0_0) a2) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (addf a0 (broadcastInDim S16384x2048 ![0, 1] bcast_S1x2048_S16384x2048_0_1 a1)) slices_S16384x2048_S16384x1024_0_1024))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (addf a0 (broadcastInDim S16384x2048 ![0, 1] bcast_S1x2048_S16384x2048_0_1 a1)) slices_S16384x2048_S16384x1024_0_1024))))))))⟩] concatenates_S16384x1024_S16384x1024_S16384x2048_d1)

/-- The reference's gradient number 1: the sum over the rows. -/
def sumR1 (a0 : FVec Ideal S16384x2048 .f32) (a1 : FVec Ideal S1x2048 .f32) (a2 : FVec Ideal S16384x1024 .f32) : FVec Ideal S1x2048 .f32 :=
  shapeCast _ (Host.reduceAdd (termR1 a0 a1 a2) (constant S_ .f32 0x00000000#32) reducesTo_S16384x2048_S2048_d0 h_S_) shapeCasts_S2048_S1x2048

/-- An entry of it. -/
theorem sumR1_at (a0 : FVec Ideal S16384x2048 .f32) (a1 : FVec Ideal S1x2048 .f32) (a2 : FVec Ideal S16384x1024 .f32) (j) : sumR1 a0 a1 a2 j = ∑ r : Fin 16384, termR1 a0 a1 a2 (ix2 r (j 1)) := by
  pointwise [sumR1]

end Cert.Reference27Ideal.Value

namespace Cert.Kernel27Ideal.Value

open Cert.Kernel27Ideal Cert.Kernel27Ideal.Gen
open Cert.Reference27Ideal.Value

/-- Two halves of a row, each filled up with zeros, added. -/
theorem halves {p : Prop} [Decidable p] (f : ¬p → EReal) (g : p → EReal) :
    ((if h : p then 0 else f h) + if h : p then g h else 0) = if h : p then g h else f h := by
  by_cases h : p
  · rw [dif_pos h, dif_pos h, dif_pos h, zero_add]
  · rw [dif_neg h, dif_neg h, dif_neg h, add_zero]

/-- Row `a` of the 256 rows of a point. -/
abbrev rowOf (t : Fin cfg0.N) (a : Fin 256) : Fin 16384 := ⟨t.val * 256 + a, by have : t.val < 64 := t.isLt; omega⟩

/-- At the first point: the rows written are the reference's. -/
theorem row0_A (c : Dev nD) (t : Fin cfg0.N) (h0 h1) (x0 : Vec Ideal S256x2048 .f32) (x1 : Vec Ideal S1x2048 .f32) (x2 : Vec Ideal S256x1024 .f32) (a0 : FVec Ideal S16384x2048 .f32) (a1 : FVec Ideal S1x2048 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_A_3 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2) y = rowR0 a0 a1 a2 (ix2 (rowOf t (y 0)) (y 1)) := by
  frame_out
  open_payloads
  pointwise [rowR0]
  simp only [e0, e1, e2, Ideal.logistic]
  exact halves _ _

/-- At a later point: the rows written are the reference's. -/
theorem row0_B (c : Dev nD) (t : Fin cfg0.N) (h0 h1) (x0 : Vec Ideal S256x2048 .f32) (x1 : Vec Ideal S1x2048 .f32) (x2 : Vec Ideal S256x1024 .f32) (p1 : Vec Ideal S1x2048 .f32) (a0 : FVec Ideal S16384x2048 .f32) (a1 : FVec Ideal S1x2048 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_B_3 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2 p1) y = rowR0 a0 a1 a2 (ix2 (rowOf t (y 0)) (y 1)) := by
  frame_out
  open_payloads
  pointwise [rowR0]
  simp only [e0, e1, e2, Ideal.logistic]
  exact halves _ _

/-- At the first point: the sum over its rows. -/
theorem sum1_A (c : Dev nD) (t : Fin cfg0.N) (h0 h1) (x0 : Vec Ideal S256x2048 .f32) (x1 : Vec Ideal S1x2048 .f32) (x2 : Vec Ideal S256x1024 .f32) (a0 : FVec Ideal S16384x2048 .f32) (a1 : FVec Ideal S1x2048 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_A_4 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2) y = ∑ r : Fin 256, termR1 a0 a1 a2 (ix2 (rowOf t r) (y 1)) := by
  frame_out
  open_payloads
  pointwise [termR1]
  simp only [e0, e1, e2, Ideal.logistic]
  exact Finset.sum_congr rfl fun r _ => halves _ _

/-- At a later point: the sum over its rows. -/
theorem sum1_B (c : Dev nD) (t : Fin cfg0.N) (h0 h1) (x0 : Vec Ideal S256x2048 .f32) (x1 : Vec Ideal S1x2048 .f32) (x2 : Vec Ideal S256x1024 .f32) (p1 : Vec Ideal S1x2048 .f32) (a0 : FVec Ideal S16384x2048 .f32) (a1 : FVec Ideal S1x2048 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_B_4 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2 p1) y = p1 y + ∑ r : Fin 256, termR1 a0 a1 a2 (ix2 (rowOf t r) (y 1)) := by
  frame_out
  open_payloads
  pointwise [termR1]
  simp only [e0, e1, e2, Ideal.logistic]
  exact congrArg (_ + ·) (Finset.sum_congr rfl fun r _ => halves _ _)

/-- Point `t` takes rows `256 t` to `256 t + 255`, and the parameters whole. -/
theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

attribute [local irreducible] out0_A_3 out0_A_4 out0_B_3 out0_B_4 rowR0 termR1

variable (m : (ℓ : Loc nD τ sig) → Buf (Elt Ideal) ℓ) (c : Dev nD) (t : Fin cfg0.N)

/-- The rows of argument 0 a point takes. -/
theorem blk0 (y : S256x2048.Idx) : iblk m c 0 t y = m ((c : Thread nD τ).loc main_arg0) (ix2 (rowOf t (y 0)) (y 1)) := by
  blk_point [iblk, V, idx t, rowOf]

/-- Argument 1, whole at each point. -/
theorem blk1 (y : S1x2048.Idx) : iblk m c 1 t y = m ((c : Thread nD τ).loc main_arg1) y := by
  blk_point [iblk, V, idx t]

/-- The rows of argument 2 a point takes. -/
theorem blk2 (y : S256x1024.Idx) : iblk m c 2 t y = m ((c : Thread nD τ).loc main_arg2) (ix2 (rowOf t (y 0)) (y 1)) := by
  blk_point [iblk, V, idx t, rowOf]

/-- Sixty-four chunks of 256 rows are all the rows. -/
theorem sum_chunks (f : Fin 16384 → EReal) : ∑ s : Fin 64, ∑ r : Fin 256, f ⟨s.val * 256 + r.val, by omega⟩ = ∑ k, f k := by
  rw [← (finProdFinEquiv (m := 64) (n := 256)).sum_comp f, Fintype.sum_prod_type]
  refine Finset.sum_congr rfl fun s _ => Finset.sum_congr rfl fun r _ => congrArg f (Fin.ext ?_)
  show s.val * 256 + r.val = r.val + 256 * s.val
  omega

/-- Where the rows of result 0 lie. -/
theorem emb3 (y : S256x2048.Idx) : (win0_3.blk t).view.emb y = ix2 (rowOf t (y 0)) (y 1) := by
  blk_ext [idx t, rowOf]

/-- The rows a point leaves in result 0. -/
theorem at3 (y : S256x2048.Idx) : (outsAt0 m c t.val t.isLt).1 y = rowR0 (m ((c : Thread nD τ).loc main_arg0)) (m ((c : Thread nD τ).loc main_arg1)) (m ((c : Thread nD τ).loc main_arg2)) (ix2 (rowOf t (y 0)) (y 1)) := by
  have : t.val < 64 := t.isLt
  by_cases h : t.val % 64 = 0
  · rw [outsAt0_A m c t (by omega) (by omega)]
    dsimp only
    exact row0_A c t _ _ (iblk m c 0 t) (iblk m c 1 t) (iblk m c 2 t) (m ((c : Thread nD τ).loc main_arg0)) (m ((c : Thread nD τ).loc main_arg1)) (m ((c : Thread nD τ).loc main_arg2)) (blk0 m c t) (blk1 m c t) (blk2 m c t) y
  · rw [outsAt0_B m c t (by omega) (by omega)]
    dsimp only
    exact row0_B c t _ _ (iblk m c 0 t) (iblk m c 1 t) (iblk m c 2 t) _ (m ((c : Thread nD τ).loc main_arg0)) (m ((c : Thread nD τ).loc main_arg1)) (m ((c : Thread nD τ).loc main_arg2)) (blk0 m c t) (blk1 m c t) (blk2 m c t) y

/-- Result 0 of the call is the reference's. -/
theorem final3 : (dats m 0 c).arrAt 3 (cfgs 0).N = rowR0 (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  exact (at3 m c t y).trans (congrArg _ (emb3 t y).symm)

/-- Result 1 is one block. -/
theorem emb4 (y : S1x2048.Idx) : (win0_4.blk t).view.emb y = ix2 0 (y 1) := by
  blk_ext [idx t]

/-- The first point starts the sum of result 1. -/
theorem first4 (h : t.val % 64 = 0) (y : S1x2048.Idx) : (outsAt0 m c t.val t.isLt).2 y = ∑ r : Fin 256, termR1 (m ((c : Thread nD τ).loc main_arg0)) (m ((c : Thread nD τ).loc main_arg1)) (m ((c : Thread nD τ).loc main_arg2)) (ix2 (rowOf t r) (y 1)) := by
  have : t.val < 64 := t.isLt
  rw [outsAt0_A m c t (by omega) (by omega)]
  dsimp only
  exact sum1_A c t _ _ (iblk m c 0 t) (iblk m c 1 t) (iblk m c 2 t) (m ((c : Thread nD τ).loc main_arg0)) (m ((c : Thread nD τ).loc main_arg1)) (m ((c : Thread nD τ).loc main_arg2)) (blk0 m c t) (blk1 m c t) (blk2 m c t) y

/-- Each later point adds to it. -/
theorem later4 (h : ¬t.val % 64 = 0) (y : S1x2048.Idx) : (outsAt0 m c t.val t.isLt).2 y
    = (outsAt0 m c (t.val - 1) (Nat.lt_of_le_of_lt (Nat.sub_le _ _) t.isLt)).2 y + ∑ r : Fin 256, termR1 (m ((c : Thread nD τ).loc main_arg0)) (m ((c : Thread nD τ).loc main_arg1)) (m ((c : Thread nD τ).loc main_arg2)) (ix2 (rowOf t r) (y 1)) := by
  have : t.val < 64 := t.isLt
  rw [outsAt0_B m c t (by omega) (by omega)]
  dsimp only
  exact sum1_B c t _ _ (iblk m c 0 t) (iblk m c 1 t) (iblk m c 2 t) _ (m ((c : Thread nD τ).loc main_arg0)) (m ((c : Thread nD τ).loc main_arg1)) (m ((c : Thread nD τ).loc main_arg2)) (blk0 m c t) (blk1 m c t) (blk2 m c t) y

/-- Result 1 of the call is the reference's. -/
theorem final4 : (dats m 0 c).arrAt 4 (cfgs 0).N = sumR1 (m ((c : Thread nD τ).loc main_arg0)) (m ((c : Thread nD τ).loc main_arg1)) (m ((c : Thread nD τ).loc main_arg2)) := by
  refine (dats m 0 c).arrAt_eq_of_covers 4 _ (by decide +kernel) fun t hf y => ?_
  rw [after0_4]
  have h63 : t.val % 64 = 63 := (flush0_4 t).mp hf
  refine Eq.trans ?_ (congrArg _ (emb4 t y).symm)
  refine (Pipeline.eq_sum_fin_of_reset_step_apply_of_flush (fun n h => (outsAt0 m c n h).2) 64 (fun _ => 0)
    (fun t y => ∑ r : Fin 256, termR1 (m ((c : Thread nD τ).loc main_arg0)) (m ((c : Thread nD τ).loc main_arg1)) (m ((c : Thread nD τ).loc main_arg2)) (ix2 (rowOf t r) (y 1)))
    (fun t h j => by rw [zero_add]; exact first4 m c t h j) (fun t h j => later4 m c t h j) t h63 y).trans ?_
  rw [zero_add]
  refine Eq.trans ?_ (sumR1_at _ _ _ (ix2 0 (y 1))).symm
  refine Eq.trans ?_ (sum_chunks _)
  refine Finset.sum_congr rfl fun s _ => Finset.sum_congr rfl fun r _ => ?_
  have ht : t.val < 64 := t.isLt
  exact congrArg (fun k => termR1 (m ((c : Thread nD τ).loc main_arg0)) (m ((c : Thread nD τ).loc main_arg1)) (m ((c : Thread nD τ).loc main_arg2)) (ix2 k (y 1))) (Fin.ext (congrArg (· * 256 + r.val) (show 64 * (t.val / 64) + s.val = s.val by omega)))

end Cert.Kernel27Ideal.Value
-- ==== Proof.Rows28.lean ====
module

public import proofs.«01_k».proof.Proof.Gen.Kernel28Ideal.Value
public import proofs.«01_k».proof.Proof.Gen.Reference28Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference28Ideal.Value

open Cert.Reference28Ideal Cert.Reference28Ideal.Gen

/-- The reference's gradient number 0, one row for each row of the input. -/
def rowR0 (a0 : FVec Ideal S16384x1024 .f32) (a1 : FVec Ideal S1x1024 .f32) (a2 : FVec Ideal S1x1024 .f32) (a3 : FVec Ideal S16384x1024 .f32) : FVec Ideal S16384x1024 .f32 :=
  addf (addf (mulf (mulf (addf (mulf a3 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2))))))) (mulf (mulf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)) a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))))))) (broadcastInDim S16384x1024 ![0, 1] bcast_S1x1024_S16384x1024_0_1 a1)) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf (broadcastInDim S16384x1024 ![0] bcast_S16384_S16384x1024_0 (Host.reduceAdd (Host.divf (mulf (shapeCast _ (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (mulf (addf (mulf a3 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2))))))) (mulf (mulf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)) a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))))))) (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) (mulf (broadcastInDim S16384x1024 ![] bcast_S_S16384x1024 (constant S_ .f32 0x40000000#32)) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))))) (broadcastInDim S16384x1024 ![0] bcast_S16384_S16384x1024_0 (Host.reduceAdd (Host.divf (addf (shapeCast _ (Host.reduceAdd (Host.negf (mulf (mulf (addf (mulf a3 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2))))))) (mulf (mulf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)) a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))))))) (broadcastInDim S16384x1024 ![0, 1] bcast_S1x1024_S16384x1024_0_1 a1)) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))) (constant S_ .f32 0x00000000#32) reducesTo_S16384x1024_S16384_d1 h_S_) shapeCasts_S16384_S16384x1) (shapeCast _ (Host.reduceAdd (Host.negf (mulf (broadcastInDim S16384x1024 ![0] bcast_S16384_S16384x1024_0 (Host.reduceAdd (Host.divf (mulf (shapeCast _ (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (mulf (addf (mulf a3 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2))))))) (mulf (mulf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)) a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))))))) (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) (mulf (broadcastInDim S16384x1024 ![] bcast_S_S16384x1024 (constant S_ .f32 0x40000000#32)) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))))) (constant S_ .f32 0x00000000#32) reducesTo_S16384x1024_S16384_d1 h_S_) shapeCasts_S16384_S16384x1)) (broadcastInDim S16384x1 ![] bcast_S_S16384x1 (constant S_ .f32 0x44800000#32))) (constant S_ .f32 0x00000000#32) reducesTo_S16384x1_S16384_d1 h_S_))

/-- What each row adds to the reference's gradient number 1. -/
def termR1 (a0 : FVec Ideal S16384x1024 .f32) (a1 : FVec Ideal S1x1024 .f32) (a2 : FVec Ideal S1x1024 .f32) (a3 : FVec Ideal S16384x1024 .f32) : FVec Ideal S16384x1024 .f32 :=
  (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (addf (mulf a3 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2))))))) (mulf (mulf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)) a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))))))))

/-- The reference's gradient number 1: the sum over the rows. -/
def sumR1 (a0 : FVec Ideal S16384x1024 .f32) (a1 : FVec Ideal S1x1024 .f32) (a2 : FVec Ideal S1x1024 .f32) (a3 : FVec Ideal S16384x1024 .f32) : FVec Ideal S1x1024 .f32 :=
  shapeCast _ (Host.reduceAdd (termR1 a0 a1 a2 a3) (constant S_ .f32 0x00000000#32) reducesTo_S16384x1024_S1024_d0 h_S_) shapeCasts_S1024_S1x1024

/-- An entry of it. -/
theorem sumR1_at (a0 : FVec Ideal S16384x1024 .f32) (a1 : FVec Ideal S1x1024 .f32) (a2 : FVec Ideal S1x1024 .f32) (a3 : FVec Ideal S16384x1024 .f32) (j) : sumR1 a0 a1 a2 a3 j = ∑ r : Fin 16384, termR1 a0 a1 a2 a3 (ix2 r (j 1)) := by
  pointwise [sumR1]

/-- What each row adds to the reference's gradient number 2. -/
def termR2 (a0 : FVec Ideal S16384x1024 .f32) (a1 : FVec Ideal S1x1024 .f32) (a2 : FVec Ideal S1x1024 .f32) (a3 : FVec Ideal S16384x1024 .f32) : FVec Ideal S16384x1024 .f32 :=
  (addf (mulf a3 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2))))))) (mulf (mulf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)) a3) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2)))))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (mulf (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32))))) (subf a0 (broadcastInDim S16384x1024 ![0, 1] bcast_S16384x1_S16384x1024_0_1 (Host.divf (broadcastInDim S16384x1 ![0] bcast_S16384_S16384x1_0 (Host.reduceAdd a0 (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 a1)) (broadcastInDim S16384x1024 ![0, 1] bcast_S1x1024_S16384x1024_0_1 a2))))))))))

/-- The reference's gradient number 2: the sum over the rows. -/
def sumR2 (a0 : FVec Ideal S16384x1024 .f32) (a1 : FVec Ideal S1x1024 .f32) (a2 : FVec Ideal S1x1024 .f32) (a3 : FVec Ideal S16384x1024 .f32) : FVec Ideal S1x1024 .f32 :=
  shapeCast _ (Host.reduceAdd (termR2 a0 a1 a2 a3) (constant S_ .f32 0x00000000#32) reducesTo_S16384x1024_S1024_d0 h_S_) shapeCasts_S1024_S1x1024

/-- An entry of it. -/
theorem sumR2_at (a0 : FVec Ideal S16384x1024 .f32) (a1 : FVec Ideal S1x1024 .f32) (a2 : FVec Ideal S1x1024 .f32) (a3 : FVec Ideal S16384x1024 .f32) (j) : sumR2 a0 a1 a2 a3 j = ∑ r : Fin 16384, termR2 a0 a1 a2 a3 (ix2 r (j 1)) := by
  pointwise [sumR2]

end Cert.Reference28Ideal.Value

namespace Cert.Kernel28Ideal.Value

open Cert.Kernel28Ideal Cert.Kernel28Ideal.Gen
open Cert.Reference28Ideal.Value

/-- Row `a` of the 256 rows of a point. -/
abbrev rowOf (t : Fin cfg0.N) (a : Fin 256) : Fin 16384 := ⟨t.val * 256 + a, by have : t.val < 64 := t.isLt; omega⟩

/-- At the first point: the rows written are the reference's. -/
theorem row0_A (c : Dev nD) (t : Fin cfg0.N) (h0 h1 h2 h3) (x0 : Vec Ideal S256x1024 .f32) (x1 : Vec Ideal S1x1024 .f32) (x2 : Vec Ideal S1x1024 .f32) (x3 : Vec Ideal S256x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3) y = rowR0 a0 a1 a2 a3 (ix2 (rowOf t (y 0)) (y 1)) := by
  frame_out
  open_payloads
  pointwise [rowR0]
  simp only [e0, e1, e2, e3, Ideal.logistic, zero_sub]
  try rfl

/-- At a later point: the rows written are the reference's. -/
theorem row0_B (c : Dev nD) (t : Fin cfg0.N) (h0 h1 h2 h3) (x0 : Vec Ideal S256x1024 .f32) (x1 : Vec Ideal S1x1024 .f32) (x2 : Vec Ideal S1x1024 .f32) (x3 : Vec Ideal S256x1024 .f32) (p1 : Vec Ideal S1x1024 .f32) (p2 : Vec Ideal S1x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3 p1 p2) y = rowR0 a0 a1 a2 a3 (ix2 (rowOf t (y 0)) (y 1)) := by
  frame_out
  open_payloads
  pointwise [rowR0]
  simp only [e0, e1, e2, e3, Ideal.logistic, zero_sub]
  try rfl

/-- At the first point: the sum over its rows. -/
theorem sum1_A (c : Dev nD) (t : Fin cfg0.N) (h0 h1 h2 h3) (x0 : Vec Ideal S256x1024 .f32) (x1 : Vec Ideal S1x1024 .f32) (x2 : Vec Ideal S1x1024 .f32) (x3 : Vec Ideal S256x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3) y = ∑ r : Fin 256, termR1 a0 a1 a2 a3 (ix2 (rowOf t r) (y 1)) := by
  frame_out
  open_payloads
  pointwise [termR1]
  simp only [e0, e1, e2, e3, Ideal.logistic]
  try rfl

/-- At a later point: the sum over its rows. -/
theorem sum1_B (c : Dev nD) (t : Fin cfg0.N) (h0 h1 h2 h3) (x0 : Vec Ideal S256x1024 .f32) (x1 : Vec Ideal S1x1024 .f32) (x2 : Vec Ideal S1x1024 .f32) (x3 : Vec Ideal S256x1024 .f32) (p1 : Vec Ideal S1x1024 .f32) (p2 : Vec Ideal S1x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3 p1 p2) y = p1 y + ∑ r : Fin 256, termR1 a0 a1 a2 a3 (ix2 (rowOf t r) (y 1)) := by
  frame_out
  open_payloads
  pointwise [termR1]
  simp only [e0, e1, e2, e3, Ideal.logistic]
  try rfl

/-- At the first point: the sum over its rows. -/
theorem sum2_A (c : Dev nD) (t : Fin cfg0.N) (h0 h1 h2 h3) (x0 : Vec Ideal S256x1024 .f32) (x1 : Vec Ideal S1x1024 .f32) (x2 : Vec Ideal S1x1024 .f32) (x3 : Vec Ideal S256x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3) y = ∑ r : Fin 256, termR2 a0 a1 a2 a3 (ix2 (rowOf t r) (y 1)) := by
  frame_out
  open_payloads
  pointwise [termR2]
  simp only [e0, e1, e2, e3, Ideal.logistic]
  try rfl

/-- At a later point: the sum over its rows. -/
theorem sum2_B (c : Dev nD) (t : Fin cfg0.N) (h0 h1 h2 h3) (x0 : Vec Ideal S256x1024 .f32) (x1 : Vec Ideal S1x1024 .f32) (x2 : Vec Ideal S1x1024 .f32) (x3 : Vec Ideal S256x1024 .f32) (p1 : Vec Ideal S1x1024 .f32) (p2 : Vec Ideal S1x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3 p1 p2) y = p2 y + ∑ r : Fin 256, termR2 a0 a1 a2 a3 (ix2 (rowOf t r) (y 1)) := by
  frame_out
  open_payloads
  pointwise [termR2]
  simp only [e0, e1, e2, e3, Ideal.logistic]
  try rfl

/-- Point `t` takes rows `256 t` to `256 t + 255`, and the parameters whole. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

attribute [local irreducible] out0_A_4 out0_A_5 out0_A_6 out0_B_4 out0_B_5 out0_B_6 rowR0 termR1 termR2

variable (m : (ℓ : Loc nD τ sig) → Buf (Elt Ideal) ℓ) (c : Dev nD) (t : Fin cfg0.N)

/-- The rows of argument 0 a point takes. -/
theorem blk0 (y : S256x1024.Idx) : iblk m c 0 t y = m ((c : Thread nD τ).loc main_arg0) (ix2 (rowOf t (y 0)) (y 1)) := by
  blk_point [iblk, V, idx t, rowOf]

/-- Argument 1, whole at each point. -/
theorem blk1 (y : S1x1024.Idx) : iblk m c 1 t y = m ((c : Thread nD τ).loc main_arg1) y := by
  blk_point [iblk, V, idx t]

/-- Argument 2, whole at each point. -/
theorem blk2 (y : S1x1024.Idx) : iblk m c 2 t y = m ((c : Thread nD τ).loc main_arg2) y := by
  blk_point [iblk, V, idx t]

/-- The rows of argument 3 a point takes. -/
theorem blk3 (y : S256x1024.Idx) : iblk m c 3 t y = m ((c : Thread nD τ).loc main_arg3) (ix2 (rowOf t (y 0)) (y 1)) := by
  blk_point [iblk, V, idx t, rowOf]

/-- Sixty-four chunks of 256 rows are all the rows. -/
theorem sum_chunks (f : Fin 16384 → EReal) : ∑ s : Fin 64, ∑ r : Fin 256, f ⟨s.val * 256 + r.val, by omega⟩ = ∑ k, f k := by
  rw [← (finProdFinEquiv (m := 64) (n := 256)).sum_comp f, Fintype.sum_prod_type]
  refine Finset.sum_congr rfl fun s _ => Finset.sum_congr rfl fun r _ => congrArg f (Fin.ext ?_)
  show s.val * 256 + r.val = r.val + 256 * s.val
  omega

/-- Where the rows of result 0 lie. -/
theorem emb4 (y : S256x1024.Idx) : (win0_4.blk t).view.emb y = ix2 (rowOf t (y 0)) (y 1) := by
  blk_ext [idx t, rowOf]

/-- The rows a point leaves in result 0. -/
theorem at4 (y : S256x1024.Idx) : (outsAt0 m c t.val t.isLt).1 y = rowR0 (m ((c : Thread nD τ).loc main_arg0)) (m ((c : Thread nD τ).loc main_arg1)) (m ((c : Thread nD τ).loc main_arg2)) (m ((c : Thread nD τ).loc main_arg3)) (ix2 (rowOf t (y 0)) (y 1)) := by
  have : t.val < 64 := t.isLt
  by_cases h : t.val % 64 = 0
  · rw [outsAt0_A m c t (by omega) (by omega) (by omega) (by omega)]
    dsimp only
    exact row0_A c t _ _ _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y
  · rw [outsAt0_B m c t (by omega) (by omega) (by omega) (by omega)]
    dsimp only
    exact row0_B c t _ _ _ _ (iblk m c 0 t) (iblk m c 1 t) (iblk m c 2 t) (iblk m c 3 t) _ _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 0 of the call is the reference's. -/
theorem final4 : (dats m 0 c).arrAt 4 (cfgs 0).N = rowR0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  exact (at4 m c t y).trans (congrArg _ (emb4 t y).symm)

/-- Result 1 is one block. -/
theorem emb5 (y : S1x1024.Idx) : (win0_5.blk t).view.emb y = ix2 0 (y 1) := by
  blk_ext [idx t]

/-- The first point starts the sum of result 1. -/
theorem first5 (h : t.val % 64 = 0) (y : S1x1024.Idx) : (outsAt0 m c t.val t.isLt).2.1 y = ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_A m c t (by omega) (by omega) (by omega) (by omega)]
  dsimp only
  exact sum1_A c t _ _ _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Each later point adds to it. -/
theorem later5 (h : ¬t.val % 64 = 0) (y : S1x1024.Idx) : (outsAt0 m c t.val t.isLt).2.1 y
    = (outsAt0 m c (t.val - 1) (Nat.lt_of_le_of_lt (Nat.sub_le _ _) t.isLt)).2.1 y + ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_B m c t (by omega) (by omega) (by omega) (by omega)]
  dsimp only
  exact sum1_B c t _ _ _ _ (iblk m c 0 t) (iblk m c 1 t) (iblk m c 2 t) (iblk m c 3 t) _ _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 1 of the call is the reference's. -/
theorem final5 : (dats m 0 c).arrAt 5 (cfgs 0).N = sumR1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  rw [after0_5]
  have h63 : t.val % 64 = 63 := (flush0_5 t).mp hf
  refine Eq.trans ?_ (congrArg _ (emb5 t y).symm)
  refine (Pipeline.eq_sum_fin_of_reset_step_apply_of_flush (fun n h => (outsAt0 m c n h).2.1) 64 (fun _ => 0)
    (fun t y => ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)))
    (fun t h j => by rw [zero_add]; exact first5 m c t h j) (fun t h j => later5 m c t h j) t h63 y).trans ?_
  rw [zero_add]
  refine Eq.trans ?_ (sumR1_at _ _ _ _ (ix2 0 (y 1))).symm
  refine Eq.trans ?_ (sum_chunks _)
  refine Finset.sum_congr rfl fun s _ => Finset.sum_congr rfl fun r _ => ?_
  have ht : t.val < 64 := t.isLt
  exact congrArg (fun k => termR1 (m ((c : Thread nD τ).loc main_arg0)) (m ((c : Thread nD τ).loc main_arg1)) (m ((c : Thread nD τ).loc main_arg2)) (m ((c : Thread nD τ).loc main_arg3)) (ix2 k (y 1))) (Fin.ext (congrArg (· * 256 + r.val) (show 64 * (t.val / 64) + s.val = s.val by omega)))

/-- Result 2 is one block. -/
theorem emb6 (y : S1x1024.Idx) : (win0_6.blk t).view.emb y = ix2 0 (y 1) := by
  blk_ext [idx t]

/-- The first point starts the sum of result 2. -/
theorem first6 (h : t.val % 64 = 0) (y : S1x1024.Idx) : (outsAt0 m c t.val t.isLt).2.2 y = ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_A m c t (by omega) (by omega) (by omega) (by omega)]
  dsimp only
  exact sum2_A c t _ _ _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Each later point adds to it. -/
theorem later6 (h : ¬t.val % 64 = 0) (y : S1x1024.Idx) : (outsAt0 m c t.val t.isLt).2.2 y
    = (outsAt0 m c (t.val - 1) (Nat.lt_of_le_of_lt (Nat.sub_le _ _) t.isLt)).2.2 y + ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_B m c t (by omega) (by omega) (by omega) (by omega)]
  dsimp only
  exact sum2_B c t _ _ _ _ (iblk m c 0 t) (iblk m c 1 t) (iblk m c 2 t) (iblk m c 3 t) _ _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 2 of the call is the reference's. -/
theorem final6 : (dats m 0 c).arrAt 6 (cfgs 0).N = sumR2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  rw [after0_6]
  have h63 : t.val % 64 = 63 := (flush0_6 t).mp hf
  refine Eq.trans ?_ (congrArg _ (emb6 t y).symm)
  refine (Pipeline.eq_sum_fin_of_reset_step_apply_of_flush (fun n h => (outsAt0 m c n h).2.2) 64 (fun _ => 0)
    (fun t y => ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)))
    (fun t h j => by rw [zero_add]; exact first6 m c t h j) (fun t h j => later6 m c t h j) t h63 y).trans ?_
  rw [zero_add]
  refine Eq.trans ?_ (sumR2_at _ _ _ _ (ix2 0 (y 1))).symm
  refine Eq.trans ?_ (sum_chunks _)
  refine Finset.sum_congr rfl fun s _ => Finset.sum_congr rfl fun r _ => ?_
  have ht : t.val < 64 := t.isLt
  exact congrArg (fun k => termR2 (m ((c : Thread nD τ).loc main_arg0)) (m ((c : Thread nD τ).loc main_arg1)) (m ((c : Thread nD τ).loc main_arg2)) (m ((c : Thread nD τ).loc main_arg3)) (ix2 k (y 1))) (Fin.ext (congrArg (· * 256 + r.val) (show 64 * (t.val / 64) + s.val = s.val by omega)))

end Cert.Kernel28Ideal.Value
-- ==== Proof.Rows29.lean ====
module

public import proofs.«01_k».proof.Proof.Gen.Kernel29Ideal.Value
public import proofs.«01_k».proof.Proof.Gen.Reference29Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference29Ideal.Value

open Cert.Reference29Ideal Cert.Reference29Ideal.Gen

/-- An intermediate value of the reference. -/
def val1 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  addf a0 (broadcastInDim S16384x4096 ![0, 1] bcast_S1x4096_S16384x4096_0_1 a1)

/-- An intermediate value of the reference. -/
def val12 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  Host.tanh (mulf (broadcastInDim S16384x4096 ![] bcast_S_S16384x4096 (constant S_ .f32 0x3F4C422A#32)) (addf (val1 a0 a1 a2 a3 a4 a5) (mulf (broadcastInDim S16384x4096 ![] bcast_S_S16384x4096 (constant S_ .f32 0x3D372713#32)) (mulf (mulf (val1 a0 a1 a2 a3 a4 a5) (val1 a0 a1 a2 a3 a4 a5)) (val1 a0 a1 a2 a3 a4 a5)))))

/-- An intermediate value of the reference. -/
def val21 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  mulf (broadcastInDim S16384x4096 ![] bcast_S_S16384x4096 (constant S_ .f32 0x3F000000#32)) (addf (broadcastInDim S16384x4096 ![] bcast_S_S16384x4096 (constant S_ .f32 0x3F800000#32)) (val12 a0 a1 a2 a3 a4 a5))

/-- An intermediate value of the reference. -/
def val22 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  mulf (val1 a0 a1 a2 a3 a4 a5) (val21 a0 a1 a2 a3 a4 a5)

/-- An intermediate value of the reference. -/
def val24 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  extractStridedSlice S16384x2048 ![0, 2048] (val22 a0 a1 a2 a3 a4 a5) slices_S16384x4096_S16384x2048_0_2048

/-- An intermediate value of the reference. -/
def val28 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x1 .f32 :=
  Host.divf (broadcastInDim S16384x1 ![0] bcast_S16384_S16384x1_0 (Host.reduceAdd (val24 a0 a1 a2 a3 a4 a5) (constant S_ .f32 0x00000000#32) reducesTo_S16384x2048_S16384_d1 h_S_)) (broadcastInDim S16384x1 ![] bcast_S_S16384x1 (constant S_ .f32 0x45000000#32))

/-- An intermediate value of the reference. -/
def val30 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  subf (val24 a0 a1 a2 a3 a4 a5) (broadcastInDim S16384x2048 ![0, 1] bcast_S16384x1_S16384x2048_0_1 (val28 a0 a1 a2 a3 a4 a5))

/-- An intermediate value of the reference. -/
def val39 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  subf (val24 a0 a1 a2 a3 a4 a5) (broadcastInDim S16384x2048 ![0, 1] bcast_S16384x1_S16384x2048_0_1 (val28 a0 a1 a2 a3 a4 a5))

/-- An intermediate value of the reference. -/
def val41 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x1 .f32 :=
  addf (Host.divf (broadcastInDim S16384x1 ![0] bcast_S16384_S16384x1_0 (Host.reduceAdd (mulf (val30 a0 a1 a2 a3 a4 a5) (val30 a0 a1 a2 a3 a4 a5)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))

/-- An intermediate value of the reference. -/
def val42 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x1 .f32 :=
  Host.rsqrt (val41 a0 a1 a2 a3 a4 a5)

/-- An intermediate value of the reference. -/
def val47 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  mulf (val39 a0 a1 a2 a3 a4 a5) (broadcastInDim S16384x2048 ![0, 1] bcast_S16384x1_S16384x2048_0_1 (val42 a0 a1 a2 a3 a4 a5))

/-- An intermediate value of the reference. -/
def val52 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  shapeCast _ a5 shapeCasts_S16384x2048_S16384x2048

/-- An intermediate value of the reference. -/
def val59 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  mulf (val52 a0 a1 a2 a3 a4 a5) (broadcastInDim S16384x2048 ![0, 1] bcast_S1x2048_S16384x2048_0_1 a2)

/-- An intermediate value of the reference. -/
def val64 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  mulf (val59 a0 a1 a2 a3 a4 a5) (broadcastInDim S16384x2048 ![0, 1] bcast_S16384x1_S16384x2048_0_1 (val42 a0 a1 a2 a3 a4 a5))

/-- An intermediate value of the reference. -/
def val73 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  mulf (broadcastInDim S16384x2048 ![0] bcast_S16384_S16384x2048_0 (Host.reduceAdd (Host.divf (mulf (shapeCast _ (Host.reduceAdd (mulf (val39 a0 a1 a2 a3 a4 a5) (val59 a0 a1 a2 a3 a4 a5)) (constant S_ .f32 0x00000000#32) reducesTo_S16384x2048_S16384_d1 h_S_) shapeCasts_S16384_S16384x1) (mulf (broadcastInDim S16384x1 ![] bcast_S_S16384x1 (constant S_ .f32 0xBF000000#32)) (Host.divf (val42 a0 a1 a2 a3 a4 a5) (val41 a0 a1 a2 a3 a4 a5)))) (broadcastInDim S16384x1 ![] bcast_S_S16384x1 (constant S_ .f32 0x45000000#32))) (constant S_ .f32 0x00000000#32) reducesTo_S16384x1_S16384_d1 h_S_)) (mulf (broadcastInDim S16384x2048 ![] bcast_S_S16384x2048 (constant S_ .f32 0x40000000#32)) (val30 a0 a1 a2 a3 a4 a5))

/-- An intermediate value of the reference. -/
def val84 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  concatenate S16384x4096 1 [⟨S16384x2048, a4⟩, ⟨S16384x2048, (addf (addf (val64 a0 a1 a2 a3 a4 a5) (val73 a0 a1 a2 a3 a4 a5)) (broadcastInDim S16384x2048 ![0] bcast_S16384_S16384x2048_0 (Host.reduceAdd (Host.divf (addf (shapeCast _ (Host.reduceAdd (Host.negf (val64 a0 a1 a2 a3 a4 a5)) (constant S_ .f32 0x00000000#32) reducesTo_S16384x2048_S16384_d1 h_S_) shapeCasts_S16384_S16384x1) (shapeCast _ (Host.reduceAdd (Host.negf (val73 a0 a1 a2 a3 a4 a5)) (constant S_ .f32 0x00000000#32) reducesTo_S16384x2048_S16384_d1 h_S_) shapeCasts_S16384_S16384x1)) (broadcastInDim S16384x1 ![] bcast_S_S16384x1 (constant S_ .f32 0x45000000#32))) (constant S_ .f32 0x00000000#32) reducesTo_S16384x1_S16384_d1 h_S_)))⟩] concatenates_S16384x2048_S16384x2048_S16384x4096_d1

/-- An intermediate value of the reference. -/
def val91 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  mulf (broadcastInDim S16384x4096 ![] bcast_S_S16384x4096 (constant S_ .f32 0x3F4C422A#32)) (mulf (mulf (broadcastInDim S16384x4096 ![] bcast_S_S16384x4096 (constant S_ .f32 0x3F000000#32)) (mulf (val1 a0 a1 a2 a3 a4 a5) (val84 a0 a1 a2 a3 a4 a5))) (mulf (addf (broadcastInDim S16384x4096 ![] bcast_S_S16384x4096 (constant S_ .f32 0x3F800000#32)) (val12 a0 a1 a2 a3 a4 a5)) (subf (broadcastInDim S16384x4096 ![] bcast_S_S16384x4096 (constant S_ .f32 0x3F800000#32)) (val12 a0 a1 a2 a3 a4 a5))))

/-- An intermediate value of the reference. -/
def val96 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  addf (addf (mulf (val84 a0 a1 a2 a3 a4 a5) (val21 a0 a1 a2 a3 a4 a5)) (val91 a0 a1 a2 a3 a4 a5)) (mulf (mulf (broadcastInDim S16384x4096 ![] bcast_S_S16384x4096 (constant S_ .f32 0x3D372713#32)) (val91 a0 a1 a2 a3 a4 a5)) (mulf (broadcastInDim S16384x4096 ![] bcast_S_S16384x4096 (constant S_ .f32 0x40400000#32)) (mulf (val1 a0 a1 a2 a3 a4 a5) (val1 a0 a1 a2 a3 a4 a5))))

/-- The reference's gradient number 0, one row for each row of the input. -/
def rowR0 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .bf16 :=
  truncf .bf16 (val96 a0 a1 a2 a3 a4 a5) bitsLt_bf16_f32

/-- What each row adds to the reference's gradient number 1. -/
def termR1 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x4096 .f32 :=
  (val96 a0 a1 a2 a3 a4 a5)

/-- The reference's gradient number 1: the sum over the rows. -/
def sumR1 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S1x4096 .f32 :=
  shapeCast _ (Host.reduceAdd (termR1 a0 a1 a2 a3 a4 a5) (constant S_ .f32 0x00000000#32) reducesTo_S16384x4096_S4096_d0 h_S_) shapeCasts_S4096_S1x4096

/-- An entry of it. -/
theorem sumR1_at (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (j) : sumR1 a0 a1 a2 a3 a4 a5 j = ∑ r : Fin 16384, termR1 a0 a1 a2 a3 a4 a5 (ix2 r (j 1)) := by
  pointwise [sumR1]

/-- What each row adds to the reference's gradient number 2. -/
def termR2 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  (mulf (val47 a0 a1 a2 a3 a4 a5) (val52 a0 a1 a2 a3 a4 a5))

/-- The reference's gradient number 2: the sum over the rows. -/
def sumR2 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S1x2048 .f32 :=
  shapeCast _ (Host.reduceAdd (termR2 a0 a1 a2 a3 a4 a5) (constant S_ .f32 0x00000000#32) reducesTo_S16384x2048_S2048_d0 h_S_) shapeCasts_S2048_S1x2048

/-- An entry of it. -/
theorem sumR2_at (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (j) : sumR2 a0 a1 a2 a3 a4 a5 j = ∑ r : Fin 16384, termR2 a0 a1 a2 a3 a4 a5 (ix2 r (j 1)) := by
  pointwise [sumR2]

/-- What each row adds to the reference's gradient number 3. -/
def termR3 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S16384x2048 .f32 :=
  a5

/-- The reference's gradient number 3: the sum over the rows. -/
def sumR3 (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) : FVec Ideal S1x2048 .f32 :=
  shapeCast _ (Host.reduceAdd (termR3 a0 a1 a2 a3 a4 a5) (constant S_ .f32 0x00000000#32) reducesTo_S16384x2048_S2048_d0 h_S_) shapeCasts_S2048_S1x2048

/-- An entry of it. -/
theorem sumR3_at (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (j) : sumR3 a0 a1 a2 a3 a4 a5 j = ∑ r : Fin 16384, termR3 a0 a1 a2 a3 a4 a5 (ix2 r (j 1)) := by
  pointwise [sumR3]

end Cert.Reference29Ideal.Value

namespace Cert.Kernel29Ideal.Value

open Cert.Kernel29Ideal Cert.Kernel29Ideal.Gen
open Cert.Reference29Ideal.Value

/-- Two halves of a row, each filled up with zeros, added. -/
theorem halves {p : Prop} [Decidable p] (f : ¬p → EReal) (g : p → EReal) :
    ((if h : p then 0 else f h) + if h : p then g h else 0) = if h : p then g h else f h := by
  by_cases h : p
  · rw [dif_pos h, dif_pos h, dif_pos h, zero_add]
  · rw [dif_neg h, dif_neg h, dif_neg h, add_zero]

/-- The same, the first half first. -/
theorem halves_swap {p : Prop} [Decidable p] (f : ¬p → EReal) (g : p → EReal) :
    ((if h : p then g h else 0) + if h : p then 0 else f h) = if h : p then g h else f h := by
  rw [add_comm, halves]

/-- Row `a` of the 128 rows of a point. -/
abbrev rowOf (t : Fin cfg0.N) (a : Fin 128) : Fin 16384 := ⟨t.val * 128 + a, by have : t.val < 128 := t.isLt; omega⟩

/-- At the first point: the rows written are the reference's. -/
theorem row0_A (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5) y = rowR0 a0 a1 a2 a3 a4 a5 (ix2 (rowOf t (y 0)) (y 1)) := by
  frame_out
  open_payloads
  pointwise [rowR0, val1, val12, val21, val22, val24, val28, val30, val39, val41, val42, val47, val52, val59, val64, val73, val84, val91, val96]
  simp only [e0, e1, e2, e3, e4, e5, mul_assoc, zero_sub, halves, halves_swap]
  try rfl

/-- At a later point: the rows written are the reference's. -/
theorem row0_B (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (p1 : Vec Ideal S1x4096 .f32) (p2 : Vec Ideal S1x2048 .f32) (p3 : Vec Ideal S1x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5 p1 p2 p3) y = rowR0 a0 a1 a2 a3 a4 a5 (ix2 (rowOf t (y 0)) (y 1)) := by
  frame_out
  open_payloads
  pointwise [rowR0, val1, val12, val21, val22, val24, val28, val30, val39, val41, val42, val47, val52, val59, val64, val73, val84, val91, val96]
  simp only [e0, e1, e2, e3, e4, e5, mul_assoc, zero_sub, halves, halves_swap]
  try rfl

/-- At the first point: the sum over its rows. -/
theorem sum1_A (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5) y = ∑ r : Fin 128, termR1 a0 a1 a2 a3 a4 a5 (ix2 (rowOf t r) (y 1)) := by
  frame_out
  open_payloads
  pointwise [termR1, val1, val12, val21, val22, val24, val28, val30, val39, val41, val42, val47, val52, val59, val64, val73, val84, val91, val96]
  simp only [e0, e1, e2, e3, e4, e5, mul_assoc, zero_sub, halves, halves_swap]
  try rfl

/-- At a later point: the sum over its rows. -/
theorem sum1_B (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (p1 : Vec Ideal S1x4096 .f32) (p2 : Vec Ideal S1x2048 .f32) (p3 : Vec Ideal S1x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5 p1 p2 p3) y = p1 y + ∑ r : Fin 128, termR1 a0 a1 a2 a3 a4 a5 (ix2 (rowOf t r) (y 1)) := by
  frame_out
  open_payloads
  pointwise [termR1, val1, val12, val21, val22, val24, val28, val30, val39, val41, val42, val47, val52, val59, val64, val73, val84, val91, val96]
  simp only [e0, e1, e2, e3, e4, e5, mul_assoc, zero_sub, halves, halves_swap]
  try rfl

/-- At the first point: the sum over its rows. -/
theorem sum2_A (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5) y = ∑ r : Fin 128, termR2 a0 a1 a2 a3 a4 a5 (ix2 (rowOf t r) (y 1)) := by
  frame_out
  open_payloads
  pointwise [termR2, val1, val12, val21, val22, val24, val28, val30, val39, val41, val42, val47, val52, val59, val64, val73, val84, val91, val96]
  simp only [e0, e1, e2, e3, e4, e5, mul_assoc, zero_sub, halves, halves_swap]
  try rfl

/-- At a later point: the sum over its rows. -/
theorem sum2_B (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (p1 : Vec Ideal S1x4096 .f32) (p2 : Vec Ideal S1x2048 .f32) (p3 : Vec Ideal S1x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5 p1 p2 p3) y = p2 y + ∑ r : Fin 128, termR2 a0 a1 a2 a3 a4 a5 (ix2 (rowOf t r) (y 1)) := by
  frame_out
  open_payloads
  pointwise [termR2, val1, val12, val21, val22, val24, val28, val30, val39, val41, val42, val47, val52, val59, val64, val73, val84, val91, val96]
  simp only [e0, e1, e2, e3, e4, e5, mul_assoc, zero_sub, halves, halves_swap]
  try rfl

/-- At the first point: the sum over its rows. -/
theorem sum3_A (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5) y = ∑ r : Fin 128, termR3 a0 a1 a2 a3 a4 a5 (ix2 (rowOf t r) (y 1)) := by
  frame_out
  open_payloads
  pointwise [termR3, val1, val12, val21, val22, val24, val28, val30, val39, val41, val42, val47, val52, val59, val64, val73, val84, val91, val96]
  simp only [e0, e1, e2, e3, e4, e5, mul_assoc, zero_sub, halves, halves_swap]
  try rfl

/-- At a later point: the sum over its rows. -/
theorem sum3_B (c : Dev nD) (t : Fin cfg0.N) (h0 h1 h2 h3 h4 h5) (x0 : Vec Ideal S128x4096 .f32) (x1 : Vec Ideal S1x4096 .f32) (x2 : Vec Ideal S1x2048 .f32) (x3 : Vec Ideal S1x2048 .f32) (x4 : Vec Ideal S128x2048 .f32) (x5 : Vec Ideal S128x2048 .f32) (p1 : Vec Ideal S1x4096 .f32) (p2 : Vec Ideal S1x2048 .f32) (p3 : Vec Ideal S1x2048 .f32) (a0 : FVec Ideal S16384x4096 .f32) (a1 : FVec Ideal S1x4096 .f32) (a2 : FVec Ideal S1x2048 .f32) (a3 : FVec Ideal S1x2048 .f32) (a4 : FVec Ideal S16384x2048 .f32) (a5 : FVec Ideal S16384x2048 .f32) (e0 : ∀ y, x0 y = a0 (ix2 (rowOf t (y 0)) (y 1))) (e1 : ∀ y, x1 y = a1 y) (e2 : ∀ y, x2 y = a2 y) (e3 : ∀ y, x3 y = a3 y) (e4 : ∀ y, x4 y = a4 (ix2 (rowOf t (y 0)) (y 1))) (e5 : ∀ y, x5 y = a5 (ix2 (rowOf t (y 0)) (y 1))) (y) :
    (out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      h0 h1 h2 h3 h4 h5 x0 x1 x2 x3 x4 x5 p1 p2 p3) y = p3 y + ∑ r : Fin 128, termR3 a0 a1 a2 a3 a4 a5 (ix2 (rowOf t r) (y 1)) := by
  frame_out
  open_payloads
  pointwise [termR3, val1, val12, val21, val22, val24, val28, val30, val39, val41, val42, val47, val52, val59, val64, val73, val84, val91, val96]
  simp only [e0, e1, e2, e3, e4, e5, mul_assoc, zero_sub, halves, halves_swap]
  try rfl

/-- Point `t` takes rows `128 t` to `128 t + 127`, and the parameters whole. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

attribute [local irreducible] out0_A_6 out0_A_7 out0_A_8 out0_A_9 out0_B_6 out0_B_7 out0_B_8 out0_B_9 rowR0 termR1 termR2 termR3

variable (m : (ℓ : Loc nD τ sig) → Buf (Elt Ideal) ℓ) (c : Dev nD) (t : Fin cfg0.N)

/-- The rows of argument 0 a point takes. -/
theorem blk0 (y : S128x4096.Idx) : iblk m c 0 t y = m ((c : Thread nD τ).loc main_arg0) (ix2 (rowOf t (y 0)) (y 1)) := by
  blk_point [iblk, V, idx t, rowOf]

/-- Argument 1, whole at each point. -/
theorem blk1 (y : S1x4096.Idx) : iblk m c 1 t y = m ((c : Thread nD τ).loc main_arg1) y := by
  blk_point [iblk, V, idx t]

/-- Argument 2, whole at each point. -/
theorem blk2 (y : S1x2048.Idx) : iblk m c 2 t y = m ((c : Thread nD τ).loc main_arg2) y := by
  blk_point [iblk, V, idx t]

/-- Argument 3, whole at each point. -/
theorem blk3 (y : S1x2048.Idx) : iblk m c 3 t y = m ((c : Thread nD τ).loc main_arg3) y := by
  blk_point [iblk, V, idx t]

/-- The rows of argument 4 a point takes. -/
theorem blk4 (y : S128x2048.Idx) : iblk m c 4 t y = m ((c : Thread nD τ).loc main_arg4) (ix2 (rowOf t (y 0)) (y 1)) := by
  blk_point [iblk, V, idx t, rowOf]

/-- The rows of argument 5 a point takes. -/
theorem blk5 (y : S128x2048.Idx) : iblk m c 5 t y = m ((c : Thread nD τ).loc main_arg5) (ix2 (rowOf t (y 0)) (y 1)) := by
  blk_point [iblk, V, idx t, rowOf]

/-- The 128 chunks of 128 rows are all the rows. -/
theorem sum_chunks (f : Fin 16384 → EReal) : ∑ s : Fin 128, ∑ r : Fin 128, f ⟨s.val * 128 + r.val, by omega⟩ = ∑ k, f k := by
  rw [← (finProdFinEquiv (m := 128) (n := 128)).sum_comp f, Fintype.sum_prod_type]
  refine Finset.sum_congr rfl fun s _ => Finset.sum_congr rfl fun r _ => congrArg f (Fin.ext ?_)
  show s.val * 128 + r.val = r.val + 128 * s.val
  omega

/-- Where the rows of result 0 lie. -/
theorem emb6 (y : S128x4096.Idx) : (win0_6.blk t).view.emb y = ix2 (rowOf t (y 0)) (y 1) := by
  blk_ext [idx t, rowOf]

/-- The rows a point leaves in result 0. -/
theorem at6 (y : S128x4096.Idx) : (outsAt0 m c t.val t.isLt).1 y = rowR0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t (y 0)) (y 1)) := by
  have : t.val < 128 := t.isLt
  by_cases h : t.val % 128 = 0
  · rw [outsAt0_A m c t (by omega) (by omega) (by omega) (by omega) (by omega) (by omega)]
    dsimp only
    exact row0_A c t _ _ _ _ _ _ (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y
  · rw [outsAt0_B m c t (by omega) (by omega) (by omega) (by omega) (by omega) (by omega)]
    dsimp only
    exact row0_B c t _ _ _ _ _ _ (iblk m c 0 t) (iblk m c 1 t) (iblk m c 2 t) (iblk m c 3 t) (iblk m c 4 t) (iblk m c 5 t) _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y

/-- Result 0 of the call is the reference's. -/
theorem final6 : (dats m 0 c).arrAt 6 (cfgs 0).N = rowR0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  rw [after0_6]
  exact (at6 m c t y).trans (congrArg _ (emb6 t y).symm)

/-- Result 1 is one block. -/
theorem emb7 (y : S1x4096.Idx) : (win0_7.blk t).view.emb y = ix2 0 (y 1) := by
  blk_ext [idx t]

/-- The first point starts the sum of result 1. -/
theorem first7 (h : t.val % 128 = 0) (y : S1x4096.Idx) : (outsAt0 m c t.val t.isLt).2.1 y = ∑ r : Fin 128, termR1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)) := by
  have : t.val < 128 := t.isLt
  rw [outsAt0_A m c t (by omega) (by omega) (by omega) (by omega) (by omega) (by omega)]
  dsimp only
  exact sum1_A c t _ _ _ _ _ _ (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y

/-- Each later point adds to it. -/
theorem later7 (h : ¬t.val % 128 = 0) (y : S1x4096.Idx) : (outsAt0 m c t.val t.isLt).2.1 y
    = (outsAt0 m c (t.val - 1) (Nat.lt_of_le_of_lt (Nat.sub_le _ _) t.isLt)).2.1 y + ∑ r : Fin 128, termR1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)) := by
  have : t.val < 128 := t.isLt
  rw [outsAt0_B m c t (by omega) (by omega) (by omega) (by omega) (by omega) (by omega)]
  dsimp only
  exact sum1_B c t _ _ _ _ _ _ (iblk m c 0 t) (iblk m c 1 t) (iblk m c 2 t) (iblk m c 3 t) (iblk m c 4 t) (iblk m c 5 t) _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y

/-- Result 1 of the call is the reference's. -/
theorem final7 : (dats m 0 c).arrAt 7 (cfgs 0).N = sumR1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  rw [after0_7]
  have h127 : t.val % 128 = 127 := (flush0_7 t).mp hf
  refine Eq.trans ?_ (congrArg _ (emb7 t y).symm)
  refine (Pipeline.eq_sum_fin_of_reset_step_apply_of_flush (fun n h => (outsAt0 m c n h).2.1) 128 (fun _ => 0)
    (fun t y => ∑ r : Fin 128, termR1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)))
    (fun t h j => by rw [zero_add]; exact first7 m c t h j) (fun t h j => later7 m c t h j) t h127 y).trans ?_
  rw [zero_add]
  refine Eq.trans ?_ (sumR1_at _ _ _ _ _ _ (ix2 0 (y 1))).symm
  refine Eq.trans ?_ (sum_chunks _)
  refine Finset.sum_congr rfl fun s _ => Finset.sum_congr rfl fun r _ => ?_
  have ht : t.val < 128 := t.isLt
  exact congrArg (fun k => termR1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 k (y 1))) (Fin.ext (congrArg (· * 128 + r.val) (show 128 * (t.val / 128) + s.val = s.val by omega)))

/-- Result 2 is one block. -/
theorem emb8 (y : S1x2048.Idx) : (win0_8.blk t).view.emb y = ix2 0 (y 1) := by
  blk_ext [idx t]

/-- The first point starts the sum of result 2. -/
theorem first8 (h : t.val % 128 = 0) (y : S1x2048.Idx) : (outsAt0 m c t.val t.isLt).2.2.1 y = ∑ r : Fin 128, termR2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)) := by
  have : t.val < 128 := t.isLt
  rw [outsAt0_A m c t (by omega) (by omega) (by omega) (by omega) (by omega) (by omega)]
  dsimp only
  exact sum2_A c t _ _ _ _ _ _ (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y

/-- Each later point adds to it. -/
theorem later8 (h : ¬t.val % 128 = 0) (y : S1x2048.Idx) : (outsAt0 m c t.val t.isLt).2.2.1 y
    = (outsAt0 m c (t.val - 1) (Nat.lt_of_le_of_lt (Nat.sub_le _ _) t.isLt)).2.2.1 y + ∑ r : Fin 128, termR2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)) := by
  have : t.val < 128 := t.isLt
  rw [outsAt0_B m c t (by omega) (by omega) (by omega) (by omega) (by omega) (by omega)]
  dsimp only
  exact sum2_B c t _ _ _ _ _ _ (iblk m c 0 t) (iblk m c 1 t) (iblk m c 2 t) (iblk m c 3 t) (iblk m c 4 t) (iblk m c 5 t) _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y

/-- Result 2 of the call is the reference's. -/
theorem final8 : (dats m 0 c).arrAt 8 (cfgs 0).N = sumR2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  rw [after0_8]
  have h127 : t.val % 128 = 127 := (flush0_8 t).mp hf
  refine Eq.trans ?_ (congrArg _ (emb8 t y).symm)
  refine (Pipeline.eq_sum_fin_of_reset_step_apply_of_flush (fun n h => (outsAt0 m c n h).2.2.1) 128 (fun _ => 0)
    (fun t y => ∑ r : Fin 128, termR2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)))
    (fun t h j => by rw [zero_add]; exact first8 m c t h j) (fun t h j => later8 m c t h j) t h127 y).trans ?_
  rw [zero_add]
  refine Eq.trans ?_ (sumR2_at _ _ _ _ _ _ (ix2 0 (y 1))).symm
  refine Eq.trans ?_ (sum_chunks _)
  refine Finset.sum_congr rfl fun s _ => Finset.sum_congr rfl fun r _ => ?_
  have ht : t.val < 128 := t.isLt
  exact congrArg (fun k => termR2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 k (y 1))) (Fin.ext (congrArg (· * 128 + r.val) (show 128 * (t.val / 128) + s.val = s.val by omega)))

/-- Result 3 is one block. -/
theorem emb9 (y : S1x2048.Idx) : (win0_9.blk t).view.emb y = ix2 0 (y 1) := by
  blk_ext [idx t]

/-- The first point starts the sum of result 3. -/
theorem first9 (h : t.val % 128 = 0) (y : S1x2048.Idx) : (outsAt0 m c t.val t.isLt).2.2.2 y = ∑ r : Fin 128, termR3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)) := by
  have : t.val < 128 := t.isLt
  rw [outsAt0_A m c t (by omega) (by omega) (by omega) (by omega) (by omega) (by omega)]
  dsimp only
  exact sum3_A c t _ _ _ _ _ _ (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y

/-- Each later point adds to it. -/
theorem later9 (h : ¬t.val % 128 = 0) (y : S1x2048.Idx) : (outsAt0 m c t.val t.isLt).2.2.2 y
    = (outsAt0 m c (t.val - 1) (Nat.lt_of_le_of_lt (Nat.sub_le _ _) t.isLt)).2.2.2 y + ∑ r : Fin 128, termR3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)) := by
  have : t.val < 128 := t.isLt
  rw [outsAt0_B m c t (by omega) (by omega) (by omega) (by omega) (by omega) (by omega)]
  dsimp only
  exact sum3_B c t _ _ _ _ _ _ (iblk m c 0 t) (iblk m c 1 t) (iblk m c 2 t) (iblk m c 3 t) (iblk m c 4 t) (iblk m c 5 t) _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blk0 m c t) (blk1 m c t) (blk2 m c t) (blk3 m c t) (blk4 m c t) (blk5 m c t) y

/-- Result 3 of the call is the reference's. -/
theorem final9 : (dats m 0 c).arrAt 9 (cfgs 0).N = sumR3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  rw [after0_9]
  have h127 : t.val % 128 = 127 := (flush0_9 t).mp hf
  refine Eq.trans ?_ (congrArg _ (emb9 t y).symm)
  refine (Pipeline.eq_sum_fin_of_reset_step_apply_of_flush (fun n h => (outsAt0 m c n h).2.2.2) 128 (fun _ => 0)
    (fun t y => ∑ r : Fin 128, termR3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) (y 1)))
    (fun t h j => by rw [zero_add]; exact first9 m c t h j) (fun t h j => later9 m c t h j) t h127 y).trans ?_
  rw [zero_add]
  refine Eq.trans ?_ (sumR3_at _ _ _ _ _ _ (ix2 0 (y 1))).symm
  refine Eq.trans ?_ (sum_chunks _)
  refine Finset.sum_congr rfl fun s _ => Finset.sum_congr rfl fun r _ => ?_
  have ht : t.val < 128 := t.isLt
  exact congrArg (fun k => termR3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 k (y 1))) (Fin.ext (congrArg (· * 128 + r.val) (show 128 * (t.val / 128) + s.val = s.val by omega)))

end Cert.Kernel29Ideal.Value
-- ==== Proof.Rows30.lean ====
module

public import proofs.«01_k».proof.Proof.Gen.Kernel30Ideal.Value
public import proofs.«01_k».proof.Proof.Gen.Reference30Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference30Ideal.Value

open Cert.Reference30Ideal Cert.Reference30Ideal.Gen

/-- The reference's gradient number 0, one row for each row of the input. -/
def rowR0 (a0 : FVec Ideal S16384x1024 .f32) (a1 : FVec Ideal S1x1024 .f32) (a2 : FVec Ideal S16384x1024 .f32) : FVec Ideal S16384x1024 .bf16 :=
  truncf .bf16 (addf (addf (mulf (mulf (mulf (broadcastInDim S16384x1024 ![] bcast_S_S16384x1024 (constant S_ .f32 0x3F000000#32)) a2) (broadcastInDim S16384x1024 ![0, 1] bcast_S1x1024_S16384x1024_0_1 a1)) (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf a0 (broadcastInDim S16384x1024 ![0] bcast_S16384_S16384x1024_0 (Host.reduceAdd (Host.divf (mulf (shapeCast _ (Host.reduceAdd (mulf a0 (mulf (mulf (broadcastInDim S16384x1024 ![] bcast_S_S16384x1024 (constant S_ .f32 0x3F000000#32)) a2) (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast _ (Host.reduceAdd (mulf a0 (mulf (mulf (broadcastInDim S16384x1024 ![] bcast_S_S16384x1024 (constant S_ .f32 0x3F000000#32)) a2) (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) a0)) bitsLt_bf16_f32

/-- What each row adds to the reference's gradient number 1. -/
def termR1 (a0 : FVec Ideal S16384x1024 .f32) (a1 : FVec Ideal S1x1024 .f32) (a2 : FVec Ideal S16384x1024 .f32) : FVec Ideal S16384x1024 .f32 :=
  (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf (broadcastInDim S16384x1024 ![] bcast_S_S16384x1024 (constant S_ .f32 0x3F000000#32)) a2))

/-- The reference's gradient number 1: the sum over the rows. -/
def sumR1 (a0 : FVec Ideal S16384x1024 .f32) (a1 : FVec Ideal S1x1024 .f32) (a2 : FVec Ideal S16384x1024 .f32) : FVec Ideal S1x1024 .f32 :=
  shapeCast _ (Host.reduceAdd (termR1 a0 a1 a2) (constant S_ .f32 0x00000000#32) reducesTo_S16384x1024_S1024_d0 h_S_) shapeCasts_S1024_S1x1024

/-- An entry of it. -/
theorem sumR1_at (a0 : FVec Ideal S16384x1024 .f32) (a1 : FVec Ideal S1x1024 .f32) (a2 : FVec Ideal S16384x1024 .f32) (j) : sumR1 a0 a1 a2 j = ∑ r : Fin 16384, termR1 a0 a1 a2 (ix2 r (j 1)) := by
  pointwise [sumR1]

end Cert.Reference30Ideal.Value

namespace Cert.Kernel30Ideal.Value

open Cert.Kernel30Ideal Cert.Kernel30Ideal.Gen
open Cert.Reference30Ideal.Value

/-- Row `a` of the 256 rows of a point. -/
abbrev rowOf (t : Fin cfg0.N) (a : Fin 256) : Fin 16384 := ⟨t.val * 256 + a, by have : t.val < 64 := t.isLt; omega⟩

/-- At the first point: the rows written are the reference's. -/
theorem row0_A (c : Dev nD) (t : Fin cfg0.N) (h0 h1) (x0 : Vec Ideal S256x1024 .f32) (x1 : Vec Ideal S1x1024 .f32) (x2 : Vec Ideal S256x1024 .f32) (a0 : FVec Ideal S16384x1024 .f32) (a1 : FVec Ideal S1x1024 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_A_3 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2) y = rowR0 a0 a1 a2 (ix2 (rowOf t (y 0)) (y 1)) := by
  frame_out
  open_payloads
  pointwise [rowR0]
  simp only [e0, e1, e2, Ideal.logistic]
  try rfl

/-- At a later point: the rows written are the reference's. -/
theorem row0_B (c : Dev nD) (t : Fin cfg0.N) (h0 h1) (x0 : Vec Ideal S256x1024 .f32) (x1 : Vec Ideal S1x1024 .f32) (x2 : Vec Ideal S256x1024 .f32) (p1 : Vec Ideal S1x1024 .f32) (a0 : FVec Ideal S16384x1024 .f32) (a1 : FVec Ideal S1x1024 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_B_3 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2 p1) y = rowR0 a0 a1 a2 (ix2 (rowOf t (y 0)) (y 1)) := by
  frame_out
  open_payloads
  pointwise [rowR0]
  simp only [e0, e1, e2, Ideal.logistic]
  try rfl

/-- At the first point: the sum over its rows. -/
theorem sum1_A (c : Dev nD) (t : Fin cfg0.N) (h0 h1) (x0 : Vec Ideal S256x1024 .f32) (x1 : Vec Ideal S1x1024 .f32) (x2 : Vec Ideal S256x1024 .f32) (a0 : FVec Ideal S16384x1024 .f32) (a1 : FVec Ideal S1x1024 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_A_4 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2) y = ∑ r : Fin 256, termR1 a0 a1 a2 (ix2 (rowOf t r) (y 1)) := by
  frame_out
  open_payloads
  pointwise [termR1]
  simp only [e0, e1, e2, Ideal.logistic]
  try rfl

/-- At a later point: the sum over its rows. -/
theorem sum1_B (c : Dev nD) (t : Fin cfg0.N) (h0 h1) (x0 : Vec Ideal S256x1024 .f32) (x1 : Vec Ideal S1x1024 .f32) (x2 : Vec Ideal S256x1024 .f32) (p1 : Vec Ideal S1x1024 .f32) (a0 : FVec Ideal S16384x1024 .f32) (a1 : FVec Ideal S1x1024 .f32) (a2 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (y) :
    (out0_B_4 (F := Ideal) c (grid0.coords t) (ms0_0 t) (hs0_0 t) (ms0_1 t) (hs0_1 t) (ms0_2 t) (hs0_2 t) (ms0_3 t) (hs0_3 t) (ms0_4 t) (hs0_4 t)
      h0 h1 x0 x1 x2 p1) y = p1 y + ∑ r : Fin 256, termR1 a0 a1 a2 (ix2 (rowOf t r) (y 1)) := by
  frame_out
  open_payloads
  pointwise [termR1]
  simp only [e0, e1, e2, Ideal.logistic]
  try rfl

/-- Point `t` takes rows `256 t` to `256 t + 255`, and the parameters whole. -/
theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

attribute [local irreducible] out0_A_3 out0_A_4 out0_B_3 out0_B_4 rowR0 termR1

variable (m : (ℓ : Loc nD τ sig) → Buf (Elt Ideal) ℓ) (c : Dev nD) (t : Fin cfg0.N)

/-- The rows of argument 0 a point takes. -/
theorem blk0 (y : S256x1024.Idx) : iblk m c 0 t y = m ((c : Thread nD τ).loc main_arg0) (ix2 (rowOf t (y 0)) (y 1)) := by
  blk_point [iblk, V, idx t, rowOf]

/-- Argument 1, whole at each point. -/
theorem blk1 (y : S1x1024.Idx) : iblk m c 1 t y = m ((c : Thread nD τ).loc main_arg1) y := by
  blk_point [iblk, V, idx t]

/-- The rows of argument 2 a point takes. -/
theorem blk2 (y : S256x1024.Idx) : iblk m c 2 t y = m ((c : Thread nD τ).loc main_arg2) (ix2 (rowOf t (y 0)) (y 1)) := by
  blk_point [iblk, V, idx t, rowOf]

/-- Sixty-four chunks of 256 rows are all the rows. -/
theorem sum_chunks (f : Fin 16384 → EReal) : ∑ s : Fin 64, ∑ r : Fin 256, f ⟨s.val * 256 + r.val, by omega⟩ = ∑ k, f k := by
  rw [← (finProdFinEquiv (m := 64) (n := 256)).sum_comp f, Fintype.sum_prod_type]
  refine Finset.sum_congr rfl fun s _ => Finset.sum_congr rfl fun r _ => congrArg f (Fin.ext ?_)
  show s.val * 256 + r.val = r.val + 256 * s.val
  omega

/-- Where the rows of result 0 lie. -/
theorem emb3 (y : S256x1024.Idx) : (win0_3.blk t).view.emb y = ix2 (rowOf t (y 0)) (y 1) := by
  blk_ext [idx t, rowOf]

/-- The rows a point leaves in result 0. -/
theorem at3 (y : S256x1024.Idx) : (outsAt0 m c t.val t.isLt).1 y = rowR0 (m ((c : Thread nD τ).loc main_arg0)) (m ((c : Thread nD τ).loc main_arg1)) (m ((c : Thread nD τ).loc main_arg2)) (ix2 (rowOf t (y 0)) (y 1)) := by
  have : t.val < 64 := t.isLt
  by_cases h : t.val % 64 = 0
  · rw [outsAt0_A m c t (by omega) (by omega)]
    dsimp only
    exact row0_A c t _ _ (iblk m c 0 t) (iblk m c 1 t) (iblk m c 2 t) (m ((c : Thread nD τ).loc main_arg0)) (m ((c : Thread nD τ).loc main_arg1)) (m ((c : Thread nD τ).loc main_arg2)) (blk0 m c t) (blk1 m c t) (blk2 m c t) y
  · rw [outsAt0_B m c t (by omega) (by omega)]
    dsimp only
    exact row0_B c t _ _ (iblk m c 0 t) (iblk m c 1 t) (iblk m c 2 t) _ (m ((c : Thread nD τ).loc main_arg0)) (m ((c : Thread nD τ).loc main_arg1)) (m ((c : Thread nD τ).loc main_arg2)) (blk0 m c t) (blk1 m c t) (blk2 m c t) y

/-- Result 0 of the call is the reference's. -/
theorem final3 : (dats m 0 c).arrAt 3 (cfgs 0).N = rowR0 (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  exact (at3 m c t y).trans (congrArg _ (emb3 t y).symm)

/-- Result 1 is one block. -/
theorem emb4 (y : S1x1024.Idx) : (win0_4.blk t).view.emb y = ix2 0 (y 1) := by
  blk_ext [idx t]

/-- The first point starts the sum of result 1. -/
theorem first4 (h : t.val % 64 = 0) (y : S1x1024.Idx) : (outsAt0 m c t.val t.isLt).2 y = ∑ r : Fin 256, termR1 (m ((c : Thread nD τ).loc main_arg0)) (m ((c : Thread nD τ).loc main_arg1)) (m ((c : Thread nD τ).loc main_arg2)) (ix2 (rowOf t r) (y 1)) := by
  have : t.val < 64 := t.isLt
  rw [outsAt0_A m c t (by omega) (by omega)]
  dsimp only
  exact sum1_A c t _ _ (iblk m c 0 t) (iblk m c 1 t) (iblk m c 2 t) (m ((c : Thread nD τ).loc main_arg0)) (m ((c : Thread nD τ).loc main_arg1)) (m ((c : Thread nD τ).loc main_arg2)) (blk0 m c t) (blk1 m c t) (blk2 m c t) y

/-- Each later point adds to it. -/
theorem later4 (h : ¬t.val % 64 = 0) (y : S1x1024.Idx) : (outsAt0 m c t.val t.isLt).2 y
    = (outsAt0 m c (t.val - 1) (Nat.lt_of_le_of_lt (Nat.sub_le _ _) t.isLt)).2 y + ∑ r : Fin 256, termR1 (m ((c : Thread nD τ).loc main_arg0)) (m ((c : Thread nD τ).loc main_arg1)) (m ((c : Thread nD τ).loc main_arg2)) (ix2 (rowOf t r) (y 1)) := by
  have : t.val < 64 := t.isLt
  rw [outsAt0_B m c t (by omega) (by omega)]
  dsimp only
  exact sum1_B c t _ _ (iblk m c 0 t) (iblk m c 1 t) (iblk m c 2 t) _ (m ((c : Thread nD τ).loc main_arg0)) (m ((c : Thread nD τ).loc main_arg1)) (m ((c : Thread nD τ).loc main_arg2)) (blk0 m c t) (blk1 m c t) (blk2 m c t) y

/-- Result 1 of the call is the reference's. -/
theorem final4 : (dats m 0 c).arrAt 4 (cfgs 0).N = sumR1 (m ((c : Thread nD τ).loc main_arg0)) (m ((c : Thread nD τ).loc main_arg1)) (m ((c : Thread nD τ).loc main_arg2)) := by
  refine (dats m 0 c).arrAt_eq_of_covers 4 _ (by decide +kernel) fun t hf y => ?_
  rw [after0_4]
  have h63 : t.val % 64 = 63 := (flush0_4 t).mp hf
  refine Eq.trans ?_ (congrArg _ (emb4 t y).symm)
  refine (Pipeline.eq_sum_fin_of_reset_step_apply_of_flush (fun n h => (outsAt0 m c n h).2) 64 (fun _ => 0)
    (fun t y => ∑ r : Fin 256, termR1 (m ((c : Thread nD τ).loc main_arg0)) (m ((c : Thread nD τ).loc main_arg1)) (m ((c : Thread nD τ).loc main_arg2)) (ix2 (rowOf t r) (y 1)))
    (fun t h j => by rw [zero_add]; exact first4 m c t h j) (fun t h j => later4 m c t h j) t h63 y).trans ?_
  rw [zero_add]
  refine Eq.trans ?_ (sumR1_at _ _ _ (ix2 0 (y 1))).symm
  refine Eq.trans ?_ (sum_chunks _)
  refine Finset.sum_congr rfl fun s _ => Finset.sum_congr rfl fun r _ => ?_
  have ht : t.val < 64 := t.isLt
  exact congrArg (fun k => termR1 (m ((c : Thread nD τ).loc main_arg0)) (m ((c : Thread nD τ).loc main_arg1)) (m ((c : Thread nD τ).loc main_arg2)) (ix2 k (y 1))) (Fin.ext (congrArg (· * 256 + r.val) (show 64 * (t.val / 64) + s.val = s.val by omega)))

end Cert.Kernel30Ideal.Value
-- ==== Proof.Rows31.lean ====
module

public import proofs.«01_k».proof.Proof.Gen.Kernel31Ideal.Value
public import proofs.«01_k».proof.Proof.Gen.Reference31Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference31Ideal.Value

open Cert.Reference31Ideal Cert.Reference31Ideal.Gen

/-- The reference's gradient number 0, one row for each row of the input. -/
def rowR0 (a0 : FVec Ideal S16384x1024 .f32) (a1 : FVec Ideal S1x1024 .f32) (a2 : FVec Ideal S1x1024 .f32) (a3 : FVec Ideal S16384x1024 .f32) : FVec Ideal S16384x1024 .bf16 :=
  truncf .bf16 (addf (addf (mulf (mulf a3 (broadcastInDim S16384x1024 ![0, 1] bcast_S1x1024_S16384x1024_0_1 a1)) (broadcastInDim S16384x1024 ![0, 1] bcast_S16384x1_S16384x1024_0_1 (Host.rsqrt (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf (addf a0 (broadcastInDim S16384x1024 ![0, 1] bcast_S1x1024_S16384x1024_0_1 a2)) (broadcastInDim S16384x1024 ![0] bcast_S16384_S16384x1024_0 (Host.reduceAdd (Host.divf (mulf (shapeCast _ (Host.reduceAdd (mulf (addf a0 (broadcastInDim S16384x1024 ![0, 1] bcast_S1x1024_S16384x1024_0_1 a2)) (mulf a3 (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast _ (Host.reduceAdd (mulf (addf a0 (broadcastInDim S16384x1024 ![0, 1] bcast_S1x1024_S16384x1024_0_1 a2)) (mulf a3 (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) (addf a0 (broadcastInDim S16384x1024 ![0, 1] bcast_S1x1024_S16384x1024_0_1 a2)))) bitsLt_bf16_f32

/-- What each row adds to the reference's gradient number 1. -/
def termR1 (a0 : FVec Ideal S16384x1024 .f32) (a1 : FVec Ideal S1x1024 .f32) (a2 : FVec Ideal S1x1024 .f32) (a3 : FVec Ideal S16384x1024 .f32) : FVec Ideal S16384x1024 .f32 :=
  (mulf (mulf (addf a0 (broadcastInDim S16384x1024 ![0, 1] bcast_S1x1024_S16384x1024_0_1 a2)) (broadcastInDim S16384x1024 ![0, 1] bcast_S16384x1_S16384x1024_0_1 (Host.rsqrt (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) a3)

/-- The reference's gradient number 1: the sum over the rows. -/
def sumR1 (a0 : FVec Ideal S16384x1024 .f32) (a1 : FVec Ideal S1x1024 .f32) (a2 : FVec Ideal S1x1024 .f32) (a3 : FVec Ideal S16384x1024 .f32) : FVec Ideal S1x1024 .f32 :=
  shapeCast _ (Host.reduceAdd (termR1 a0 a1 a2 a3) (constant S_ .f32 0x00000000#32) reducesTo_S16384x1024_S1024_d0 h_S_) shapeCasts_S1024_S1x1024

/-- An entry of it. -/
theorem sumR1_at (a0 : FVec Ideal S16384x1024 .f32) (a1 : FVec Ideal S1x1024 .f32) (a2 : FVec Ideal S1x1024 .f32) (a3 : FVec Ideal S16384x1024 .f32) (j) : sumR1 a0 a1 a2 a3 j = ∑ r : Fin 16384, termR1 a0 a1 a2 a3 (ix2 r (j 1)) := by
  pointwise [sumR1]

/-- What each row adds to the reference's gradient number 2. -/
def termR2 (a0 : FVec Ideal S16384x1024 .f32) (a1 : FVec Ideal S1x1024 .f32) (a2 : FVec Ideal S1x1024 .f32) (a3 : FVec Ideal S16384x1024 .f32) : FVec Ideal S16384x1024 .f32 :=
  (addf (addf (mulf (mulf a3 (broadcastInDim S16384x1024 ![0, 1] bcast_S1x1024_S16384x1024_0_1 a1)) (broadcastInDim S16384x1024 ![0, 1] bcast_S16384x1_S16384x1024_0_1 (Host.rsqrt (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf (addf a0 (broadcastInDim S16384x1024 ![0, 1] bcast_S1x1024_S16384x1024_0_1 a2)) (broadcastInDim S16384x1024 ![0] bcast_S16384_S16384x1024_0 (Host.reduceAdd (Host.divf (mulf (shapeCast _ (Host.reduceAdd (mulf (addf a0 (broadcastInDim S16384x1024 ![0, 1] bcast_S1x1024_S16384x1024_0_1 a2)) (mulf a3 (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast _ (Host.reduceAdd (mulf (addf a0 (broadcastInDim S16384x1024 ![0, 1] bcast_S1x1024_S16384x1024_0_1 a2)) (mulf a3 (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf (addf a0 (broadcastInDim S16384x1024 ![0, 1] bcast_S1x1024_S16384x1024_0_1 a2)) (addf a0 (broadcastInDim S16384x1024 ![0, 1] bcast_S1x1024_S16384x1024_0_1 a2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) (addf a0 (broadcastInDim S16384x1024 ![0, 1] bcast_S1x1024_S16384x1024_0_1 a2))))

/-- The reference's gradient number 2: the sum over the rows. -/
def sumR2 (a0 : FVec Ideal S16384x1024 .f32) (a1 : FVec Ideal S1x1024 .f32) (a2 : FVec Ideal S1x1024 .f32) (a3 : FVec Ideal S16384x1024 .f32) : FVec Ideal S1x1024 .f32 :=
  shapeCast _ (Host.reduceAdd (termR2 a0 a1 a2 a3) (constant S_ .f32 0x00000000#32) reducesTo_S16384x1024_S1024_d0 h_S_) shapeCasts_S1024_S1x1024

/-- An entry of it. -/
theorem sumR2_at (a0 : FVec Ideal S16384x1024 .f32) (a1 : FVec Ideal S1x1024 .f32) (a2 : FVec Ideal S1x1024 .f32) (a3 : FVec Ideal S16384x1024 .f32) (j) : sumR2 a0 a1 a2 a3 j = ∑ r : Fin 16384, termR2 a0 a1 a2 a3 (ix2 r (j 1)) := by
  pointwise [sumR2]

end Cert.Reference31Ideal.Value

namespace Cert.Kernel31Ideal.Value

open Cert.Kernel31Ideal Cert.Kernel31Ideal.Gen
open Cert.Reference31Ideal.Value

/-- Row `a` of the 256 rows of a point. -/
abbrev rowOf (t : Fin cfg0.N) (a : Fin 256) : Fin 16384 := ⟨t.val * 256 + a, by have : t.val < 64 := t.isLt; omega⟩

/-- At the first point: the rows written are the reference's. -/
theorem row0_A (c : Dev nD) (t : Fin cfg0.N) (h0 h1 h2 h3) (x0 : Vec Ideal S256x1024 .f32) (x1 : Vec Ideal S1x1024 .f32) (x2 : Vec Ideal S1x1024 .f32) (x3 : Vec Ideal S256x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3) y = rowR0 a0 a1 a2 a3 (ix2 (rowOf t (y 0)) (y 1)) := by
  frame_out
  open_payloads
  pointwise [rowR0]
  simp only [e0, e1, e2, e3, Ideal.logistic]
  try rfl

/-- At a later point: the rows written are the reference's. -/
theorem row0_B (c : Dev nD) (t : Fin cfg0.N) (h0 h1 h2 h3) (x0 : Vec Ideal S256x1024 .f32) (x1 : Vec Ideal S1x1024 .f32) (x2 : Vec Ideal S1x1024 .f32) (x3 : Vec Ideal S256x1024 .f32) (p1 : Vec Ideal S1x1024 .f32) (p2 : Vec Ideal S1x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3 p1 p2) y = rowR0 a0 a1 a2 a3 (ix2 (rowOf t (y 0)) (y 1)) := by
  frame_out
  open_payloads
  pointwise [rowR0]
  simp only [e0, e1, e2, e3, Ideal.logistic]
  try rfl

/-- At the first point: the sum over its rows. -/
theorem sum1_A (c : Dev nD) (t : Fin cfg0.N) (h0 h1 h2 h3) (x0 : Vec Ideal S256x1024 .f32) (x1 : Vec Ideal S1x1024 .f32) (x2 : Vec Ideal S1x1024 .f32) (x3 : Vec Ideal S256x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3) y = ∑ r : Fin 256, termR1 a0 a1 a2 a3 (ix2 (rowOf t r) (y 1)) := by
  frame_out
  open_payloads
  pointwise [termR1]
  simp only [e0, e1, e2, e3, Ideal.logistic]
  try rfl

/-- At a later point: the sum over its rows. -/
theorem sum1_B (c : Dev nD) (t : Fin cfg0.N) (h0 h1 h2 h3) (x0 : Vec Ideal S256x1024 .f32) (x1 : Vec Ideal S1x1024 .f32) (x2 : Vec Ideal S1x1024 .f32) (x3 : Vec Ideal S256x1024 .f32) (p1 : Vec Ideal S1x1024 .f32) (p2 : Vec Ideal S1x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3 p1 p2) y = p1 y + ∑ r : Fin 256, termR1 a0 a1 a2 a3 (ix2 (rowOf t r) (y 1)) := by
  frame_out
  open_payloads
  pointwise [termR1]
  simp only [e0, e1, e2, e3, Ideal.logistic]
  try rfl

/-- At the first point: the sum over its rows. -/
theorem sum2_A (c : Dev nD) (t : Fin cfg0.N) (h0 h1 h2 h3) (x0 : Vec Ideal S256x1024 .f32) (x1 : Vec Ideal S1x1024 .f32) (x2 : Vec Ideal S1x1024 .f32) (x3 : Vec Ideal S256x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3) y = ∑ r : Fin 256, termR2 a0 a1 a2 a3 (ix2 (rowOf t r) (y 1)) := by
  frame_out
  open_payloads
  pointwise [termR2]
  simp only [e0, e1, e2, e3, Ideal.logistic]
  try rfl

/-- At a later point: the sum over its rows. -/
theorem sum2_B (c : Dev nD) (t : Fin cfg0.N) (h0 h1 h2 h3) (x0 : Vec Ideal S256x1024 .f32) (x1 : Vec Ideal S1x1024 .f32) (x2 : Vec Ideal S1x1024 .f32) (x3 : Vec Ideal S256x1024 .f32) (p1 : Vec Ideal S1x1024 .f32) (p2 : Vec Ideal S1x1024 .f32) (a0 : FVec Ideal S16384x1024 .f32) (a1 : FVec Ideal S1x1024 .f32) (a2 : FVec Ideal S1x1024 .f32) (a3 : FVec Ideal S16384x1024 .f32) (e0 : ∀ y, x0 y = a0 (ix2 (rowOf t (y 0)) (y 1))) (e1 : ∀ y, x1 y = a1 y) (e2 : ∀ y, x2 y = a2 y) (e3 : ∀ y, x3 y = a3 (ix2 (rowOf t (y 0)) (y 1))) (y) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      h0 h1 h2 h3 x0 x1 x2 x3 p1 p2) y = p2 y + ∑ r : Fin 256, termR2 a0 a1 a2 a3 (ix2 (rowOf t r) (y 1)) := by
  frame_out
  open_payloads
  pointwise [termR2]
  simp only [e0, e1, e2, e3, Ideal.logistic]
  try rfl

/-- Point `t` takes rows `256 t` to `256 t + 255`, and the parameters whole. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

attribute [local irreducible] out0_A_4 out0_A_5 out0_A_6 out0_B_4 out0_B_5 out0_B_6 rowR0 termR1 termR2

variable (m : (ℓ : Loc nD τ sig) → Buf (Elt Ideal) ℓ) (c : Dev nD) (t : Fin cfg0.N)

/-- The rows of argument 0 a point takes. -/
theorem blk0 (y : S256x1024.Idx) : iblk m c 0 t y = m ((c : Thread nD τ).loc main_arg0) (ix2 (rowOf t (y 0)) (y 1)) := by
  blk_point [iblk, V, idx t, rowOf]

/-- Argument 1, whole at each point. -/
theorem blk1 (y : S1x1024.Idx) : iblk m c 1 t y = m ((c : Thread nD τ).loc main_arg1) y := by
  blk_point [iblk, V, idx t]

/-- Argument 2, whole at each point. -/
theorem blk2 (y : S1x1024.Idx) : iblk m c 2 t y = m ((c : Thread nD τ).loc main_arg2) y := by
  blk_point [iblk, V, idx t]

/-- The rows of argument 3 a point takes. -/
theorem blk3 (y : S256x1024.Idx) : iblk m c 3 t y = m ((c : Thread nD τ).loc main_arg3) (ix2 (rowOf t (y 0)) (y 1)) := by
  blk_point [iblk, V, idx t, rowOf]

/-- Sixty-four chunks of 256 rows are all the rows. -/
theorem sum_chunks (f : Fin 16384 → EReal) : ∑ s : Fin 64, ∑ r : Fin 256, f ⟨s.val * 256 + r.val, by omega⟩ = ∑ k, f k := by
  rw [← (finProdFinEquiv (m := 64) (n := 256)).sum_comp f, Fintype.sum_prod_type]
  refine Finset.sum_congr rfl fun s _ => Finset.sum_congr rfl fun r _ => congrArg f (Fin.ext ?_)
  show s.val * 256 + r.val = r.val + 256 * s.val
  omega

/-- Where the rows of result 0 lie. -/
theorem emb4 (y : S256x1024.Idx) : (win0_4.blk t).view.emb y = ix2 (rowOf t (y 0)) (y 1) := by
  blk_ext [idx t, rowOf]

/-- The rows a point leaves in result 0. -/
theorem at4 (y : S256x1024.Idx) : (outsAt0 m c t.val t.isLt).1 y = rowR0 (m ((c : Thread nD τ).loc main_arg0)) (m ((c : Thread nD τ).loc main_arg1)) (m ((c : Thread nD τ).loc main_arg2)) (m ((c : Thread nD τ).loc main_arg3)) (ix2 (rowOf t (y 0)) (y 1)) := by
  have : t.val < 64 := t.isLt
  by_cases h : t.val % 64 = 0
  · rw [outsAt0_A m c t (by omega) (by omega) (by omega) (by omega)]
    dsimp only
    exact row0_A c t _ _ _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y
  · rw [outsAt0_B m c t (by omega) (by omega) (by omega) (by omega)]
    dsimp only
    exact row0_B c t _ _ _ _ (iblk m c 0 t) (iblk m c 1 t) (iblk m c 2 t) (iblk m c 3 t) _ _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 0 of the call is the reference's. -/
theorem final4 : (dats m 0 c).arrAt 4 (cfgs 0).N = rowR0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  exact (at4 m c t y).trans (congrArg _ (emb4 t y).symm)

/-- Result 1 is one block. -/
theorem emb5 (y : S1x1024.Idx) : (win0_5.blk t).view.emb y = ix2 0 (y 1) := by
  blk_ext [idx t]

/-- The first point starts the sum of result 1. -/
theorem first5 (h : t.val % 64 = 0) (y : S1x1024.Idx) : (outsAt0 m c t.val t.isLt).2.1 y = ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_A m c t (by omega) (by omega) (by omega) (by omega)]
  dsimp only
  exact sum1_A c t _ _ _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Each later point adds to it. -/
theorem later5 (h : ¬t.val % 64 = 0) (y : S1x1024.Idx) : (outsAt0 m c t.val t.isLt).2.1 y
    = (outsAt0 m c (t.val - 1) (Nat.lt_of_le_of_lt (Nat.sub_le _ _) t.isLt)).2.1 y + ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_B m c t (by omega) (by omega) (by omega) (by omega)]
  dsimp only
  exact sum1_B c t _ _ _ _ (iblk m c 0 t) (iblk m c 1 t) (iblk m c 2 t) (iblk m c 3 t) _ _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 1 of the call is the reference's. -/
theorem final5 : (dats m 0 c).arrAt 5 (cfgs 0).N = sumR1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  rw [after0_5]
  have h63 : t.val % 64 = 63 := (flush0_5 t).mp hf
  refine Eq.trans ?_ (congrArg _ (emb5 t y).symm)
  refine (Pipeline.eq_sum_fin_of_reset_step_apply_of_flush (fun n h => (outsAt0 m c n h).2.1) 64 (fun _ => 0)
    (fun t y => ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)))
    (fun t h j => by rw [zero_add]; exact first5 m c t h j) (fun t h j => later5 m c t h j) t h63 y).trans ?_
  rw [zero_add]
  refine Eq.trans ?_ (sumR1_at _ _ _ _ (ix2 0 (y 1))).symm
  refine Eq.trans ?_ (sum_chunks _)
  refine Finset.sum_congr rfl fun s _ => Finset.sum_congr rfl fun r _ => ?_
  have ht : t.val < 64 := t.isLt
  exact congrArg (fun k => termR1 (m ((c : Thread nD τ).loc main_arg0)) (m ((c : Thread nD τ).loc main_arg1)) (m ((c : Thread nD τ).loc main_arg2)) (m ((c : Thread nD τ).loc main_arg3)) (ix2 k (y 1))) (Fin.ext (congrArg (· * 256 + r.val) (show 64 * (t.val / 64) + s.val = s.val by omega)))

/-- Result 2 is one block. -/
theorem emb6 (y : S1x1024.Idx) : (win0_6.blk t).view.emb y = ix2 0 (y 1) := by
  blk_ext [idx t]

/-- The first point starts the sum of result 2. -/
theorem first6 (h : t.val % 64 = 0) (y : S1x1024.Idx) : (outsAt0 m c t.val t.isLt).2.2 y = ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_A m c t (by omega) (by omega) (by omega) (by omega)]
  dsimp only
  exact sum2_A c t _ _ _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Each later point adds to it. -/
theorem later6 (h : ¬t.val % 64 = 0) (y : S1x1024.Idx) : (outsAt0 m c t.val t.isLt).2.2 y
    = (outsAt0 m c (t.val - 1) (Nat.lt_of_le_of_lt (Nat.sub_le _ _) t.isLt)).2.2 y + ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_B m c t (by omega) (by omega) (by omega) (by omega)]
  dsimp only
  exact sum2_B c t _ _ _ _ (iblk m c 0 t) (iblk m c 1 t) (iblk m c 2 t) (iblk m c 3 t) _ _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 2 of the call is the reference's. -/
theorem final6 : (dats m 0 c).arrAt 6 (cfgs 0).N = sumR2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  rw [after0_6]
  have h63 : t.val % 64 = 63 := (flush0_6 t).mp hf
  refine Eq.trans ?_ (congrArg _ (emb6 t y).symm)
  refine (Pipeline.eq_sum_fin_of_reset_step_apply_of_flush (fun n h => (outsAt0 m c n h).2.2) 64 (fun _ => 0)
    (fun t y => ∑ r : Fin 256, termR2 (m ((c : Thread nD τ).loc main_arg0)) (m ((c : Thread nD τ).loc main_arg1)) (m ((c : Thread nD τ).loc main_arg2)) (m ((c : Thread nD τ).loc main_arg3)) (ix2 (rowOf t r) (y 1)))
    (fun t h j => by rw [zero_add]; exact first6 m c t h j) (fun t h j => later6 m c t h j) t h63 y).trans ?_
  rw [zero_add]
  refine Eq.trans ?_ (sumR2_at _ _ _ _ (ix2 0 (y 1))).symm
  refine Eq.trans ?_ (sum_chunks _)
  refine Finset.sum_congr rfl fun s _ => Finset.sum_congr rfl fun r _ => ?_
  have ht : t.val < 64 := t.isLt
  exact congrArg (fun k => termR2 (m ((c : Thread nD τ).loc main_arg0)) (m ((c : Thread nD τ).loc main_arg1)) (m ((c : Thread nD τ).loc main_arg2)) (m ((c : Thread nD τ).loc main_arg3)) (ix2 k (y 1))) (Fin.ext (congrArg (· * 256 + r.val) (show 64 * (t.val / 64) + s.val = s.val by omega)))

end Cert.Kernel31Ideal.Value
-- ==== Proof.Rows32.lean ====
module

public import proofs.«01_k».proof.Proof.Gen.Kernel32Ideal.Value
public import proofs.«01_k».proof.Proof.Gen.Reference32Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference32Ideal.Value

open Cert.Reference32Ideal Cert.Reference32Ideal.Gen

/-- The reference's gradient number 0, one row for each row of the input. -/
def rowR0 (a0 : FVec Ideal S16384x1024 .f32) (a1 : FVec Ideal S1x1024 .f32) (a2 : FVec Ideal S16384x1024 .f32) (a3 : FVec Ideal S16384x1024 .f32) : FVec Ideal S16384x1024 .f32 :=
  addf (addf (addf a3 (mulf (mulf a2 (broadcastInDim S16384x1024 ![0, 1] bcast_S1x1024_S16384x1024_0_1 a1)) (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))) (mulf a0 (broadcastInDim S16384x1024 ![0] bcast_S16384_S16384x1024_0 (Host.reduceAdd (Host.divf (mulf (shapeCast _ (Host.reduceAdd (mulf a0 (mulf a2 (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast _ (Host.reduceAdd (mulf a0 (mulf a2 (broadcastInDim S16384x1024 ![0, 1] bcast_S1x1024_S16384x1024_0_1 a1))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) a0)

/-- What each row adds to the reference's gradient number 1. -/
def termR1 (a0 : FVec Ideal S16384x1024 .f32) (a1 : FVec Ideal S1x1024 .f32) (a2 : FVec Ideal S16384x1024 .f32) (a3 : FVec Ideal S16384x1024 .f32) : FVec Ideal S16384x1024 .f32 :=
  (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) a2)

/-- The reference's gradient number 1: the sum over the rows. -/
def sumR1 (a0 : FVec Ideal S16384x1024 .f32) (a1 : FVec Ideal S1x1024 .f32) (a2 : FVec Ideal S16384x1024 .f32) (a3 : FVec Ideal S16384x1024 .f32) : FVec Ideal S1x1024 .f32 :=
  shapeCast _ (Host.reduceAdd (termR1 a0 a1 a2 a3) (constant S_ .f32 0x00000000#32) reducesTo_S16384x1024_S1024_d0 h_S_) shapeCasts_S1024_S1x1024

/-- An entry of it. -/
theorem sumR1_at (a0 : FVec Ideal S16384x1024 .f32) (a1 : FVec Ideal S1x1024 .f32) (a2 : FVec Ideal S16384x1024 .f32) (a3 : FVec Ideal S16384x1024 .f32) (j) : sumR1 a0 a1 a2 a3 j = ∑ r : Fin 16384, termR1 a0 a1 a2 a3 (ix2 r (j 1)) := by
  pointwise [sumR1]

end Cert.Reference32Ideal.Value

namespace Cert.Kernel32Ideal.Value

open Cert.Kernel32Ideal Cert.Kernel32Ideal.Gen
open Cert.Reference32Ideal.Value

/-- The last of four summands may come first. -/
theorem last_first (a b d e : EReal) : a + b + d + e = e + a + b + d := by
  rw [add_comm _ e, ← add_assoc, ← add_assoc]

/-- Row `a` of the 256 rows of a point. -/
abbrev rowOf (t : Fin cfg0.N) (a : Fin 256) : Fin 16384 := ⟨t.val * 256 + a, by have : t.val < 64 := t.isLt; omega⟩

/-- At the first point: the rows written are the reference's. -/
theorem row0_A (c : Dev nD) (t : Fin cfg0.N) (h0 h1) (x0 : Vec Ideal S256x1024 .f32) (x1 : Vec Ideal S1x1024 .f32) (x2 : Vec Ideal S256x1024 .f32) (x3 : Vec Ideal S256x1024 .f32) (a0 : FVec Ideal S16384x1024 .f32) (a1 : FVec Ideal S1x1024 .f32) (a2 : FVec Ideal S16384x1024 .f32) (a3 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (e3 : ∀ y, x3 y = a3 (ix2 (rowOf t (y 0)) (y 1))) (y) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      h0 h1 x0 x1 x2 x3) y = rowR0 a0 a1 a2 a3 (ix2 (rowOf t (y 0)) (y 1)) := by
  frame_out
  open_payloads
  pointwise [rowR0]
  simp only [e0, e1, e2, e3, Ideal.logistic]
  exact last_first _ _ _ _

/-- At a later point: the rows written are the reference's. -/
theorem row0_B (c : Dev nD) (t : Fin cfg0.N) (h0 h1) (x0 : Vec Ideal S256x1024 .f32) (x1 : Vec Ideal S1x1024 .f32) (x2 : Vec Ideal S256x1024 .f32) (x3 : Vec Ideal S256x1024 .f32) (p1 : Vec Ideal S1x1024 .f32) (a0 : FVec Ideal S16384x1024 .f32) (a1 : FVec Ideal S1x1024 .f32) (a2 : FVec Ideal S16384x1024 .f32) (a3 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (e3 : ∀ y, x3 y = a3 (ix2 (rowOf t (y 0)) (y 1))) (y) :
    (out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      h0 h1 x0 x1 x2 x3 p1) y = rowR0 a0 a1 a2 a3 (ix2 (rowOf t (y 0)) (y 1)) := by
  frame_out
  open_payloads
  pointwise [rowR0]
  simp only [e0, e1, e2, e3, Ideal.logistic]
  exact last_first _ _ _ _

/-- At the first point: the sum over its rows. -/
theorem sum1_A (c : Dev nD) (t : Fin cfg0.N) (h0 h1) (x0 : Vec Ideal S256x1024 .f32) (x1 : Vec Ideal S1x1024 .f32) (x2 : Vec Ideal S256x1024 .f32) (x3 : Vec Ideal S256x1024 .f32) (a0 : FVec Ideal S16384x1024 .f32) (a1 : FVec Ideal S1x1024 .f32) (a2 : FVec Ideal S16384x1024 .f32) (a3 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (e3 : ∀ y, x3 y = a3 (ix2 (rowOf t (y 0)) (y 1))) (y) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      h0 h1 x0 x1 x2 x3) y = ∑ r : Fin 256, termR1 a0 a1 a2 a3 (ix2 (rowOf t r) (y 1)) := by
  frame_out
  open_payloads
  pointwise [termR1]
  simp only [e0, e1, e2, e3, Ideal.logistic]
  try rfl

/-- At a later point: the sum over its rows. -/
theorem sum1_B (c : Dev nD) (t : Fin cfg0.N) (h0 h1) (x0 : Vec Ideal S256x1024 .f32) (x1 : Vec Ideal S1x1024 .f32) (x2 : Vec Ideal S256x1024 .f32) (x3 : Vec Ideal S256x1024 .f32) (p1 : Vec Ideal S1x1024 .f32) (a0 : FVec Ideal S16384x1024 .f32) (a1 : FVec Ideal S1x1024 .f32) (a2 : FVec Ideal S16384x1024 .f32) (a3 : FVec Ideal S16384x1024 .f32) (e0 : ∀ y, x0 y = a0 (ix2 (rowOf t (y 0)) (y 1))) (e1 : ∀ y, x1 y = a1 y) (e2 : ∀ y, x2 y = a2 (ix2 (rowOf t (y 0)) (y 1))) (e3 : ∀ y, x3 y = a3 (ix2 (rowOf t (y 0)) (y 1))) (y) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      h0 h1 x0 x1 x2 x3 p1) y = p1 y + ∑ r : Fin 256, termR1 a0 a1 a2 a3 (ix2 (rowOf t r) (y 1)) := by
  frame_out
  open_payloads
  pointwise [termR1]
  simp only [e0, e1, e2, e3, Ideal.logistic]
  try rfl

/-- Point `t` takes rows `256 t` to `256 t + 255`, and the parameters whole. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

attribute [local irreducible] out0_A_4 out0_A_5 out0_B_4 out0_B_5 rowR0 termR1

variable (m : (ℓ : Loc nD τ sig) → Buf (Elt Ideal) ℓ) (c : Dev nD) (t : Fin cfg0.N)

/-- The rows of argument 0 a point takes. -/
theorem blk0 (y : S256x1024.Idx) : iblk m c 0 t y = m ((c : Thread nD τ).loc main_arg0) (ix2 (rowOf t (y 0)) (y 1)) := by
  blk_point [iblk, V, idx t, rowOf]

/-- Argument 1, whole at each point. -/
theorem blk1 (y : S1x1024.Idx) : iblk m c 1 t y = m ((c : Thread nD τ).loc main_arg1) y := by
  blk_point [iblk, V, idx t]

/-- The rows of argument 2 a point takes. -/
theorem blk2 (y : S256x1024.Idx) : iblk m c 2 t y = m ((c : Thread nD τ).loc main_arg2) (ix2 (rowOf t (y 0)) (y 1)) := by
  blk_point [iblk, V, idx t, rowOf]

/-- The rows of argument 3 a point takes. -/
theorem blk3 (y : S256x1024.Idx) : iblk m c 3 t y = m ((c : Thread nD τ).loc main_arg3) (ix2 (rowOf t (y 0)) (y 1)) := by
  blk_point [iblk, V, idx t, rowOf]

/-- Sixty-four chunks of 256 rows are all the rows. -/
theorem sum_chunks (f : Fin 16384 → EReal) : ∑ s : Fin 64, ∑ r : Fin 256, f ⟨s.val * 256 + r.val, by omega⟩ = ∑ k, f k := by
  rw [← (finProdFinEquiv (m := 64) (n := 256)).sum_comp f, Fintype.sum_prod_type]
  refine Finset.sum_congr rfl fun s _ => Finset.sum_congr rfl fun r _ => congrArg f (Fin.ext ?_)
  show s.val * 256 + r.val = r.val + 256 * s.val
  omega

/-- Where the rows of result 0 lie. -/
theorem emb4 (y : S256x1024.Idx) : (win0_4.blk t).view.emb y = ix2 (rowOf t (y 0)) (y 1) := by
  blk_ext [idx t, rowOf]

/-- The rows a point leaves in result 0. -/
theorem at4 (y : S256x1024.Idx) : (outsAt0 m c t.val t.isLt).1 y = rowR0 (m ((c : Thread nD τ).loc main_arg0)) (m ((c : Thread nD τ).loc main_arg1)) (m ((c : Thread nD τ).loc main_arg2)) (m ((c : Thread nD τ).loc main_arg3)) (ix2 (rowOf t (y 0)) (y 1)) := by
  have : t.val < 64 := t.isLt
  by_cases h : t.val % 64 = 0
  · rw [outsAt0_A m c t (by omega) (by omega)]
    dsimp only
    exact row0_A c t _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y
  · rw [outsAt0_B m c t (by omega) (by omega)]
    dsimp only
    exact row0_B c t _ _ (iblk m c 0 t) (iblk m c 1 t) (iblk m c 2 t) (iblk m c 3 t) _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 0 of the call is the reference's. -/
theorem final4 : (dats m 0 c).arrAt 4 (cfgs 0).N = rowR0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  exact (at4 m c t y).trans (congrArg _ (emb4 t y).symm)

/-- Result 1 is one block. -/
theorem emb5 (y : S1x1024.Idx) : (win0_5.blk t).view.emb y = ix2 0 (y 1) := by
  blk_ext [idx t]

/-- The first point starts the sum of result 1. -/
theorem first5 (h : t.val % 64 = 0) (y : S1x1024.Idx) : (outsAt0 m c t.val t.isLt).2 y = ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_A m c t (by omega) (by omega)]
  dsimp only
  exact sum1_A c t _ _ (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Each later point adds to it. -/
theorem later5 (h : ¬t.val % 64 = 0) (y : S1x1024.Idx) : (outsAt0 m c t.val t.isLt).2 y
    = (outsAt0 m c (t.val - 1) (Nat.lt_of_le_of_lt (Nat.sub_le _ _) t.isLt)).2 y + ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)) := by
  have : t.val < 64 := t.isLt
  rw [outsAt0_B m c t (by omega) (by omega)]
  dsimp only
  exact sum1_B c t _ _ (iblk m c 0 t) (iblk m c 1 t) (iblk m c 2 t) (iblk m c 3 t) _ (m ((c : Thread nD τ).loc main_arg0)) (m ((c : Thread nD τ).loc main_arg1)) (m ((c : Thread nD τ).loc main_arg2)) (m ((c : Thread nD τ).loc main_arg3)) (blk0 m c t) (blk1 m c t) (blk2 m c t) (blk3 m c t) y

/-- Result 1 of the call is the reference's. -/
theorem final5 : (dats m 0 c).arrAt 5 (cfgs 0).N = sumR1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  rw [after0_5]
  have h63 : t.val % 64 = 63 := (flush0_5 t).mp hf
  refine Eq.trans ?_ (congrArg _ (emb5 t y).symm)
  refine (Pipeline.eq_sum_fin_of_reset_step_apply_of_flush (fun n h => (outsAt0 m c n h).2) 64 (fun _ => 0)
    (fun t y => ∑ r : Fin 256, termR1 (m ((c : Thread nD τ).loc main_arg0)) (m ((c : Thread nD τ).loc main_arg1)) (m ((c : Thread nD τ).loc main_arg2)) (m ((c : Thread nD τ).loc main_arg3)) (ix2 (rowOf t r) (y 1)))
    (fun t h j => by rw [zero_add]; exact first5 m c t h j) (fun t h j => later5 m c t h j) t h63 y).trans ?_
  rw [zero_add]
  refine Eq.trans ?_ (sumR1_at _ _ _ _ (ix2 0 (y 1))).symm
  refine Eq.trans ?_ (sum_chunks _)
  refine Finset.sum_congr rfl fun s _ => Finset.sum_congr rfl fun r _ => ?_
  have ht : t.val < 64 := t.isLt
  exact congrArg (fun k => termR1 (m ((c : Thread nD τ).loc main_arg0)) (m ((c : Thread nD τ).loc main_arg1)) (m ((c : Thread nD τ).loc main_arg2)) (m ((c : Thread nD τ).loc main_arg3)) (ix2 k (y 1))) (Fin.ext (congrArg (· * 256 + r.val) (show 64 * (t.val / 64) + s.val = s.val by omega)))

end Cert.Kernel32Ideal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal.Run
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal.Run
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal.Run
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal.Run
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal.Run
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal
public import proofs.«01_k».proof.Proof.Gen.Pre_finite
public import proofs.«01_k».proof.Proof.Gen.Pre_finite19
public import proofs.«01_k».proof.Proof.GmFinal
public import proofs.«01_k».proof.Proof.Dw3Block
public import proofs.«01_k».proof.Proof.Dw4Block
public import proofs.«01_k».proof.Proof.FfnRun
public import proofs.«01_k».proof.Proof.FfnFinal
public import proofs.«01_k».proof.Proof.Prod5
public import proofs.«01_k».proof.Proof.Dw6
public import proofs.«01_k».proof.Proof.Prod7
public import proofs.«01_k».proof.Proof.Dw8
public import proofs.«01_k».proof.Proof.Prod9
public import proofs.«01_k».proof.Proof.Dw10
public import proofs.«01_k».proof.Proof.Prod11
public import proofs.«01_k».proof.Proof.Dw12
public import proofs.«01_k».proof.Proof.Prod13
public import proofs.«01_k».proof.Proof.Dw14
public import proofs.«01_k».proof.Proof.Prod15
public import proofs.«01_k».proof.Proof.Prod16
public import proofs.«01_k».proof.Proof.Dw17
public import proofs.«01_k».proof.Proof.Bd18
public import proofs.«01_k».proof.Proof.Bd19
public import proofs.«01_k».proof.Proof.Bd20
public import proofs.«01_k».proof.Proof.Bw21
public import proofs.«01_k».proof.Proof.Bd22
public import proofs.«01_k».proof.Proof.Bw23
public import proofs.«01_k».proof.Proof.Gate24
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Reference32Ideal
public import proofs.«01_k».proof.Proof.Rows25
public import proofs.«01_k».proof.Proof.Rows26
public import proofs.«01_k».proof.Proof.Rows27
public import proofs.«01_k».proof.Proof.Rows28
public import proofs.«01_k».proof.Proof.Rows29
public import proofs.«01_k».proof.Proof.Rows30
public import proofs.«01_k».proof.Proof.Rows31
public import proofs.«01_k».proof.Proof.Rows32
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-! ## The references run and keep their arguments -/

theorem referenceFrame : quiescent_ReferenceIdeal := by
  intro m g _
  refine (θ_run _ _ _).mono (fun r h => ⟨fun c => (h c).2.2.2.2, sem_eq_zero_of_no_sems (by decide) r.2⟩)
    (Cert.ReferenceIdeal.Value.run m g)

theorem referenceFrame2 : quiescent_Reference2Ideal := by
  intro m g _
  refine (θ_run _ _ _).mono (fun r h => ⟨fun c => (h c).2.2, sem_eq_zero_of_no_sems (by decide) r.2⟩)
    (Cert.Reference2Ideal.Value.run m g)

theorem referenceFrame3 : quiescent_Reference3Ideal := by
  intro m g _
  refine (θ_run _ _ _).mono (fun r h => ⟨fun c => (h c).2, sem_eq_zero_of_no_sems (by decide) r.2⟩)
    (Cert.Reference3Ideal.Value.run m g)

theorem referenceFrame4 : quiescent_Reference4Ideal := by
  intro m g _
  refine (θ_run _ _ _).mono (fun r h => ⟨fun c => (h c).2, sem_eq_zero_of_no_sems (by decide) r.2⟩)
    (Cert.Reference4Ideal.Value.run m g)

theorem referenceFrame5 : quiescent_Reference5Ideal := by
  intro m g _
  refine (θ_run _ _ _).mono (fun r h => ⟨fun c => (h c).2.2, sem_eq_zero_of_no_sems (by decide) r.2⟩)
    (Cert.Reference5Ideal.Value.run m g)

theorem referenceFrame6 : quiescent_Reference6Ideal := by
  intro m g _
  refine (θ_run _ _ _).mono (fun r h => ⟨fun c => (h c).2, sem_eq_zero_of_no_sems (by decide) r.2⟩)
    (Cert.Reference6Ideal.Value.run m g)

theorem referenceFrame7 : quiescent_Reference7Ideal := by
  intro m g _
  refine (θ_run _ _ _).mono (fun r h => ⟨fun c => (h c).2.2, sem_eq_zero_of_no_sems (by decide) r.2⟩)
    (Cert.Reference7Ideal.Value.run m g)

theorem referenceFrame8 : quiescent_Reference8Ideal := by
  intro m g _
  refine (θ_run _ _ _).mono (fun r h => ⟨fun c => (h c).2, sem_eq_zero_of_no_sems (by decide) r.2⟩)
    (Cert.Reference8Ideal.Value.run m g)

theorem referenceFrame9 : quiescent_Reference9Ideal := by
  intro m g _
  refine (θ_run _ _ _).mono (fun r h => ⟨fun c => (h c).2.2, sem_eq_zero_of_no_sems (by decide) r.2⟩)
    (Cert.Reference9Ideal.Value.run m g)

theorem referenceFrame10 : quiescent_Reference10Ideal := by
  intro m g _
  refine (θ_run _ _ _).mono (fun r h => ⟨fun c => (h c).2, sem_eq_zero_of_no_sems (by decide) r.2⟩)
    (Cert.Reference10Ideal.Value.run m g)

theorem referenceFrame11 : quiescent_Reference11Ideal := by
  intro m g _
  refine (θ_run _ _ _).mono (fun r h => ⟨fun c => (h c).2.2, sem_eq_zero_of_no_sems (by decide) r.2⟩)
    (Cert.Reference11Ideal.Value.run m g)

theorem referenceFrame12 : quiescent_Reference12Ideal := by
  intro m g _
  refine (θ_run _ _ _).mono (fun r h => ⟨fun c => (h c).2, sem_eq_zero_of_no_sems (by decide) r.2⟩)
    (Cert.Reference12Ideal.Value.run m g)

theorem referenceFrame13 : quiescent_Reference13Ideal := by
  intro m g _
  refine (θ_run _ _ _).mono (fun r h => ⟨fun c => (h c).2.2, sem_eq_zero_of_no_sems (by decide) r.2⟩)
    (Cert.Reference13Ideal.Value.run m g)

theorem referenceFrame14 : quiescent_Reference14Ideal := by
  intro m g _
  refine (θ_run _ _ _).mono (fun r h => ⟨fun c => (h c).2, sem_eq_zero_of_no_sems (by decide) r.2⟩)
    (Cert.Reference14Ideal.Value.run m g)

theorem referenceFrame15 : quiescent_Reference15Ideal := by
  intro m g _
  refine (θ_run _ _ _).mono (fun r h => ⟨fun c => (h c).2, sem_eq_zero_of_no_sems (by decide) r.2⟩)
    (Cert.Reference15Ideal.Value.run m g)

theorem referenceFrame16 : quiescent_Reference16Ideal := by
  intro m g _
  refine (θ_run _ _ _).mono (fun r h => ⟨fun c => (h c).2, sem_eq_zero_of_no_sems (by decide) r.2⟩)
    (Cert.Reference16Ideal.Value.run m g)

theorem referenceFrame17 : quiescent_Reference17Ideal := by
  intro m g _
  refine (θ_run _ _ _).mono (fun r h => ⟨fun c => (h c).2, sem_eq_zero_of_no_sems (by decide) r.2⟩)
    (Cert.Reference17Ideal.Value.run m g)

theorem referenceFrame18 : quiescent_Reference18Ideal := by
  intro m g _
  refine (θ_run _ _ _).mono (fun r h => ⟨fun c => (h c).2, sem_eq_zero_of_no_sems (by decide) r.2⟩)
    (Cert.Reference18Ideal.Value.run m g)

theorem referenceFrame19 : quiescent_Reference19Ideal := by
  intro m g _
  refine (θ_run _ _ _).mono (fun r h => ⟨fun c => (h c).2, sem_eq_zero_of_no_sems (by decide) r.2⟩)
    (Cert.Reference19Ideal.Value.run m g)

theorem referenceFrame20 : quiescent_Reference20Ideal := by
  intro m g _
  refine (θ_run _ _ _).mono (fun r h => ⟨fun c => (h c).2, sem_eq_zero_of_no_sems (by decide) r.2⟩)
    (Cert.Reference20Ideal.Value.run m g)

theorem referenceFrame21 : quiescent_Reference21Ideal := by
  intro m g _
  refine (θ_run _ _ _).mono (fun r h => ⟨fun c => (h c).2, sem_eq_zero_of_no_sems (by decide) r.2⟩)
    (Cert.Reference21Ideal.Value.run m g)

theorem referenceFrame22 : quiescent_Reference22Ideal := by
  intro m g _
  refine (θ_run _ _ _).mono (fun r h => ⟨fun c => (h c).2, sem_eq_zero_of_no_sems (by decide) r.2⟩)
    (Cert.Reference22Ideal.Value.run m g)

theorem referenceFrame23 : quiescent_Reference23Ideal := by
  intro m g _
  refine (θ_run _ _ _).mono (fun r h => ⟨fun c => (h c).2, sem_eq_zero_of_no_sems (by decide) r.2⟩)
    (Cert.Reference23Ideal.Value.run m g)

theorem referenceFrame24 : quiescent_Reference24Ideal := by
  intro m g _
  refine (θ_run _ _ _).mono (fun r h => ⟨fun c => (h c).2, sem_eq_zero_of_no_sems (by decide) r.2⟩)
    (Cert.Reference24Ideal.Value.run m g)

theorem referenceFrame25 : quiescent_Reference25Ideal := by
  intro m g _
  refine (θ_run _ _ _).mono (fun r h => ⟨fun c => (h c).2.2.2, sem_eq_zero_of_no_sems (by decide) r.2⟩)
    (Cert.Reference25Ideal.Value.run m g)

theorem referenceFrame26 : quiescent_Reference26Ideal := by
  intro m g _
  refine (θ_run _ _ _).mono (fun r h => ⟨fun c => (h c).2.2.2, sem_eq_zero_of_no_sems (by decide) r.2⟩)
    (Cert.Reference26Ideal.Value.run m g)

theorem referenceFrame27 : quiescent_Reference27Ideal := by
  intro m g _
  refine (θ_run _ _ _).mono (fun r h => ⟨fun c => (h c).2.2, sem_eq_zero_of_no_sems (by decide) r.2⟩)
    (Cert.Reference27Ideal.Value.run m g)

theorem referenceFrame28 : quiescent_Reference28Ideal := by
  intro m g _
  refine (θ_run _ _ _).mono (fun r h => ⟨fun c => (h c).2.2.2, sem_eq_zero_of_no_sems (by decide) r.2⟩)
    (Cert.Reference28Ideal.Value.run m g)

theorem referenceFrame29 : quiescent_Reference29Ideal := by
  intro m g _
  refine (θ_run _ _ _).mono (fun r h => ⟨fun c => (h c).2.2.2.2, sem_eq_zero_of_no_sems (by decide) r.2⟩)
    (Cert.Reference29Ideal.Value.run m g)

theorem referenceFrame30 : quiescent_Reference30Ideal := by
  intro m g _
  refine (θ_run _ _ _).mono (fun r h => ⟨fun c => (h c).2.2, sem_eq_zero_of_no_sems (by decide) r.2⟩)
    (Cert.Reference30Ideal.Value.run m g)

theorem referenceFrame31 : quiescent_Reference31Ideal := by
  intro m g _
  refine (θ_run _ _ _).mono (fun r h => ⟨fun c => (h c).2.2.2, sem_eq_zero_of_no_sems (by decide) r.2⟩)
    (Cert.Reference31Ideal.Value.run m g)

theorem referenceFrame32 : quiescent_Reference32Ideal := by
  intro m g _
  refine (θ_run _ _ _).mono (fun r h => ⟨fun c => (h c).2.2, sem_eq_zero_of_no_sems (by decide) r.2⟩)
    (Cert.Reference32Ideal.Value.run m g)

/-! ## Kernel and reference leave the same arrays -/

/-- The gradients of the spatial gate: four arrays. -/
theorem gate : algebraic_KernelIdeal_ReferenceIdeal := by
  pair_intro
  · run_from Cert.KernelIdeal.Value.run_blocks m g
  · run_from Cert.ReferenceIdeal.Value.run m' g'
    exacts [(Cert.KernelIdeal.Value.final_du m c).symm, (Cert.KernelIdeal.Value.final_dv m c).symm,
      (Cert.KernelIdeal.Value.final_dw m c).symm, (Cert.KernelIdeal.Value.final_db m c).symm]

/-- The feed-forward block: its result, and the gradient of its input. -/
theorem ffn : algebraic_Kernel2Ideal_Reference2Ideal_pre_finite := by
  pair_intro
  · run_from Cert.Kernel2Ideal.Value.run_blocks m g
  · run_from Cert.Reference2Ideal.Value.run m' g'
    exacts [(Cert.Kernel2Ideal.Value.final_o m g c).symm,
      have h := Cert.Pre_finite.finite_args (hpre c);
        (Cert.Kernel2Ideal.Value.final_dh m g c h.1 h.2.1 h.2.2.1 h.2.2.2.1 h.2.2.2.2).symm]

/-- The gradient of the feed-forward block's second weights. -/
theorem ffnDown : algebraic_Kernel3Ideal_Reference3Ideal := by
  intro m g m' g' _ hagree
  refine ⟨fun c => Cert.Kernel3Ideal.Value.prodR (m (c.tc.loc Cert.Kernel3Ideal.main_arg0)) (m (c.tc.loc Cert.Kernel3Ideal.main_arg1)),
    (θ_run _ _ _).mono (fun r h c => ⟨(h c).1.trans (Cert.Kernel3Ideal.Value.final_prod m c), (h c).2⟩) (Cert.Kernel3Ideal.Value.run_blocks m g),
    (θ_run _ _ _).mono (fun r h c => ⟨(h c).1.trans ?_, (h c).2⟩) (Cert.Reference3Ideal.Value.run m' g')⟩
  rw [(hagree c).1, (hagree c).2]
  rfl

/-- The gradient of its first weights. -/
theorem ffnUp : algebraic_Kernel4Ideal_Reference4Ideal := by
  intro m g m' g' _ hagree
  refine ⟨fun c => Cert.Kernel4Ideal.Value.prodR (m (c.tc.loc Cert.Kernel4Ideal.main_arg0)) (m (c.tc.loc Cert.Kernel4Ideal.main_arg1)),
    (θ_run _ _ _).mono (fun r h c => ⟨(h c).1.trans (Cert.Kernel4Ideal.Value.final_prod m c), (h c).2⟩) (Cert.Kernel4Ideal.Value.run_blocks m g),
    (θ_run _ _ _).mono (fun r h c => ⟨(h c).1.trans ?_, (h c).2⟩) (Cert.Reference4Ideal.Value.run m' g')⟩
  rw [(hagree c).1, (hagree c).2]
  rfl

/-- The first product of the scan mixer, and the gradient of its input. -/
theorem s5In : algebraic_Kernel5Ideal_Reference5Ideal := by
  pair_intro
  · run_from Cert.Kernel5Ideal.Value.run_blocks m g
  · run_from Cert.Reference5Ideal.Value.run m' g'
    exacts [(Cert.Kernel5Ideal.Value.final_y m g c).symm, (Cert.Kernel5Ideal.Value.final_dx m g c).symm]

/-- The gradient of its weights. -/
theorem s5InDw : algebraic_Kernel6Ideal_Reference6Ideal := by
  intro m g m' g' _ hagree
  refine ⟨fun c => Cert.Reference6Ideal.Value.prodR (m (c.tc.loc Cert.Kernel6Ideal.main_arg0)) (m (c.tc.loc Cert.Kernel6Ideal.main_arg1)),
    (θ_run _ _ _).mono (fun r h c => ⟨(h c).1.trans (Cert.Kernel6Ideal.Value.final_prod m c), (h c).2⟩) (Cert.Kernel6Ideal.Value.run_blocks m g),
    (θ_run _ _ _).mono (fun r h c => ⟨(h c).1.trans ?_, (h c).2⟩) (Cert.Reference6Ideal.Value.run m' g')⟩
  rw [(hagree c).1, (hagree c).2]
  rfl

/-- The scan mixer's gate: its product, and the gradient of its input. -/
theorem s5Glu : algebraic_Kernel7Ideal_Reference7Ideal := by
  pair_intro
  · run_from Cert.Kernel7Ideal.Value.run_blocks m g
  · run_from Cert.Reference7Ideal.Value.run m' g'
    exacts [(Cert.Kernel7Ideal.Value.final_y m g c).symm, (Cert.Kernel7Ideal.Value.final_dx m g c).symm]

/-- The gradient of its weights. -/
theorem s5GluDw : algebraic_Kernel8Ideal_Reference8Ideal := by
  intro m g m' g' _ hagree
  refine ⟨fun c => Cert.Reference8Ideal.Value.prodR (m (c.tc.loc Cert.Kernel8Ideal.main_arg0)) (m (c.tc.loc Cert.Kernel8Ideal.main_arg1)),
    (θ_run _ _ _).mono (fun r h c => ⟨(h c).1.trans (Cert.Kernel8Ideal.Value.final_prod m c), (h c).2⟩) (Cert.Kernel8Ideal.Value.run_blocks m g),
    (θ_run _ _ _).mono (fun r h c => ⟨(h c).1.trans ?_, (h c).2⟩) (Cert.Reference8Ideal.Value.run m' g')⟩
  rw [(hagree c).1, (hagree c).2]
  rfl

/-- The first product of the convolution mixer, and the gradient of its input. -/
theorem cvIn : algebraic_Kernel9Ideal_Reference9Ideal := by
  pair_intro
  · run_from Cert.Kernel9Ideal.Value.run_blocks m g
  · run_from Cert.Reference9Ideal.Value.run m' g'
    exacts [(Cert.Kernel9Ideal.Value.final_y m g c).symm, (Cert.Kernel9Ideal.Value.final_dx m g c).symm]

/-- The gradient of its weights. -/
theorem cvInDw : algebraic_Kernel10Ideal_Reference10Ideal := by
  intro m g m' g' _ hagree
  refine ⟨fun c => Cert.Reference10Ideal.Value.prodR (m (c.tc.loc Cert.Kernel10Ideal.main_arg0)) (m (c.tc.loc Cert.Kernel10Ideal.main_arg1)),
    (θ_run _ _ _).mono (fun r h c => ⟨(h c).1.trans (Cert.Kernel10Ideal.Value.final_prod m c), (h c).2⟩) (Cert.Kernel10Ideal.Value.run_blocks m g),
    (θ_run _ _ _).mono (fun r h c => ⟨(h c).1.trans ?_, (h c).2⟩) (Cert.Reference10Ideal.Value.run m' g')⟩
  rw [(hagree c).1, (hagree c).2]
  rfl

/-- The first product of the gated mixer, and the gradient of its input. -/
theorem gmIn : algebraic_Kernel11Ideal_Reference11Ideal := by
  pair_intro
  · run_from Cert.Kernel11Ideal.Value.run_blocks m g
  · run_from Cert.Reference11Ideal.Value.run m' g'
    exacts [(Cert.Kernel11Ideal.Value.final_y m g c).symm, (Cert.Kernel11Ideal.Value.final_dx m g c).symm]

/-- The gradient of its weights. -/
theorem gmInDw : algebraic_Kernel12Ideal_Reference12Ideal := by
  intro m g m' g' _ hagree
  refine ⟨fun c => Cert.Reference12Ideal.Value.prodR (m (c.tc.loc Cert.Kernel12Ideal.main_arg0)) (m (c.tc.loc Cert.Kernel12Ideal.main_arg1)),
    (θ_run _ _ _).mono (fun r h c => ⟨(h c).1.trans (Cert.Kernel12Ideal.Value.final_prod m c), (h c).2⟩) (Cert.Kernel12Ideal.Value.run_blocks m g),
    (θ_run _ _ _).mono (fun r h c => ⟨(h c).1.trans ?_, (h c).2⟩) (Cert.Reference12Ideal.Value.run m' g')⟩
  rw [(hagree c).1, (hagree c).2]
  rfl

/-- The last product of the gated mixer, and the gradient of its input. -/
theorem gmOut : algebraic_Kernel13Ideal_Reference13Ideal := by
  pair_intro
  · run_from Cert.Kernel13Ideal.Value.run_blocks m g
  · run_from Cert.Reference13Ideal.Value.run m' g'
    exacts [(Cert.Kernel13Ideal.Value.final_y m g c).symm, (Cert.Kernel13Ideal.Value.final_dx m g c).symm]

/-- The gradient of its weights. -/
theorem gmOutDw : algebraic_Kernel14Ideal_Reference14Ideal := by
  intro m g m' g' _ hagree
  refine ⟨fun c => Cert.Reference14Ideal.Value.prodR (m (c.tc.loc Cert.Kernel14Ideal.main_arg0)) (m (c.tc.loc Cert.Kernel14Ideal.main_arg1)),
    (θ_run _ _ _).mono (fun r h c => ⟨(h c).1.trans (Cert.Kernel14Ideal.Value.final_prod m c), (h c).2⟩) (Cert.Kernel14Ideal.Value.run_blocks m g),
    (θ_run _ _ _).mono (fun r h c => ⟨(h c).1.trans ?_, (h c).2⟩) (Cert.Reference14Ideal.Value.run m' g')⟩
  rw [(hagree c).1, (hagree c).2]
  rfl

/-- The attention's three products of its input, side by side. -/
theorem atQkv : algebraic_Kernel15Ideal_Reference15Ideal := by
  intro m g m' g' _ hagree
  refine ⟨fun c => Cert.Reference15Ideal.Value.prodR (m (c.tc.loc Cert.Kernel15Ideal.main_arg0)) (m (c.tc.loc Cert.Kernel15Ideal.main_arg1)),
    (θ_run _ _ _).mono (fun r h c => ⟨(h c).1.trans (Cert.Kernel15Ideal.Value.final_prod m c), (h c).2⟩) (Cert.Kernel15Ideal.Value.run_blocks m g),
    (θ_run _ _ _).mono (fun r h c => ⟨(h c).1.trans ?_, (h c).2⟩) (Cert.Reference15Ideal.Value.run m' g')⟩
  rw [(hagree c).1, (hagree c).2]
  rfl

/-- The gradient of that input. -/
theorem atQkvDx : algebraic_Kernel16Ideal_Reference16Ideal := by
  intro m g m' g' _ hagree
  refine ⟨fun c => Cert.Reference16Ideal.Value.dxR (m (c.tc.loc Cert.Kernel16Ideal.main_arg0)) (m (c.tc.loc Cert.Kernel16Ideal.main_arg1)) (m (c.tc.loc Cert.Kernel16Ideal.main_arg2)) (m (c.tc.loc Cert.Kernel16Ideal.main_arg3)),
    (θ_run _ _ _).mono (fun r h c => ⟨(h c).1.trans (Cert.Kernel16Ideal.Value.final_prod m c), (h c).2⟩) (Cert.Kernel16Ideal.Value.run_blocks m g),
    (θ_run _ _ _).mono (fun r h c => ⟨(h c).1.trans ?_, (h c).2⟩) (Cert.Reference16Ideal.Value.run m' g')⟩
  rw [(hagree c).1, (hagree c).2.1, (hagree c).2.2.1, (hagree c).2.2.2]
  rfl

/-- The gradient of the weights of one of the three. -/
theorem atQkvDw : algebraic_Kernel17Ideal_Reference17Ideal := by
  intro m g m' g' _ hagree
  refine ⟨fun c => Cert.Reference17Ideal.Value.prodR (m (c.tc.loc Cert.Kernel17Ideal.main_arg0)) (m (c.tc.loc Cert.Kernel17Ideal.main_arg1)),
    (θ_run _ _ _).mono (fun r h c => ⟨(h c).1.trans (Cert.Kernel17Ideal.Value.final_prod m c), (h c).2⟩) (Cert.Kernel17Ideal.Value.run_blocks m g),
    (θ_run _ _ _).mono (fun r h c => ⟨(h c).1.trans ?_, (h c).2⟩) (Cert.Reference17Ideal.Value.run m' g')⟩
  rw [(hagree c).1, (hagree c).2]
  rfl

/-- The scan mixer's groups of 16 of its input times their weights. -/
theorem s5Bu : algebraic_Kernel18Ideal_Reference18Ideal := by
  intro m g m' g' _ hagree
  refine ⟨fun c => Cert.Reference18Ideal.Value.prodR (m (c.tc.loc Cert.Kernel18Ideal.main_arg0)) (m (c.tc.loc Cert.Kernel18Ideal.main_arg1)),
    (θ_run _ _ _).mono (fun r h c => ⟨(h c).1.trans (Cert.Kernel18Ideal.Value.final_prod m c), (h c).2⟩) (Cert.Kernel18Ideal.Value.run_blocks m g),
    (θ_run _ _ _).mono (fun r h c => ⟨(h c).1.trans ?_, (h c).2⟩) (Cert.Reference18Ideal.Value.run m' g')⟩
  rw [(hagree c).1, (hagree c).2]
  rfl

/-- The scan's states times the groups' output weights: the real part less the imaginary one. -/
theorem s5Out : algebraic_Kernel19Ideal_Reference19Ideal_pre_finite19 := by
  intro m g m' g' hpre hagree
  refine ⟨fun c => Cert.Reference19Ideal.Value.prodR (m (c.tc.loc Cert.Kernel19Ideal.main_arg0)) (m (c.tc.loc Cert.Kernel19Ideal.main_arg1)) (m (c.tc.loc Cert.Kernel19Ideal.main_arg2)) (m (c.tc.loc Cert.Kernel19Ideal.main_arg3)),
    (θ_run _ _ _).mono (fun r h c => ⟨(h c).1.trans (Cert.Kernel19Ideal.Value.final_prod m c (Cert.Pre_finite19.finite_args (hpre c)).1 (Cert.Pre_finite19.finite_args (hpre c)).2), (h c).2⟩) (Cert.Kernel19Ideal.Value.run_blocks m g),
    (θ_run _ _ _).mono (fun r h c => ⟨(h c).1.trans ?_, (h c).2⟩) (Cert.Reference19Ideal.Value.run m' g')⟩
  rw [(hagree c).1, (hagree c).2.1, (hagree c).2.2.1, (hagree c).2.2.2]
  rfl

/-- The gradient of a state. -/
theorem s5OutDx : algebraic_Kernel20Ideal_Reference20Ideal := by
  intro m g m' g' _ hagree
  refine ⟨fun c => Cert.Reference20Ideal.Value.prodR (m (c.tc.loc Cert.Kernel20Ideal.main_arg0)) (m (c.tc.loc Cert.Kernel20Ideal.main_arg1)),
    (θ_run _ _ _).mono (fun r h c => ⟨(h c).1.trans (Cert.Kernel20Ideal.Value.final_prod m c), (h c).2⟩) (Cert.Kernel20Ideal.Value.run_blocks m g),
    (θ_run _ _ _).mono (fun r h c => ⟨(h c).1.trans ?_, (h c).2⟩) (Cert.Reference20Ideal.Value.run m' g')⟩
  rw [(hagree c).1, (hagree c).2]
  rfl

/-- The gradient of the groups' output weights. -/
theorem s5OutDw : algebraic_Kernel21Ideal_Reference21Ideal := by
  intro m g m' g' _ hagree
  refine ⟨fun c => Cert.Reference21Ideal.Value.prodR (m (c.tc.loc Cert.Kernel21Ideal.main_arg0)) (m (c.tc.loc Cert.Kernel21Ideal.main_arg1)),
    (Cert.Kernel21Ideal.Value.run m g),
    (θ_run _ _ _).mono (fun r h c => ⟨(h c).1.trans ?_, (h c).2⟩) (Cert.Reference21Ideal.Value.run m' g')⟩
  rw [(hagree c).1, (hagree c).2]
  rfl

/-- The gradient of the scan mixer's input, from both parts of the scan. -/
theorem s5BuDx : algebraic_Kernel22Ideal_Reference22Ideal := by
  intro m g m' g' _ hagree
  refine ⟨fun c => Cert.Reference22Ideal.Value.prodR (m (c.tc.loc Cert.Kernel22Ideal.main_arg0)) (m (c.tc.loc Cert.Kernel22Ideal.main_arg1)) (m (c.tc.loc Cert.Kernel22Ideal.main_arg2)) (m (c.tc.loc Cert.Kernel22Ideal.main_arg3)) (m (c.tc.loc Cert.Kernel22Ideal.main_arg4)),
    (θ_run _ _ _).mono (fun r h c => ⟨(h c).1.trans (Cert.Kernel22Ideal.Value.final_prod m c), (h c).2⟩) (Cert.Kernel22Ideal.Value.run_blocks m g),
    (θ_run _ _ _).mono (fun r h c => ⟨(h c).1.trans ?_, (h c).2⟩) (Cert.Reference22Ideal.Value.run m' g')⟩
  rw [(hagree c).1, (hagree c).2.1, (hagree c).2.2.1, (hagree c).2.2.2.1, (hagree c).2.2.2.2]
  rfl

/-- The gradient of the groups' input weights. -/
theorem s5BuDw : algebraic_Kernel23Ideal_Reference23Ideal := by
  intro m g m' g' _ hagree
  refine ⟨fun c => Cert.Reference23Ideal.Value.prodR (m (c.tc.loc Cert.Kernel23Ideal.main_arg0)) (m (c.tc.loc Cert.Kernel23Ideal.main_arg1)),
    (Cert.Kernel23Ideal.Value.run m g),
    (θ_run _ _ _).mono (fun r h c => ⟨(h c).1.trans ?_, (h c).2⟩) (Cert.Reference23Ideal.Value.run m' g')⟩
  rw [(hagree c).1, (hagree c).2]
  rfl

/-- The spatial gate's own result. -/
theorem gateForward : algebraic_Kernel24Ideal_Reference24Ideal := by
  intro m g m' g' _ hagree
  refine ⟨fun c => Cert.Reference24Ideal.Value.prodR (m (c.tc.loc Cert.Kernel24Ideal.main_arg0)) (m (c.tc.loc Cert.Kernel24Ideal.main_arg1)) (m (c.tc.loc Cert.Kernel24Ideal.main_arg2)) (m (c.tc.loc Cert.Kernel24Ideal.main_arg3)),
    (θ_run _ _ _).mono (fun r h c => ⟨(h c).1.trans (Cert.Kernel24Ideal.Value.final_prod m c), (h c).2⟩) (Cert.Kernel24Ideal.Value.run_blocks m g),
    (θ_run _ _ _).mono (fun r h c => ⟨(h c).1.trans ?_, (h c).2⟩) (Cert.Reference24Ideal.Value.run m' g')⟩
  rw [(hagree c).1, (hagree c).2.1, (hagree c).2.2.1, (hagree c).2.2.2]
  rfl

set_option maxRecDepth 65536 in
/-- The scan mixer's gate, backwards: the gradients of its input, of the gate and of the gate's bias. -/
theorem s5GateBwd : algebraic_Kernel25Ideal_Reference25Ideal := by
  intro m g m' g' _ hagree
  refine ⟨fun c => Cert.Reference25Ideal.Value.rowR0 (m (c.tc.loc Cert.Kernel25Ideal.main_arg0)) (m (c.tc.loc Cert.Kernel25Ideal.main_arg1)) (m (c.tc.loc Cert.Kernel25Ideal.main_arg2)) (m (c.tc.loc Cert.Kernel25Ideal.main_arg3)),
    fun c => Cert.Reference25Ideal.Value.rowR1 (m (c.tc.loc Cert.Kernel25Ideal.main_arg0)) (m (c.tc.loc Cert.Kernel25Ideal.main_arg1)) (m (c.tc.loc Cert.Kernel25Ideal.main_arg2)) (m (c.tc.loc Cert.Kernel25Ideal.main_arg3)),
    fun c => Cert.Reference25Ideal.Value.sumR2 (m (c.tc.loc Cert.Kernel25Ideal.main_arg0)) (m (c.tc.loc Cert.Kernel25Ideal.main_arg1)) (m (c.tc.loc Cert.Kernel25Ideal.main_arg2)) (m (c.tc.loc Cert.Kernel25Ideal.main_arg3)),
    (θ_run _ _ _).mono (fun r h c => ⟨(h c).1.trans (Cert.Kernel25Ideal.Value.final4 m c), (h c).2.1.trans (Cert.Kernel25Ideal.Value.final5 m c), (h c).2.2.1.trans (Cert.Kernel25Ideal.Value.final6 m c), (h c).2.2.2⟩)
      (Cert.Kernel25Ideal.Value.run_blocks m g),
    (θ_run _ _ _).mono (fun r h c => ⟨(h c).1.trans ?_, (h c).2.1.trans ?_, (h c).2.2.1.trans ?_, (h c).2.2.2⟩)
      (Cert.Reference25Ideal.Value.run m' g')⟩
  · beta_reduce
    rw [← (hagree c).1, ← (hagree c).2.1, ← (hagree c).2.2.1, ← (hagree c).2.2.2]
    rfl
  · beta_reduce
    rw [← (hagree c).1, ← (hagree c).2.1, ← (hagree c).2.2.1, ← (hagree c).2.2.2]
    rfl
  · beta_reduce
    rw [← (hagree c).1, ← (hagree c).2.1, ← (hagree c).2.2.1, ← (hagree c).2.2.2]
    rfl

set_option maxRecDepth 65536 in
/-- The scan mixer's activation, backwards: the gradients of the scan's output, of the input and of the skip weights. -/
theorem s5ActBwd : algebraic_Kernel26Ideal_Reference26Ideal := by
  intro m g m' g' _ hagree
  refine ⟨fun c => Cert.Reference26Ideal.Value.rowR0 (m (c.tc.loc Cert.Kernel26Ideal.main_arg0)) (m (c.tc.loc Cert.Kernel26Ideal.main_arg1)) (m (c.tc.loc Cert.Kernel26Ideal.main_arg2)) (m (c.tc.loc Cert.Kernel26Ideal.main_arg3)) (m (c.tc.loc Cert.Kernel26Ideal.main_arg4)),
    fun c => Cert.Reference26Ideal.Value.rowR1 (m (c.tc.loc Cert.Kernel26Ideal.main_arg0)) (m (c.tc.loc Cert.Kernel26Ideal.main_arg1)) (m (c.tc.loc Cert.Kernel26Ideal.main_arg2)) (m (c.tc.loc Cert.Kernel26Ideal.main_arg3)) (m (c.tc.loc Cert.Kernel26Ideal.main_arg4)),
    fun c => Cert.Reference26Ideal.Value.sumR2 (m (c.tc.loc Cert.Kernel26Ideal.main_arg0)) (m (c.tc.loc Cert.Kernel26Ideal.main_arg1)) (m (c.tc.loc Cert.Kernel26Ideal.main_arg2)) (m (c.tc.loc Cert.Kernel26Ideal.main_arg3)) (m (c.tc.loc Cert.Kernel26Ideal.main_arg4)),
    (θ_run _ _ _).mono (fun r h c => ⟨(h c).1.trans (Cert.Kernel26Ideal.Value.final5 m c), (h c).2.1.trans (Cert.Kernel26Ideal.Value.final6 m c), (h c).2.2.1.trans (Cert.Kernel26Ideal.Value.final7 m c), (h c).2.2.2⟩)
      (Cert.Kernel26Ideal.Value.run_blocks m g),
    (θ_run _ _ _).mono (fun r h c => ⟨(h c).1.trans ?_, (h c).2.1.trans ?_, (h c).2.2.1.trans ?_, (h c).2.2.2⟩)
      (Cert.Reference26Ideal.Value.run m' g')⟩
  · beta_reduce
    rw [← (hagree c).1, ← (hagree c).2.1, ← (hagree c).2.2.1, ← (hagree c).2.2.2.1, ← (hagree c).2.2.2.2]
    rfl
  · beta_reduce
    rw [← (hagree c).1, ← (hagree c).2.1, ← (hagree c).2.2.1, ← (hagree c).2.2.2.1, ← (hagree c).2.2.2.2]
    rfl
  · beta_reduce
    rw [← (hagree c).1, ← (hagree c).2.1, ← (hagree c).2.2.1, ← (hagree c).2.2.2.1, ← (hagree c).2.2.2.2]
    rfl

set_option maxRecDepth 65536 in
/-- The convolution mixer's gate, backwards: the gradients of its input and of the bias. -/
theorem cvGateBwd : algebraic_Kernel27Ideal_Reference27Ideal := by
  intro m g m' g' _ hagree
  refine ⟨fun c => Cert.Reference27Ideal.Value.rowR0 (m (c.tc.loc Cert.Kernel27Ideal.main_arg0)) (m (c.tc.loc Cert.Kernel27Ideal.main_arg1)) (m (c.tc.loc Cert.Kernel27Ideal.main_arg2)),
    fun c => Cert.Reference27Ideal.Value.sumR1 (m (c.tc.loc Cert.Kernel27Ideal.main_arg0)) (m (c.tc.loc Cert.Kernel27Ideal.main_arg1)) (m (c.tc.loc Cert.Kernel27Ideal.main_arg2)),
    (θ_run _ _ _).mono (fun r h c => ⟨(h c).1.trans (Cert.Kernel27Ideal.Value.final3 m c), (h c).2.1.trans (Cert.Kernel27Ideal.Value.final4 m c), (h c).2.2⟩)
      (Cert.Kernel27Ideal.Value.run_blocks m g),
    (θ_run _ _ _).mono (fun r h c => ⟨(h c).1.trans ?_, (h c).2.1.trans ?_, (h c).2.2⟩)
      (Cert.Reference27Ideal.Value.run m' g')⟩
  · beta_reduce
    rw [← (hagree c).1, ← (hagree c).2.1, ← (hagree c).2.2]
    rfl
  · beta_reduce
    rw [← (hagree c).1, ← (hagree c).2.1, ← (hagree c).2.2]
    rfl

set_option maxRecDepth 65536 in
/-- The convolution mixer's normalisation and activation, backwards: the gradients of its input, gain and bias. -/
theorem cvNormBwd : algebraic_Kernel28Ideal_Reference28Ideal := by
  intro m g m' g' _ hagree
  refine ⟨fun c => Cert.Reference28Ideal.Value.rowR0 (m (c.tc.loc Cert.Kernel28Ideal.main_arg0)) (m (c.tc.loc Cert.Kernel28Ideal.main_arg1)) (m (c.tc.loc Cert.Kernel28Ideal.main_arg2)) (m (c.tc.loc Cert.Kernel28Ideal.main_arg3)),
    fun c => Cert.Reference28Ideal.Value.sumR1 (m (c.tc.loc Cert.Kernel28Ideal.main_arg0)) (m (c.tc.loc Cert.Kernel28Ideal.main_arg1)) (m (c.tc.loc Cert.Kernel28Ideal.main_arg2)) (m (c.tc.loc Cert.Kernel28Ideal.main_arg3)),
    fun c => Cert.Reference28Ideal.Value.sumR2 (m (c.tc.loc Cert.Kernel28Ideal.main_arg0)) (m (c.tc.loc Cert.Kernel28Ideal.main_arg1)) (m (c.tc.loc Cert.Kernel28Ideal.main_arg2)) (m (c.tc.loc Cert.Kernel28Ideal.main_arg3)),
    (θ_run _ _ _).mono (fun r h c => ⟨(h c).1.trans (Cert.Kernel28Ideal.Value.final4 m c), (h c).2.1.trans (Cert.Kernel28Ideal.Value.final5 m c), (h c).2.2.1.trans (Cert.Kernel28Ideal.Value.final6 m c), (h c).2.2.2⟩)
      (Cert.Kernel28Ideal.Value.run_blocks m g),
    (θ_run _ _ _).mono (fun r h c => ⟨(h c).1.trans ?_, (h c).2.1.trans ?_, (h c).2.2.1.trans ?_, (h c).2.2.2⟩)
      (Cert.Reference28Ideal.Value.run m' g')⟩
  · beta_reduce
    rw [← (hagree c).1, ← (hagree c).2.1, ← (hagree c).2.2.1, ← (hagree c).2.2.2]
    rfl
  · beta_reduce
    rw [← (hagree c).1, ← (hagree c).2.1, ← (hagree c).2.2.1, ← (hagree c).2.2.2]
    rfl
  · beta_reduce
    rw [← (hagree c).1, ← (hagree c).2.1, ← (hagree c).2.2.1, ← (hagree c).2.2.2]
    rfl

set_option maxRecDepth 65536 in
/-- The gated mixer's activation and normalisation, backwards: the gradients of its input, bias, gain and offset. -/
theorem gmActBwd : algebraic_Kernel29Ideal_Reference29Ideal := by
  intro m g m' g' _ hagree
  refine ⟨fun c => Cert.Reference29Ideal.Value.rowR0 (m (c.tc.loc Cert.Kernel29Ideal.main_arg0)) (m (c.tc.loc Cert.Kernel29Ideal.main_arg1)) (m (c.tc.loc Cert.Kernel29Ideal.main_arg2)) (m (c.tc.loc Cert.Kernel29Ideal.main_arg3)) (m (c.tc.loc Cert.Kernel29Ideal.main_arg4)) (m (c.tc.loc Cert.Kernel29Ideal.main_arg5)),
    fun c => Cert.Reference29Ideal.Value.sumR1 (m (c.tc.loc Cert.Kernel29Ideal.main_arg0)) (m (c.tc.loc Cert.Kernel29Ideal.main_arg1)) (m (c.tc.loc Cert.Kernel29Ideal.main_arg2)) (m (c.tc.loc Cert.Kernel29Ideal.main_arg3)) (m (c.tc.loc Cert.Kernel29Ideal.main_arg4)) (m (c.tc.loc Cert.Kernel29Ideal.main_arg5)),
    fun c => Cert.Reference29Ideal.Value.sumR2 (m (c.tc.loc Cert.Kernel29Ideal.main_arg0)) (m (c.tc.loc Cert.Kernel29Ideal.main_arg1)) (m (c.tc.loc Cert.Kernel29Ideal.main_arg2)) (m (c.tc.loc Cert.Kernel29Ideal.main_arg3)) (m (c.tc.loc Cert.Kernel29Ideal.main_arg4)) (m (c.tc.loc Cert.Kernel29Ideal.main_arg5)),
    fun c => Cert.Reference29Ideal.Value.sumR3 (m (c.tc.loc Cert.Kernel29Ideal.main_arg0)) (m (c.tc.loc Cert.Kernel29Ideal.main_arg1)) (m (c.tc.loc Cert.Kernel29Ideal.main_arg2)) (m (c.tc.loc Cert.Kernel29Ideal.main_arg3)) (m (c.tc.loc Cert.Kernel29Ideal.main_arg4)) (m (c.tc.loc Cert.Kernel29Ideal.main_arg5)),
    (θ_run _ _ _).mono (fun r h c => ⟨(h c).1.trans (Cert.Kernel29Ideal.Value.final6 m c), (h c).2.1.trans (Cert.Kernel29Ideal.Value.final7 m c), (h c).2.2.1.trans (Cert.Kernel29Ideal.Value.final8 m c), (h c).2.2.2.1.trans (Cert.Kernel29Ideal.Value.final9 m c), (h c).2.2.2.2⟩)
      (Cert.Kernel29Ideal.Value.run_blocks m g),
    (θ_run _ _ _).mono (fun r h c => ⟨(h c).1.trans ?_, (h c).2.1.trans ?_, (h c).2.2.1.trans ?_, (h c).2.2.2.1.trans ?_, (h c).2.2.2.2⟩)
      (Cert.Reference29Ideal.Value.run m' g')⟩
  · beta_reduce
    rw [← (hagree c).1, ← (hagree c).2.1, ← (hagree c).2.2.1, ← (hagree c).2.2.2.1, ← (hagree c).2.2.2.2.1, ← (hagree c).2.2.2.2.2]
    rfl
  · beta_reduce
    rw [← (hagree c).1, ← (hagree c).2.1, ← (hagree c).2.2.1, ← (hagree c).2.2.2.1, ← (hagree c).2.2.2.2.1, ← (hagree c).2.2.2.2.2]
    rfl
  · beta_reduce
    rw [← (hagree c).1, ← (hagree c).2.1, ← (hagree c).2.2.1, ← (hagree c).2.2.2.1, ← (hagree c).2.2.2.2.1, ← (hagree c).2.2.2.2.2]
    rfl
  · beta_reduce
    rw [← (hagree c).1, ← (hagree c).2.1, ← (hagree c).2.2.1, ← (hagree c).2.2.2.1, ← (hagree c).2.2.2.2.1, ← (hagree c).2.2.2.2.2]
    rfl

set_option maxRecDepth 65536 in
/-- The normalisation after a feed-forward block, backwards: the gradients of its input and gain. -/
theorem ffnPostBwd : algebraic_Kernel30Ideal_Reference30Ideal := by
  intro m g m' g' _ hagree
  refine ⟨fun c => Cert.Reference30Ideal.Value.rowR0 (m (c.tc.loc Cert.Kernel30Ideal.main_arg0)) (m (c.tc.loc Cert.Kernel30Ideal.main_arg1)) (m (c.tc.loc Cert.Kernel30Ideal.main_arg2)),
    fun c => Cert.Reference30Ideal.Value.sumR1 (m (c.tc.loc Cert.Kernel30Ideal.main_arg0)) (m (c.tc.loc Cert.Kernel30Ideal.main_arg1)) (m (c.tc.loc Cert.Kernel30Ideal.main_arg2)),
    (θ_run _ _ _).mono (fun r h c => ⟨(h c).1.trans (Cert.Kernel30Ideal.Value.final3 m c), (h c).2.1.trans (Cert.Kernel30Ideal.Value.final4 m c), (h c).2.2⟩)
      (Cert.Kernel30Ideal.Value.run_blocks m g),
    (θ_run _ _ _).mono (fun r h c => ⟨(h c).1.trans ?_, (h c).2.1.trans ?_, (h c).2.2⟩)
      (Cert.Reference30Ideal.Value.run m' g')⟩
  · beta_reduce
    rw [← (hagree c).1, ← (hagree c).2.1, ← (hagree c).2.2]
    rfl
  · beta_reduce
    rw [← (hagree c).1, ← (hagree c).2.1, ← (hagree c).2.2]
    rfl

set_option maxRecDepth 65536 in
/-- The normalisation after a mixer, backwards: the gradients of its input, gain and bias. -/
theorem mixPostBwd : algebraic_Kernel31Ideal_Reference31Ideal := by
  intro m g m' g' _ hagree
  refine ⟨fun c => Cert.Reference31Ideal.Value.rowR0 (m (c.tc.loc Cert.Kernel31Ideal.main_arg0)) (m (c.tc.loc Cert.Kernel31Ideal.main_arg1)) (m (c.tc.loc Cert.Kernel31Ideal.main_arg2)) (m (c.tc.loc Cert.Kernel31Ideal.main_arg3)),
    fun c => Cert.Reference31Ideal.Value.sumR1 (m (c.tc.loc Cert.Kernel31Ideal.main_arg0)) (m (c.tc.loc Cert.Kernel31Ideal.main_arg1)) (m (c.tc.loc Cert.Kernel31Ideal.main_arg2)) (m (c.tc.loc Cert.Kernel31Ideal.main_arg3)),
    fun c => Cert.Reference31Ideal.Value.sumR2 (m (c.tc.loc Cert.Kernel31Ideal.main_arg0)) (m (c.tc.loc Cert.Kernel31Ideal.main_arg1)) (m (c.tc.loc Cert.Kernel31Ideal.main_arg2)) (m (c.tc.loc Cert.Kernel31Ideal.main_arg3)),
    (θ_run _ _ _).mono (fun r h c => ⟨(h c).1.trans (Cert.Kernel31Ideal.Value.final4 m c), (h c).2.1.trans (Cert.Kernel31Ideal.Value.final5 m c), (h c).2.2.1.trans (Cert.Kernel31Ideal.Value.final6 m c), (h c).2.2.2⟩)
      (Cert.Kernel31Ideal.Value.run_blocks m g),
    (θ_run _ _ _).mono (fun r h c => ⟨(h c).1.trans ?_, (h c).2.1.trans ?_, (h c).2.2.1.trans ?_, (h c).2.2.2⟩)
      (Cert.Reference31Ideal.Value.run m' g')⟩
  · beta_reduce
    rw [← (hagree c).1, ← (hagree c).2.1, ← (hagree c).2.2.1, ← (hagree c).2.2.2]
    rfl
  · beta_reduce
    rw [← (hagree c).1, ← (hagree c).2.1, ← (hagree c).2.2.1, ← (hagree c).2.2.2]
    rfl
  · beta_reduce
    rw [← (hagree c).1, ← (hagree c).2.1, ← (hagree c).2.2.1, ← (hagree c).2.2.2]
    rfl

set_option maxRecDepth 65536 in
/-- The normalisation before a block, backwards: the gradients of its input and gain. -/
theorem preNormBwd : algebraic_Kernel32Ideal_Reference32Ideal := by
  intro m g m' g' _ hagree
  refine ⟨fun c => Cert.Reference32Ideal.Value.rowR0 (m (c.tc.loc Cert.Kernel32Ideal.main_arg0)) (m (c.tc.loc Cert.Kernel32Ideal.main_arg1)) (m (c.tc.loc Cert.Kernel32Ideal.main_arg2)) (m (c.tc.loc Cert.Kernel32Ideal.main_arg3)),
    fun c => Cert.Reference32Ideal.Value.sumR1 (m (c.tc.loc Cert.Kernel32Ideal.main_arg0)) (m (c.tc.loc Cert.Kernel32Ideal.main_arg1)) (m (c.tc.loc Cert.Kernel32Ideal.main_arg2)) (m (c.tc.loc Cert.Kernel32Ideal.main_arg3)),
    (θ_run _ _ _).mono (fun r h c => ⟨(h c).1.trans (Cert.Kernel32Ideal.Value.final4 m c), (h c).2.1.trans (Cert.Kernel32Ideal.Value.final5 m c), (h c).2.2⟩)
      (Cert.Kernel32Ideal.Value.run_blocks m g),
    (θ_run _ _ _).mono (fun r h c => ⟨(h c).1.trans ?_, (h c).2.1.trans ?_, (h c).2.2⟩)
      (Cert.Reference32Ideal.Value.run m' g')⟩
  · beta_reduce
    rw [← (hagree c).1, ← (hagree c).2.1, ← (hagree c).2.2.1, ← (hagree c).2.2.2]
    rfl
  · beta_reduce
    rw [← (hagree c).1, ← (hagree c).2.1, ← (hagree c).2.2.1, ← (hagree c).2.2.2]
    rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Pre_finite.Gen.facts, Cert.Pre_finite19.Gen.facts,
    fun m ρ _ => Cert.Kernel.Gen.frame m ρ, fun m ρ _ => Cert.KernelIdeal.Gen.frame m ρ, referenceFrame,
    fun m ρ _ => Cert.Kernel2.Gen.frame m ρ, fun m ρ _ => Cert.Kernel2Ideal.Gen.frame m ρ, fun m ρ _ => Cert.Kernel2Ideal.Gen.frame m ρ,
    referenceFrame2, fun m ρ _ => referenceFrame2 m ρ trivial,
    fun m ρ _ => Cert.Kernel3.Gen.frame m ρ, fun m ρ _ => Cert.Kernel3Ideal.Gen.frame m ρ, referenceFrame3,
    fun m ρ _ => Cert.Kernel4.Gen.frame m ρ, fun m ρ _ => Cert.Kernel4Ideal.Gen.frame m ρ, referenceFrame4,
    fun m ρ _ => Cert.Kernel5.Gen.frame m ρ, fun m ρ _ => Cert.Kernel5Ideal.Gen.frame m ρ, referenceFrame5,
    fun m ρ _ => Cert.Kernel6.Gen.frame m ρ, fun m ρ _ => Cert.Kernel6Ideal.Gen.frame m ρ, referenceFrame6,
    fun m ρ _ => Cert.Kernel7.Gen.frame m ρ, fun m ρ _ => Cert.Kernel7Ideal.Gen.frame m ρ, referenceFrame7,
    fun m ρ _ => Cert.Kernel8.Gen.frame m ρ, fun m ρ _ => Cert.Kernel8Ideal.Gen.frame m ρ, referenceFrame8,
    fun m ρ _ => Cert.Kernel9.Gen.frame m ρ, fun m ρ _ => Cert.Kernel9Ideal.Gen.frame m ρ, referenceFrame9,
    fun m ρ _ => Cert.Kernel10.Gen.frame m ρ, fun m ρ _ => Cert.Kernel10Ideal.Gen.frame m ρ, referenceFrame10,
    fun m ρ _ => Cert.Kernel11.Gen.frame m ρ, fun m ρ _ => Cert.Kernel11Ideal.Gen.frame m ρ, referenceFrame11,
    fun m ρ _ => Cert.Kernel12.Gen.frame m ρ, fun m ρ _ => Cert.Kernel12Ideal.Gen.frame m ρ, referenceFrame12,
    fun m ρ _ => Cert.Kernel13.Gen.frame m ρ, fun m ρ _ => Cert.Kernel13Ideal.Gen.frame m ρ, referenceFrame13,
    fun m ρ _ => Cert.Kernel14.Gen.frame m ρ, fun m ρ _ => Cert.Kernel14Ideal.Gen.frame m ρ, referenceFrame14,
    fun m ρ _ => Cert.Kernel15.Gen.frame m ρ, fun m ρ _ => Cert.Kernel15Ideal.Gen.frame m ρ, referenceFrame15,
    fun m ρ _ => Cert.Kernel16.Gen.frame m ρ, fun m ρ _ => Cert.Kernel16Ideal.Gen.frame m ρ, referenceFrame16,
    fun m ρ _ => Cert.Kernel17.Gen.frame m ρ, fun m ρ _ => Cert.Kernel17Ideal.Gen.frame m ρ, referenceFrame17,
    fun m ρ _ => Cert.Kernel18.Gen.frame m ρ, fun m ρ _ => Cert.Kernel18Ideal.Gen.frame m ρ, referenceFrame18,
    fun m ρ _ => Cert.Kernel19.Gen.frame m ρ, fun m ρ _ => Cert.Kernel19Ideal.Gen.frame m ρ, fun m ρ _ => Cert.Kernel19Ideal.Gen.frame m ρ, referenceFrame19, fun m ρ _ => referenceFrame19 m ρ trivial,
    fun m ρ _ => Cert.Kernel20.Gen.frame m ρ, fun m ρ _ => Cert.Kernel20Ideal.Gen.frame m ρ, referenceFrame20,
    fun m ρ _ => Cert.Kernel21.Gen.frame m ρ, fun m ρ _ => Cert.Kernel21Ideal.Gen.frame m ρ, referenceFrame21,
    fun m ρ _ => Cert.Kernel22.Gen.frame m ρ, fun m ρ _ => Cert.Kernel22Ideal.Gen.frame m ρ, referenceFrame22,
    fun m ρ _ => Cert.Kernel23.Gen.frame m ρ, fun m ρ _ => Cert.Kernel23Ideal.Gen.frame m ρ, referenceFrame23,
    fun m ρ _ => Cert.Kernel24.Gen.frame m ρ, fun m ρ _ => Cert.Kernel24Ideal.Gen.frame m ρ, referenceFrame24,
    fun m ρ _ => Cert.Kernel25.Gen.frame m ρ, fun m ρ _ => Cert.Kernel25Ideal.Gen.frame m ρ, referenceFrame25,
    fun m ρ _ => Cert.Kernel26.Gen.frame m ρ, fun m ρ _ => Cert.Kernel26Ideal.Gen.frame m ρ, referenceFrame26,
    fun m ρ _ => Cert.Kernel27.Gen.frame m ρ, fun m ρ _ => Cert.Kernel27Ideal.Gen.frame m ρ, referenceFrame27,
    fun m ρ _ => Cert.Kernel28.Gen.frame m ρ, fun m ρ _ => Cert.Kernel28Ideal.Gen.frame m ρ, referenceFrame28,
    fun m ρ _ => Cert.Kernel29.Gen.frame m ρ, fun m ρ _ => Cert.Kernel29Ideal.Gen.frame m ρ, referenceFrame29,
    fun m ρ _ => Cert.Kernel30.Gen.frame m ρ, fun m ρ _ => Cert.Kernel30Ideal.Gen.frame m ρ, referenceFrame30,
    fun m ρ _ => Cert.Kernel31.Gen.frame m ρ, fun m ρ _ => Cert.Kernel31Ideal.Gen.frame m ρ, referenceFrame31,
    fun m ρ _ => Cert.Kernel32.Gen.frame m ρ, fun m ρ _ => Cert.Kernel32Ideal.Gen.frame m ρ, referenceFrame32,
    trivial, gate, trivial, ffn, trivial, ffnDown, trivial, ffnUp,
    trivial, s5In, trivial, s5InDw, trivial, s5Glu, trivial, s5GluDw, trivial, cvIn, trivial, cvInDw, trivial, gmIn, trivial, gmInDw, trivial, gmOut, trivial, gmOutDw, trivial, atQkv, trivial, atQkvDx, trivial, atQkvDw, trivial, s5Bu, trivial, s5Out, trivial, s5OutDx, trivial, s5OutDw, trivial, s5BuDx, trivial, s5BuDw, trivial, gateForward,
    trivial, s5GateBwd, trivial, s5ActBwd, trivial, cvGateBwd, trivial, cvNormBwd, trivial, gmActBwd, trivial, ffnPostBwd, trivial, mixPostBwd, trivial, preNormBwd⟩

end Cert.Proof

end
